-- ==== Defs.lean ====
def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionRefIdeal (m : (ℓ : Loc Cert.RetentionRefIdeal.nD Cert.RetentionRefIdeal.τ Cert.RetentionRefIdeal.sig) → Buf (Elt Ideal) ℓ) : Prop :=
  True

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_FinishSample (m : (ℓ : Loc Cert.FinishSample.nD Cert.FinishSample.τ Cert.FinishSample.sig) → Buf (Elt Bits) ℓ) : Prop :=
  True

def Pre_FinishSampleIdeal (m : (ℓ : Loc Cert.FinishSampleIdeal.nD Cert.FinishSampleIdeal.τ Cert.FinishSampleIdeal.sig) → Buf (Elt Ideal) ℓ) : Prop :=
  True

def Pre_FinishSampleRefIdeal (m : (ℓ : Loc Cert.FinishSampleRefIdeal.nD Cert.FinishSampleRefIdeal.τ Cert.FinishSampleRefIdeal.sig) → Buf (Elt Ideal) ℓ) : Prop :=
  True

def Pre_ProjSample (m : (ℓ : Loc Cert.ProjSample.nD Cert.ProjSample.τ Cert.ProjSample.sig) → Buf (Elt Bits) ℓ) : Prop :=
  True

def Pre_ProjSampleIdeal (m : (ℓ : Loc Cert.ProjSampleIdeal.nD Cert.ProjSampleIdeal.τ Cert.ProjSampleIdeal.sig) → Buf (Elt Ideal) ℓ) : Prop :=
  True

def Pre_ProjSampleRefIdeal (m : (ℓ : Loc Cert.ProjSampleRefIdeal.nD Cert.ProjSampleRefIdeal.τ Cert.ProjSampleRefIdeal.sig) → Buf (Elt Ideal) ℓ) : Prop :=
  True

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0)
      ∧ r.2.mem ((c.tc : Thread Cert.Retention.nD Cert.Retention.τ).loc Cert.Retention.main_arg1) = m ((c.tc : Thread Cert.Retention.nD Cert.Retention.τ).loc Cert.Retention.main_arg1)
      ∧ r.2.mem ((c.tc : Thread Cert.Retention.nD Cert.Retention.τ).loc Cert.Retention.main_arg2) = m ((c.tc : Thread Cert.Retention.nD Cert.Retention.τ).loc Cert.Retention.main_arg2)
      ∧ r.2.mem ((c.tc : Thread Cert.Retention.nD Cert.Retention.τ).loc Cert.Retention.main_arg3) = m ((c.tc : Thread Cert.Retention.nD Cert.Retention.τ).loc Cert.Retention.main_arg3)
      ∧ r.2.mem ((c.tc : Thread Cert.Retention.nD Cert.Retention.τ).loc Cert.Retention.main_arg4) = m ((c.tc : Thread Cert.Retention.nD Cert.Retention.τ).loc Cert.Retention.main_arg4))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)
      ∧ r.2.mem ((c.tc : Thread Cert.RetentionIdeal.nD Cert.RetentionIdeal.τ).loc Cert.RetentionIdeal.main_arg1) = m ((c.tc : Thread Cert.RetentionIdeal.nD Cert.RetentionIdeal.τ).loc Cert.RetentionIdeal.main_arg1)
      ∧ r.2.mem ((c.tc : Thread Cert.RetentionIdeal.nD Cert.RetentionIdeal.τ).loc Cert.RetentionIdeal.main_arg2) = m ((c.tc : Thread Cert.RetentionIdeal.nD Cert.RetentionIdeal.τ).loc Cert.RetentionIdeal.main_arg2)
      ∧ r.2.mem ((c.tc : Thread Cert.RetentionIdeal.nD Cert.RetentionIdeal.τ).loc Cert.RetentionIdeal.main_arg3) = m ((c.tc : Thread Cert.RetentionIdeal.nD Cert.RetentionIdeal.τ).loc Cert.RetentionIdeal.main_arg3)
      ∧ r.2.mem ((c.tc : Thread Cert.RetentionIdeal.nD Cert.RetentionIdeal.τ).loc Cert.RetentionIdeal.main_arg4) = m ((c.tc : Thread Cert.RetentionIdeal.nD Cert.RetentionIdeal.τ).loc Cert.RetentionIdeal.main_arg4))
      ∧ r.2.sem = fun _ => 0)

def quiescent_RetentionRefIdeal [hRetentionRefIdeal : Cert.RetentionRefIdeal.Facts] : Prop :=
  ∀ (m : (ℓ : Loc Cert.RetentionRefIdeal.nD Cert.RetentionRefIdeal.τ Cert.RetentionRefIdeal.sig) → Buf (Elt Ideal) ℓ) (g : Dev Cert.RetentionRefIdeal.nD → PrngReg), Pre_RetentionRefIdeal m →
    θ_run (Cert.RetentionRefIdeal.defs (F := Ideal)) (onTc (τ := Cert.RetentionRefIdeal.τ) (Cert.RetentionRefIdeal.main (F := Ideal))) ⟨m, fun _ => 0, g⟩ (fun r => (∀ c : Dev Cert.RetentionRefIdeal.nD,
      r.2.mem ((c.tc : Thread Cert.RetentionRefIdeal.nD Cert.RetentionRefIdeal.τ).loc Cert.RetentionRefIdeal.main_arg0) = m ((c.tc : Thread Cert.RetentionRefIdeal.nD Cert.RetentionRefIdeal.τ).loc Cert.RetentionRefIdeal.main_arg0)
      ∧ r.2.mem ((c.tc : Thread Cert.RetentionRefIdeal.nD Cert.RetentionRefIdeal.τ).loc Cert.RetentionRefIdeal.main_arg1) = m ((c.tc : Thread Cert.RetentionRefIdeal.nD Cert.RetentionRefIdeal.τ).loc Cert.RetentionRefIdeal.main_arg1)
      ∧ r.2.mem ((c.tc : Thread Cert.RetentionRefIdeal.nD Cert.RetentionRefIdeal.τ).loc Cert.RetentionRefIdeal.main_arg2) = m ((c.tc : Thread Cert.RetentionRefIdeal.nD Cert.RetentionRefIdeal.τ).loc Cert.RetentionRefIdeal.main_arg2)
      ∧ r.2.mem ((c.tc : Thread Cert.RetentionRefIdeal.nD Cert.RetentionRefIdeal.τ).loc Cert.RetentionRefIdeal.main_arg3) = m ((c.tc : Thread Cert.RetentionRefIdeal.nD Cert.RetentionRefIdeal.τ).loc Cert.RetentionRefIdeal.main_arg3)
      ∧ r.2.mem ((c.tc : Thread Cert.RetentionRefIdeal.nD Cert.RetentionRefIdeal.τ).loc Cert.RetentionRefIdeal.main_arg4) = m ((c.tc : Thread Cert.RetentionRefIdeal.nD Cert.RetentionRefIdeal.τ).loc Cert.RetentionRefIdeal.main_arg4))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9)
      ∧ r.2.mem ((c.tc : Thread Cert.Finish.nD Cert.Finish.τ).loc Cert.Finish.main_arg10) = m ((c.tc : Thread Cert.Finish.nD Cert.Finish.τ).loc Cert.Finish.main_arg10)
      ∧ r.2.mem ((c.tc : Thread Cert.Finish.nD Cert.Finish.τ).loc Cert.Finish.main_arg11) = m ((c.tc : Thread Cert.Finish.nD Cert.Finish.τ).loc Cert.Finish.main_arg11)
      ∧ r.2.mem ((c.tc : Thread Cert.Finish.nD Cert.Finish.τ).loc Cert.Finish.main_arg12) = m ((c.tc : Thread Cert.Finish.nD Cert.Finish.τ).loc Cert.Finish.main_arg12)
      ∧ r.2.mem ((c.tc : Thread Cert.Finish.nD Cert.Finish.τ).loc Cert.Finish.main_arg13) = m ((c.tc : Thread Cert.Finish.nD Cert.Finish.τ).loc Cert.Finish.main_arg13)
      ∧ r.2.mem ((c.tc : Thread Cert.Finish.nD Cert.Finish.τ).loc Cert.Finish.main_arg14) = m ((c.tc : Thread Cert.Finish.nD Cert.Finish.τ).loc Cert.Finish.main_arg14))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
      ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
      ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11)
      ∧ r.2.mem ((c.tc : Thread Cert.FinishIdeal.nD Cert.FinishIdeal.τ).loc Cert.FinishIdeal.main_arg12) = m ((c.tc : Thread Cert.FinishIdeal.nD Cert.FinishIdeal.τ).loc Cert.FinishIdeal.main_arg12)
      ∧ r.2.mem ((c.tc : Thread Cert.FinishIdeal.nD Cert.FinishIdeal.τ).loc Cert.FinishIdeal.main_arg13) = m ((c.tc : Thread Cert.FinishIdeal.nD Cert.FinishIdeal.τ).loc Cert.FinishIdeal.main_arg13)
      ∧ r.2.mem ((c.tc : Thread Cert.FinishIdeal.nD Cert.FinishIdeal.τ).loc Cert.FinishIdeal.main_arg14) = m ((c.tc : Thread Cert.FinishIdeal.nD Cert.FinishIdeal.τ).loc Cert.FinishIdeal.main_arg14))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1)
      ∧ r.2.mem ((c.tc : Thread Cert.FinishRefIdeal.nD Cert.FinishRefIdeal.τ).loc Cert.FinishRefIdeal.main_arg2) = m ((c.tc : Thread Cert.FinishRefIdeal.nD Cert.FinishRefIdeal.τ).loc Cert.FinishRefIdeal.main_arg2)
      ∧ r.2.mem ((c.tc : Thread Cert.FinishRefIdeal.nD Cert.FinishRefIdeal.τ).loc Cert.FinishRefIdeal.main_arg3) = m ((c.tc : Thread Cert.FinishRefIdeal.nD Cert.FinishRefIdeal.τ).loc Cert.FinishRefIdeal.main_arg3)
      ∧ r.2.mem ((c.tc : Thread Cert.FinishRefIdeal.nD Cert.FinishRefIdeal.τ).loc Cert.FinishRefIdeal.main_arg4) = m ((c.tc : Thread Cert.FinishRefIdeal.nD Cert.FinishRefIdeal.τ).loc Cert.FinishRefIdeal.main_arg4)
      ∧ r.2.mem ((c.tc : Thread Cert.FinishRefIdeal.nD Cert.FinishRefIdeal.τ).loc Cert.FinishRefIdeal.main_arg5) = m ((c.tc : Thread Cert.FinishRefIdeal.nD Cert.FinishRefIdeal.τ).loc Cert.FinishRefIdeal.main_arg5)
      ∧ r.2.mem ((c.tc : Thread Cert.FinishRefIdeal.nD Cert.FinishRefIdeal.τ).loc Cert.FinishRefIdeal.main_arg6) = m ((c.tc : Thread Cert.FinishRefIdeal.nD Cert.FinishRefIdeal.τ).loc Cert.FinishRefIdeal.main_arg6)
      ∧ r.2.mem ((c.tc : Thread Cert.FinishRefIdeal.nD Cert.FinishRefIdeal.τ).loc Cert.FinishRefIdeal.main_arg7) = m ((c.tc : Thread Cert.FinishRefIdeal.nD Cert.FinishRefIdeal.τ).loc Cert.FinishRefIdeal.main_arg7)
      ∧ r.2.mem ((c.tc : Thread Cert.FinishRefIdeal.nD Cert.FinishRefIdeal.τ).loc Cert.FinishRefIdeal.main_arg8) = m ((c.tc : Thread Cert.FinishRefIdeal.nD Cert.FinishRefIdeal.τ).loc Cert.FinishRefIdeal.main_arg8)
      ∧ r.2.mem ((c.tc : Thread Cert.FinishRefIdeal.nD Cert.FinishRefIdeal.τ).loc Cert.FinishRefIdeal.main_arg9) = m ((c.tc : Thread Cert.FinishRefIdeal.nD Cert.FinishRefIdeal.τ).loc Cert.FinishRefIdeal.main_arg9)
      ∧ r.2.mem ((c.tc : Thread Cert.FinishRefIdeal.nD Cert.FinishRefIdeal.τ).loc Cert.FinishRefIdeal.main_arg10) = m ((c.tc : Thread Cert.FinishRefIdeal.nD Cert.FinishRefIdeal.τ).loc Cert.FinishRefIdeal.main_arg10)
      ∧ r.2.mem ((c.tc : Thread Cert.FinishRefIdeal.nD Cert.FinishRefIdeal.τ).loc Cert.FinishRefIdeal.main_arg11) = m ((c.tc : Thread Cert.FinishRefIdeal.nD Cert.FinishRefIdeal.τ).loc Cert.FinishRefIdeal.main_arg11)
      ∧ r.2.mem ((c.tc : Thread Cert.FinishRefIdeal.nD Cert.FinishRefIdeal.τ).loc Cert.FinishRefIdeal.main_arg12) = m ((c.tc : Thread Cert.FinishRefIdeal.nD Cert.FinishRefIdeal.τ).loc Cert.FinishRefIdeal.main_arg12)
      ∧ r.2.mem ((c.tc : Thread Cert.FinishRefIdeal.nD Cert.FinishRefIdeal.τ).loc Cert.FinishRefIdeal.main_arg13) = m ((c.tc : Thread Cert.FinishRefIdeal.nD Cert.FinishRefIdeal.τ).loc Cert.FinishRefIdeal.main_arg13)
      ∧ r.2.mem ((c.tc : Thread Cert.FinishRefIdeal.nD Cert.FinishRefIdeal.τ).loc Cert.FinishRefIdeal.main_arg14) = m ((c.tc : Thread Cert.FinishRefIdeal.nD Cert.FinishRefIdeal.τ).loc Cert.FinishRefIdeal.main_arg14))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3))
      ∧ r.2.sem = fun _ => 0)

def quiescent_FinishSample [hFinishSample : Cert.FinishSample.Facts] : Prop :=
  ∀ (m : (ℓ : Loc Cert.FinishSample.nD Cert.FinishSample.τ Cert.FinishSample.sig) → Buf (Elt Bits) ℓ) (g : Dev Cert.FinishSample.nD → PrngReg), Pre_FinishSample m →
    θ_run (Cert.FinishSample.defs (F := Bits)) (onTc (τ := Cert.FinishSample.τ) (Cert.FinishSample.main (F := Bits))) ⟨m, fun _ => 0, g⟩ (fun r => (∀ c : Dev Cert.FinishSample.nD,
      r.2.mem ((c.tc : Thread Cert.FinishSample.nD Cert.FinishSample.τ).loc Cert.FinishSample.main_arg0) = m ((c.tc : Thread Cert.FinishSample.nD Cert.FinishSample.τ).loc Cert.FinishSample.main_arg0)
      ∧ r.2.mem ((c.tc : Thread Cert.FinishSample.nD Cert.FinishSample.τ).loc Cert.FinishSample.main_arg1) = m ((c.tc : Thread Cert.FinishSample.nD Cert.FinishSample.τ).loc Cert.FinishSample.main_arg1)
      ∧ r.2.mem ((c.tc : Thread Cert.FinishSample.nD Cert.FinishSample.τ).loc Cert.FinishSample.main_arg2) = m ((c.tc : Thread Cert.FinishSample.nD Cert.FinishSample.τ).loc Cert.FinishSample.main_arg2)
      ∧ r.2.mem ((c.tc : Thread Cert.FinishSample.nD Cert.FinishSample.τ).loc Cert.FinishSample.main_arg3) = m ((c.tc : Thread Cert.FinishSample.nD Cert.FinishSample.τ).loc Cert.FinishSample.main_arg3)
      ∧ r.2.mem ((c.tc : Thread Cert.FinishSample.nD Cert.FinishSample.τ).loc Cert.FinishSample.main_arg4) = m ((c.tc : Thread Cert.FinishSample.nD Cert.FinishSample.τ).loc Cert.FinishSample.main_arg4)
      ∧ r.2.mem ((c.tc : Thread Cert.FinishSample.nD Cert.FinishSample.τ).loc Cert.FinishSample.main_arg5) = m ((c.tc : Thread Cert.FinishSample.nD Cert.FinishSample.τ).loc Cert.FinishSample.main_arg5)
      ∧ r.2.mem ((c.tc : Thread Cert.FinishSample.nD Cert.FinishSample.τ).loc Cert.FinishSample.main_arg6) = m ((c.tc : Thread Cert.FinishSample.nD Cert.FinishSample.τ).loc Cert.FinishSample.main_arg6)
      ∧ r.2.mem ((c.tc : Thread Cert.FinishSample.nD Cert.FinishSample.τ).loc Cert.FinishSample.main_arg7) = m ((c.tc : Thread Cert.FinishSample.nD Cert.FinishSample.τ).loc Cert.FinishSample.main_arg7)
      ∧ r.2.mem ((c.tc : Thread Cert.FinishSample.nD Cert.FinishSample.τ).loc Cert.FinishSample.main_arg8) = m ((c.tc : Thread Cert.FinishSample.nD Cert.FinishSample.τ).loc Cert.FinishSample.main_arg8)
      ∧ r.2.mem ((c.tc : Thread Cert.FinishSample.nD Cert.FinishSample.τ).loc Cert.FinishSample.main_arg9) = m ((c.tc : Thread Cert.FinishSample.nD Cert.FinishSample.τ).loc Cert.FinishSample.main_arg9)
      ∧ r.2.mem ((c.tc : Thread Cert.FinishSample.nD Cert.FinishSample.τ).loc Cert.FinishSample.main_arg10) = m ((c.tc : Thread Cert.FinishSample.nD Cert.FinishSample.τ).loc Cert.FinishSample.main_arg10)
      ∧ r.2.mem ((c.tc : Thread Cert.FinishSample.nD Cert.FinishSample.τ).loc Cert.FinishSample.main_arg11) = m ((c.tc : Thread Cert.FinishSample.nD Cert.FinishSample.τ).loc Cert.FinishSample.main_arg11)
      ∧ r.2.mem ((c.tc : Thread Cert.FinishSample.nD Cert.FinishSample.τ).loc Cert.FinishSample.main_arg12) = m ((c.tc : Thread Cert.FinishSample.nD Cert.FinishSample.τ).loc Cert.FinishSample.main_arg12)
      ∧ r.2.mem ((c.tc : Thread Cert.FinishSample.nD Cert.FinishSample.τ).loc Cert.FinishSample.main_arg13) = m ((c.tc : Thread Cert.FinishSample.nD Cert.FinishSample.τ).loc Cert.FinishSample.main_arg13)
      ∧ r.2.mem ((c.tc : Thread Cert.FinishSample.nD Cert.FinishSample.τ).loc Cert.FinishSample.main_arg14) = m ((c.tc : Thread Cert.FinishSample.nD Cert.FinishSample.τ).loc Cert.FinishSample.main_arg14))
      ∧ r.2.sem = fun _ => 0)

def quiescent_FinishSampleIdeal [hFinishSampleIdeal : Cert.FinishSampleIdeal.Facts] : Prop :=
  ∀ (m : (ℓ : Loc Cert.FinishSampleIdeal.nD Cert.FinishSampleIdeal.τ Cert.FinishSampleIdeal.sig) → Buf (Elt Ideal) ℓ) (g : Dev Cert.FinishSampleIdeal.nD → PrngReg), Pre_FinishSampleIdeal m →
    θ_run (Cert.FinishSampleIdeal.defs (F := Ideal)) (onTc (τ := Cert.FinishSampleIdeal.τ) (Cert.FinishSampleIdeal.main (F := Ideal))) ⟨m, fun _ => 0, g⟩ (fun r => (∀ c : Dev Cert.FinishSampleIdeal.nD,
      r.2.mem ((c.tc : Thread Cert.FinishSampleIdeal.nD Cert.FinishSampleIdeal.τ).loc Cert.FinishSampleIdeal.main_arg0) = m ((c.tc : Thread Cert.FinishSampleIdeal.nD Cert.FinishSampleIdeal.τ).loc Cert.FinishSampleIdeal.main_arg0)
      ∧ r.2.mem ((c.tc : Thread Cert.FinishSampleIdeal.nD Cert.FinishSampleIdeal.τ).loc Cert.FinishSampleIdeal.main_arg1) = m ((c.tc : Thread Cert.FinishSampleIdeal.nD Cert.FinishSampleIdeal.τ).loc Cert.FinishSampleIdeal.main_arg1)
      ∧ r.2.mem ((c.tc : Thread Cert.FinishSampleIdeal.nD Cert.FinishSampleIdeal.τ).loc Cert.FinishSampleIdeal.main_arg2) = m ((c.tc : Thread Cert.FinishSampleIdeal.nD Cert.FinishSampleIdeal.τ).loc Cert.FinishSampleIdeal.main_arg2)
      ∧ r.2.mem ((c.tc : Thread Cert.FinishSampleIdeal.nD Cert.FinishSampleIdeal.τ).loc Cert.FinishSampleIdeal.main_arg3) = m ((c.tc : Thread Cert.FinishSampleIdeal.nD Cert.FinishSampleIdeal.τ).loc Cert.FinishSampleIdeal.main_arg3)
      ∧ r.2.mem ((c.tc : Thread Cert.FinishSampleIdeal.nD Cert.FinishSampleIdeal.τ).loc Cert.FinishSampleIdeal.main_arg4) = m ((c.tc : Thread Cert.FinishSampleIdeal.nD Cert.FinishSampleIdeal.τ).loc Cert.FinishSampleIdeal.main_arg4)
      ∧ r.2.mem ((c.tc : Thread Cert.FinishSampleIdeal.nD Cert.FinishSampleIdeal.τ).loc Cert.FinishSampleIdeal.main_arg5) = m ((c.tc : Thread Cert.FinishSampleIdeal.nD Cert.FinishSampleIdeal.τ).loc Cert.FinishSampleIdeal.main_arg5)
      ∧ r.2.mem ((c.tc : Thread Cert.FinishSampleIdeal.nD Cert.FinishSampleIdeal.τ).loc Cert.FinishSampleIdeal.main_arg6) = m ((c.tc : Thread Cert.FinishSampleIdeal.nD Cert.FinishSampleIdeal.τ).loc Cert.FinishSampleIdeal.main_arg6)
      ∧ r.2.mem ((c.tc : Thread Cert.FinishSampleIdeal.nD Cert.FinishSampleIdeal.τ).loc Cert.FinishSampleIdeal.main_arg7) = m ((c.tc : Thread Cert.FinishSampleIdeal.nD Cert.FinishSampleIdeal.τ).loc Cert.FinishSampleIdeal.main_arg7)
      ∧ r.2.mem ((c.tc : Thread Cert.FinishSampleIdeal.nD Cert.FinishSampleIdeal.τ).loc Cert.FinishSampleIdeal.main_arg8) = m ((c.tc : Thread Cert.FinishSampleIdeal.nD Cert.FinishSampleIdeal.τ).loc Cert.FinishSampleIdeal.main_arg8)
      ∧ r.2.mem ((c.tc : Thread Cert.FinishSampleIdeal.nD Cert.FinishSampleIdeal.τ).loc Cert.FinishSampleIdeal.main_arg9) = m ((c.tc : Thread Cert.FinishSampleIdeal.nD Cert.FinishSampleIdeal.τ).loc Cert.FinishSampleIdeal.main_arg9)
      ∧ r.2.mem ((c.tc : Thread Cert.FinishSampleIdeal.nD Cert.FinishSampleIdeal.τ).loc Cert.FinishSampleIdeal.main_arg10) = m ((c.tc : Thread Cert.FinishSampleIdeal.nD Cert.FinishSampleIdeal.τ).loc Cert.FinishSampleIdeal.main_arg10)
      ∧ r.2.mem ((c.tc : Thread Cert.FinishSampleIdeal.nD Cert.FinishSampleIdeal.τ).loc Cert.FinishSampleIdeal.main_arg11) = m ((c.tc : Thread Cert.FinishSampleIdeal.nD Cert.FinishSampleIdeal.τ).loc Cert.FinishSampleIdeal.main_arg11)
      ∧ r.2.mem ((c.tc : Thread Cert.FinishSampleIdeal.nD Cert.FinishSampleIdeal.τ).loc Cert.FinishSampleIdeal.main_arg12) = m ((c.tc : Thread Cert.FinishSampleIdeal.nD Cert.FinishSampleIdeal.τ).loc Cert.FinishSampleIdeal.main_arg12)
      ∧ r.2.mem ((c.tc : Thread Cert.FinishSampleIdeal.nD Cert.FinishSampleIdeal.τ).loc Cert.FinishSampleIdeal.main_arg13) = m ((c.tc : Thread Cert.FinishSampleIdeal.nD Cert.FinishSampleIdeal.τ).loc Cert.FinishSampleIdeal.main_arg13)
      ∧ r.2.mem ((c.tc : Thread Cert.FinishSampleIdeal.nD Cert.FinishSampleIdeal.τ).loc Cert.FinishSampleIdeal.main_arg14) = m ((c.tc : Thread Cert.FinishSampleIdeal.nD Cert.FinishSampleIdeal.τ).loc Cert.FinishSampleIdeal.main_arg14))
      ∧ r.2.sem = fun _ => 0)

def quiescent_FinishSampleRefIdeal [hFinishSampleRefIdeal : Cert.FinishSampleRefIdeal.Facts] : Prop :=
  ∀ (m : (ℓ : Loc Cert.FinishSampleRefIdeal.nD Cert.FinishSampleRefIdeal.τ Cert.FinishSampleRefIdeal.sig) → Buf (Elt Ideal) ℓ) (g : Dev Cert.FinishSampleRefIdeal.nD → PrngReg), Pre_FinishSampleRefIdeal m →
    θ_run (Cert.FinishSampleRefIdeal.defs (F := Ideal)) (onTc (τ := Cert.FinishSampleRefIdeal.τ) (Cert.FinishSampleRefIdeal.main (F := Ideal))) ⟨m, fun _ => 0, g⟩ (fun r => (∀ c : Dev Cert.FinishSampleRefIdeal.nD,
      r.2.mem ((c.tc : Thread Cert.FinishSampleRefIdeal.nD Cert.FinishSampleRefIdeal.τ).loc Cert.FinishSampleRefIdeal.main_arg0) = m ((c.tc : Thread Cert.FinishSampleRefIdeal.nD Cert.FinishSampleRefIdeal.τ).loc Cert.FinishSampleRefIdeal.main_arg0)
      ∧ r.2.mem ((c.tc : Thread Cert.FinishSampleRefIdeal.nD Cert.FinishSampleRefIdeal.τ).loc Cert.FinishSampleRefIdeal.main_arg1) = m ((c.tc : Thread Cert.FinishSampleRefIdeal.nD Cert.FinishSampleRefIdeal.τ).loc Cert.FinishSampleRefIdeal.main_arg1)
      ∧ r.2.mem ((c.tc : Thread Cert.FinishSampleRefIdeal.nD Cert.FinishSampleRefIdeal.τ).loc Cert.FinishSampleRefIdeal.main_arg2) = m ((c.tc : Thread Cert.FinishSampleRefIdeal.nD Cert.FinishSampleRefIdeal.τ).loc Cert.FinishSampleRefIdeal.main_arg2)
      ∧ r.2.mem ((c.tc : Thread Cert.FinishSampleRefIdeal.nD Cert.FinishSampleRefIdeal.τ).loc Cert.FinishSampleRefIdeal.main_arg3) = m ((c.tc : Thread Cert.FinishSampleRefIdeal.nD Cert.FinishSampleRefIdeal.τ).loc Cert.FinishSampleRefIdeal.main_arg3)
      ∧ r.2.mem ((c.tc : Thread Cert.FinishSampleRefIdeal.nD Cert.FinishSampleRefIdeal.τ).loc Cert.FinishSampleRefIdeal.main_arg4) = m ((c.tc : Thread Cert.FinishSampleRefIdeal.nD Cert.FinishSampleRefIdeal.τ).loc Cert.FinishSampleRefIdeal.main_arg4)
      ∧ r.2.mem ((c.tc : Thread Cert.FinishSampleRefIdeal.nD Cert.FinishSampleRefIdeal.τ).loc Cert.FinishSampleRefIdeal.main_arg5) = m ((c.tc : Thread Cert.FinishSampleRefIdeal.nD Cert.FinishSampleRefIdeal.τ).loc Cert.FinishSampleRefIdeal.main_arg5)
      ∧ r.2.mem ((c.tc : Thread Cert.FinishSampleRefIdeal.nD Cert.FinishSampleRefIdeal.τ).loc Cert.FinishSampleRefIdeal.main_arg6) = m ((c.tc : Thread Cert.FinishSampleRefIdeal.nD Cert.FinishSampleRefIdeal.τ).loc Cert.FinishSampleRefIdeal.main_arg6)
      ∧ r.2.mem ((c.tc : Thread Cert.FinishSampleRefIdeal.nD Cert.FinishSampleRefIdeal.τ).loc Cert.FinishSampleRefIdeal.main_arg7) = m ((c.tc : Thread Cert.FinishSampleRefIdeal.nD Cert.FinishSampleRefIdeal.τ).loc Cert.FinishSampleRefIdeal.main_arg7)
      ∧ r.2.mem ((c.tc : Thread Cert.FinishSampleRefIdeal.nD Cert.FinishSampleRefIdeal.τ).loc Cert.FinishSampleRefIdeal.main_arg8) = m ((c.tc : Thread Cert.FinishSampleRefIdeal.nD Cert.FinishSampleRefIdeal.τ).loc Cert.FinishSampleRefIdeal.main_arg8)
      ∧ r.2.mem ((c.tc : Thread Cert.FinishSampleRefIdeal.nD Cert.FinishSampleRefIdeal.τ).loc Cert.FinishSampleRefIdeal.main_arg9) = m ((c.tc : Thread Cert.FinishSampleRefIdeal.nD Cert.FinishSampleRefIdeal.τ).loc Cert.FinishSampleRefIdeal.main_arg9)
      ∧ r.2.mem ((c.tc : Thread Cert.FinishSampleRefIdeal.nD Cert.FinishSampleRefIdeal.τ).loc Cert.FinishSampleRefIdeal.main_arg10) = m ((c.tc : Thread Cert.FinishSampleRefIdeal.nD Cert.FinishSampleRefIdeal.τ).loc Cert.FinishSampleRefIdeal.main_arg10)
      ∧ r.2.mem ((c.tc : Thread Cert.FinishSampleRefIdeal.nD Cert.FinishSampleRefIdeal.τ).loc Cert.FinishSampleRefIdeal.main_arg11) = m ((c.tc : Thread Cert.FinishSampleRefIdeal.nD Cert.FinishSampleRefIdeal.τ).loc Cert.FinishSampleRefIdeal.main_arg11)
      ∧ r.2.mem ((c.tc : Thread Cert.FinishSampleRefIdeal.nD Cert.FinishSampleRefIdeal.τ).loc Cert.FinishSampleRefIdeal.main_arg12) = m ((c.tc : Thread Cert.FinishSampleRefIdeal.nD Cert.FinishSampleRefIdeal.τ).loc Cert.FinishSampleRefIdeal.main_arg12)
      ∧ r.2.mem ((c.tc : Thread Cert.FinishSampleRefIdeal.nD Cert.FinishSampleRefIdeal.τ).loc Cert.FinishSampleRefIdeal.main_arg13) = m ((c.tc : Thread Cert.FinishSampleRefIdeal.nD Cert.FinishSampleRefIdeal.τ).loc Cert.FinishSampleRefIdeal.main_arg13)
      ∧ r.2.mem ((c.tc : Thread Cert.FinishSampleRefIdeal.nD Cert.FinishSampleRefIdeal.τ).loc Cert.FinishSampleRefIdeal.main_arg14) = m ((c.tc : Thread Cert.FinishSampleRefIdeal.nD Cert.FinishSampleRefIdeal.τ).loc Cert.FinishSampleRefIdeal.main_arg14))
      ∧ r.2.sem = fun _ => 0)

def quiescent_ProjSample [hProjSample : Cert.ProjSample.Facts] : Prop :=
  ∀ (m : (ℓ : Loc Cert.ProjSample.nD Cert.ProjSample.τ Cert.ProjSample.sig) → Buf (Elt Bits) ℓ) (g : Dev Cert.ProjSample.nD → PrngReg), Pre_ProjSample m →
    θ_run (Cert.ProjSample.defs (F := Bits)) (onTc (τ := Cert.ProjSample.τ) (Cert.ProjSample.main (F := Bits))) ⟨m, fun _ => 0, g⟩ (fun r => (∀ c : Dev Cert.ProjSample.nD,
      r.2.mem ((c.tc : Thread Cert.ProjSample.nD Cert.ProjSample.τ).loc Cert.ProjSample.main_arg0) = m ((c.tc : Thread Cert.ProjSample.nD Cert.ProjSample.τ).loc Cert.ProjSample.main_arg0)
      ∧ r.2.mem ((c.tc : Thread Cert.ProjSample.nD Cert.ProjSample.τ).loc Cert.ProjSample.main_arg1) = m ((c.tc : Thread Cert.ProjSample.nD Cert.ProjSample.τ).loc Cert.ProjSample.main_arg1)
      ∧ r.2.mem ((c.tc : Thread Cert.ProjSample.nD Cert.ProjSample.τ).loc Cert.ProjSample.main_arg2) = m ((c.tc : Thread Cert.ProjSample.nD Cert.ProjSample.τ).loc Cert.ProjSample.main_arg2)
      ∧ r.2.mem ((c.tc : Thread Cert.ProjSample.nD Cert.ProjSample.τ).loc Cert.ProjSample.main_arg3) = m ((c.tc : Thread Cert.ProjSample.nD Cert.ProjSample.τ).loc Cert.ProjSample.main_arg3))
      ∧ r.2.sem = fun _ => 0)

def quiescent_ProjSampleIdeal [hProjSampleIdeal : Cert.ProjSampleIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg), Pre_ProjSampleIdeal m →
    θ_run (Cert.ProjSampleIdeal.defs (F := Ideal)) (onTc (τ := Cert.ProjSampleIdeal.τ) (Cert.ProjSampleIdeal.main (F := Ideal))) ⟨m, fun _ => 0, g⟩ (fun r => (∀ c : Dev Cert.ProjSampleIdeal.nD,
      r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
      ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
      ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
      ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3))
      ∧ r.2.sem = fun _ => 0)

def quiescent_ProjSampleRefIdeal [hProjSampleRefIdeal : Cert.ProjSampleRefIdeal.Facts] : Prop :=
  ∀ (m : (ℓ : Loc Cert.ProjSampleRefIdeal.nD Cert.ProjSampleRefIdeal.τ Cert.ProjSampleRefIdeal.sig) → Buf (Elt Ideal) ℓ) (g : Dev Cert.ProjSampleRefIdeal.nD → PrngReg), Pre_ProjSampleRefIdeal m →
    θ_run (Cert.ProjSampleRefIdeal.defs (F := Ideal)) (onTc (τ := Cert.ProjSampleRefIdeal.τ) (Cert.ProjSampleRefIdeal.main (F := Ideal))) ⟨m, fun _ => 0, g⟩ (fun r => (∀ c : Dev Cert.ProjSampleRefIdeal.nD,
      r.2.mem ((c.tc : Thread Cert.ProjSampleRefIdeal.nD Cert.ProjSampleRefIdeal.τ).loc Cert.ProjSampleRefIdeal.main_arg0) = m ((c.tc : Thread Cert.ProjSampleRefIdeal.nD Cert.ProjSampleRefIdeal.τ).loc Cert.ProjSampleRefIdeal.main_arg0)
      ∧ r.2.mem ((c.tc : Thread Cert.ProjSampleRefIdeal.nD Cert.ProjSampleRefIdeal.τ).loc Cert.ProjSampleRefIdeal.main_arg1) = m ((c.tc : Thread Cert.ProjSampleRefIdeal.nD Cert.ProjSampleRefIdeal.τ).loc Cert.ProjSampleRefIdeal.main_arg1)
      ∧ r.2.mem ((c.tc : Thread Cert.ProjSampleRefIdeal.nD Cert.ProjSampleRefIdeal.τ).loc Cert.ProjSampleRefIdeal.main_arg2) = m ((c.tc : Thread Cert.ProjSampleRefIdeal.nD Cert.ProjSampleRefIdeal.τ).loc Cert.ProjSampleRefIdeal.main_arg2)
      ∧ r.2.mem ((c.tc : Thread Cert.ProjSampleRefIdeal.nD Cert.ProjSampleRefIdeal.τ).loc Cert.ProjSampleRefIdeal.main_arg3) = m ((c.tc : Thread Cert.ProjSampleRefIdeal.nD Cert.ProjSampleRefIdeal.τ).loc Cert.ProjSampleRefIdeal.main_arg3))
      ∧ r.2.sem = fun _ => 0)

def preserves_Retention_RetentionIdeal : Prop :=
  True

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)
      ∧ m' ((c.tc : Thread Cert.FinishRefIdeal.nD Cert.FinishRefIdeal.τ).loc Cert.FinishRefIdeal.main_arg2) = m ((c.tc : Thread Cert.FinishIdeal.nD Cert.FinishIdeal.τ).loc Cert.FinishIdeal.main_arg2)
      ∧ m' ((c.tc : Thread Cert.FinishRefIdeal.nD Cert.FinishRefIdeal.τ).loc Cert.FinishRefIdeal.main_arg3) = m ((c.tc : Thread Cert.FinishIdeal.nD Cert.FinishIdeal.τ).loc Cert.FinishIdeal.main_arg3)
      ∧ m' ((c.tc : Thread Cert.FinishRefIdeal.nD Cert.FinishRefIdeal.τ).loc Cert.FinishRefIdeal.main_arg4) = m ((c.tc : Thread Cert.FinishIdeal.nD Cert.FinishIdeal.τ).loc Cert.FinishIdeal.main_arg4)
      ∧ m' ((c.tc : Thread Cert.FinishRefIdeal.nD Cert.FinishRefIdeal.τ).loc Cert.FinishRefIdeal.main_arg5) = m ((c.tc : Thread Cert.FinishIdeal.nD Cert.FinishIdeal.τ).loc Cert.FinishIdeal.main_arg5)
      ∧ m' ((c.tc : Thread Cert.FinishRefIdeal.nD Cert.FinishRefIdeal.τ).loc Cert.FinishRefIdeal.main_arg6) = m ((c.tc : Thread Cert.FinishIdeal.nD Cert.FinishIdeal.τ).loc Cert.FinishIdeal.main_arg6)
      ∧ m' ((c.tc : Thread Cert.FinishRefIdeal.nD Cert.FinishRefIdeal.τ).loc Cert.FinishRefIdeal.main_arg7) = m ((c.tc : Thread Cert.FinishIdeal.nD Cert.FinishIdeal.τ).loc Cert.FinishIdeal.main_arg7)
      ∧ m' ((c.tc : Thread Cert.FinishRefIdeal.nD Cert.FinishRefIdeal.τ).loc Cert.FinishRefIdeal.main_arg8) = m ((c.tc : Thread Cert.FinishIdeal.nD Cert.FinishIdeal.τ).loc Cert.FinishIdeal.main_arg8)
      ∧ m' ((c.tc : Thread Cert.FinishRefIdeal.nD Cert.FinishRefIdeal.τ).loc Cert.FinishRefIdeal.main_arg9) = m ((c.tc : Thread Cert.FinishIdeal.nD Cert.FinishIdeal.τ).loc Cert.FinishIdeal.main_arg9)
      ∧ m' ((c.tc : Thread Cert.FinishRefIdeal.nD Cert.FinishRefIdeal.τ).loc Cert.FinishRefIdeal.main_arg10) = m ((c.tc : Thread Cert.FinishIdeal.nD Cert.FinishIdeal.τ).loc Cert.FinishIdeal.main_arg10)
      ∧ m' ((c.tc : Thread Cert.FinishRefIdeal.nD Cert.FinishRefIdeal.τ).loc Cert.FinishRefIdeal.main_arg11) = m ((c.tc : Thread Cert.FinishIdeal.nD Cert.FinishIdeal.τ).loc Cert.FinishIdeal.main_arg11)
      ∧ m' ((c.tc : Thread Cert.FinishRefIdeal.nD Cert.FinishRefIdeal.τ).loc Cert.FinishRefIdeal.main_arg12) = m ((c.tc : Thread Cert.FinishIdeal.nD Cert.FinishIdeal.τ).loc Cert.FinishIdeal.main_arg12)
      ∧ m' ((c.tc : Thread Cert.FinishRefIdeal.nD Cert.FinishRefIdeal.τ).loc Cert.FinishRefIdeal.main_arg13) = m ((c.tc : Thread Cert.FinishIdeal.nD Cert.FinishIdeal.τ).loc Cert.FinishIdeal.main_arg13)
      ∧ m' ((c.tc : Thread Cert.FinishRefIdeal.nD Cert.FinishRefIdeal.τ).loc Cert.FinishRefIdeal.main_arg14) = m ((c.tc : Thread Cert.FinishIdeal.nD Cert.FinishIdeal.τ).loc Cert.FinishIdeal.main_arg14)) →
    ∃ (v0 : (c : Dev Cert.FinishIdeal.nD) → Buf (Elt Ideal) ((c.tc : Thread Cert.FinishIdeal.nD Cert.FinishIdeal.τ).loc Cert.FinishIdeal.main_v15)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v15) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9)
          ∧ r.2.mem ((c.tc : Thread Cert.FinishIdeal.nD Cert.FinishIdeal.τ).loc Cert.FinishIdeal.main_arg10) = m ((c.tc : Thread Cert.FinishIdeal.nD Cert.FinishIdeal.τ).loc Cert.FinishIdeal.main_arg10)
          ∧ r.2.mem ((c.tc : Thread Cert.FinishIdeal.nD Cert.FinishIdeal.τ).loc Cert.FinishIdeal.main_arg11) = m ((c.tc : Thread Cert.FinishIdeal.nD Cert.FinishIdeal.τ).loc Cert.FinishIdeal.main_arg11)
          ∧ r.2.mem ((c.tc : Thread Cert.FinishIdeal.nD Cert.FinishIdeal.τ).loc Cert.FinishIdeal.main_arg12) = m ((c.tc : Thread Cert.FinishIdeal.nD Cert.FinishIdeal.τ).loc Cert.FinishIdeal.main_arg12)
          ∧ r.2.mem ((c.tc : Thread Cert.FinishIdeal.nD Cert.FinishIdeal.τ).loc Cert.FinishIdeal.main_arg13) = m ((c.tc : Thread Cert.FinishIdeal.nD Cert.FinishIdeal.τ).loc Cert.FinishIdeal.main_arg13)
          ∧ r.2.mem ((c.tc : Thread Cert.FinishIdeal.nD Cert.FinishIdeal.τ).loc Cert.FinishIdeal.main_arg14) = m ((c.tc : Thread Cert.FinishIdeal.nD Cert.FinishIdeal.τ).loc Cert.FinishIdeal.main_arg14))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v81) = v0 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1)
          ∧ r.2.mem ((c.tc : Thread Cert.FinishRefIdeal.nD Cert.FinishRefIdeal.τ).loc Cert.FinishRefIdeal.main_arg2) = m' ((c.tc : Thread Cert.FinishRefIdeal.nD Cert.FinishRefIdeal.τ).loc Cert.FinishRefIdeal.main_arg2)
          ∧ r.2.mem ((c.tc : Thread Cert.FinishRefIdeal.nD Cert.FinishRefIdeal.τ).loc Cert.FinishRefIdeal.main_arg3) = m' ((c.tc : Thread Cert.FinishRefIdeal.nD Cert.FinishRefIdeal.τ).loc Cert.FinishRefIdeal.main_arg3)
          ∧ r.2.mem ((c.tc : Thread Cert.FinishRefIdeal.nD Cert.FinishRefIdeal.τ).loc Cert.FinishRefIdeal.main_arg4) = m' ((c.tc : Thread Cert.FinishRefIdeal.nD Cert.FinishRefIdeal.τ).loc Cert.FinishRefIdeal.main_arg4)
          ∧ r.2.mem ((c.tc : Thread Cert.FinishRefIdeal.nD Cert.FinishRefIdeal.τ).loc Cert.FinishRefIdeal.main_arg5) = m' ((c.tc : Thread Cert.FinishRefIdeal.nD Cert.FinishRefIdeal.τ).loc Cert.FinishRefIdeal.main_arg5)
          ∧ r.2.mem ((c.tc : Thread Cert.FinishRefIdeal.nD Cert.FinishRefIdeal.τ).loc Cert.FinishRefIdeal.main_arg6) = m' ((c.tc : Thread Cert.FinishRefIdeal.nD Cert.FinishRefIdeal.τ).loc Cert.FinishRefIdeal.main_arg6)
          ∧ r.2.mem ((c.tc : Thread Cert.FinishRefIdeal.nD Cert.FinishRefIdeal.τ).loc Cert.FinishRefIdeal.main_arg7) = m' ((c.tc : Thread Cert.FinishRefIdeal.nD Cert.FinishRefIdeal.τ).loc Cert.FinishRefIdeal.main_arg7)
          ∧ r.2.mem ((c.tc : Thread Cert.FinishRefIdeal.nD Cert.FinishRefIdeal.τ).loc Cert.FinishRefIdeal.main_arg8) = m' ((c.tc : Thread Cert.FinishRefIdeal.nD Cert.FinishRefIdeal.τ).loc Cert.FinishRefIdeal.main_arg8)
          ∧ r.2.mem ((c.tc : Thread Cert.FinishRefIdeal.nD Cert.FinishRefIdeal.τ).loc Cert.FinishRefIdeal.main_arg9) = m' ((c.tc : Thread Cert.FinishRefIdeal.nD Cert.FinishRefIdeal.τ).loc Cert.FinishRefIdeal.main_arg9)
          ∧ r.2.mem ((c.tc : Thread Cert.FinishRefIdeal.nD Cert.FinishRefIdeal.τ).loc Cert.FinishRefIdeal.main_arg10) = m' ((c.tc : Thread Cert.FinishRefIdeal.nD Cert.FinishRefIdeal.τ).loc Cert.FinishRefIdeal.main_arg10)
          ∧ r.2.mem ((c.tc : Thread Cert.FinishRefIdeal.nD Cert.FinishRefIdeal.τ).loc Cert.FinishRefIdeal.main_arg11) = m' ((c.tc : Thread Cert.FinishRefIdeal.nD Cert.FinishRefIdeal.τ).loc Cert.FinishRefIdeal.main_arg11)
          ∧ r.2.mem ((c.tc : Thread Cert.FinishRefIdeal.nD Cert.FinishRefIdeal.τ).loc Cert.FinishRefIdeal.main_arg12) = m' ((c.tc : Thread Cert.FinishRefIdeal.nD Cert.FinishRefIdeal.τ).loc Cert.FinishRefIdeal.main_arg12)
          ∧ r.2.mem ((c.tc : Thread Cert.FinishRefIdeal.nD Cert.FinishRefIdeal.τ).loc Cert.FinishRefIdeal.main_arg13) = m' ((c.tc : Thread Cert.FinishRefIdeal.nD Cert.FinishRefIdeal.τ).loc Cert.FinishRefIdeal.main_arg13)
          ∧ r.2.mem ((c.tc : Thread Cert.FinishRefIdeal.nD Cert.FinishRefIdeal.τ).loc Cert.FinishRefIdeal.main_arg14) = m' ((c.tc : Thread Cert.FinishRefIdeal.nD Cert.FinishRefIdeal.τ).loc Cert.FinishRefIdeal.main_arg14))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v52_1)) (v1 : (c : Dev Cert.ProjIdeal.nD) → Buf (Elt Ideal) ((c.tc : Thread Cert.ProjIdeal.nD Cert.ProjIdeal.τ).loc Cert.ProjIdeal.main_v52_3)) (v2 : (c : Dev Cert.ProjIdeal.nD) → Buf (Elt Ideal) ((c.tc : Thread Cert.ProjIdeal.nD Cert.ProjIdeal.τ).loc Cert.ProjIdeal.main_v52_6)) (v3 : (c : Dev Cert.ProjIdeal.nD) → Buf (Elt Ideal) ((c.tc : Thread Cert.ProjIdeal.nD Cert.ProjIdeal.τ).loc Cert.ProjIdeal.main_v52_0)) (v4 : (c : Dev Cert.ProjIdeal.nD) → Buf (Elt Ideal) ((c.tc : Thread Cert.ProjIdeal.nD Cert.ProjIdeal.τ).loc Cert.ProjIdeal.main_v52_5)) (v5 : (c : Dev Cert.ProjIdeal.nD) → Buf (Elt Ideal) ((c.tc : Thread Cert.ProjIdeal.nD Cert.ProjIdeal.τ).loc Cert.ProjIdeal.main_v52_8)) (v6 : (c : Dev Cert.ProjIdeal.nD) → Buf (Elt Ideal) ((c.tc : Thread Cert.ProjIdeal.nD Cert.ProjIdeal.τ).loc Cert.ProjIdeal.main_v52_9)) (v7 : (c : Dev Cert.ProjIdeal.nD) → Buf (Elt Ideal) ((c.tc : Thread Cert.ProjIdeal.nD Cert.ProjIdeal.τ).loc Cert.ProjIdeal.main_v52_10)) (v8 : (c : Dev Cert.ProjIdeal.nD) → Buf (Elt Ideal) ((c.tc : Thread Cert.ProjIdeal.nD Cert.ProjIdeal.τ).loc Cert.ProjIdeal.main_v52_11)) (v9 : (c : Dev Cert.ProjIdeal.nD) → Buf (Elt Ideal) ((c.tc : Thread Cert.ProjIdeal.nD Cert.ProjIdeal.τ).loc Cert.ProjIdeal.main_v52_12)) (v10 : (c : Dev Cert.ProjIdeal.nD) → Buf (Elt Ideal) ((c.tc : Thread Cert.ProjIdeal.nD Cert.ProjIdeal.τ).loc Cert.ProjIdeal.main_v52_13)) (v11 : (c : Dev Cert.ProjIdeal.nD) → Buf (Elt Ideal) ((c.tc : Thread Cert.ProjIdeal.nD Cert.ProjIdeal.τ).loc Cert.ProjIdeal.main_v52_14)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v52_1) = v0 c
          ∧ r.2.mem ((c.tc : Thread Cert.ProjIdeal.nD Cert.ProjIdeal.τ).loc Cert.ProjIdeal.main_v52_3) = v1 c
          ∧ r.2.mem ((c.tc : Thread Cert.ProjIdeal.nD Cert.ProjIdeal.τ).loc Cert.ProjIdeal.main_v52_6) = v2 c
          ∧ r.2.mem ((c.tc : Thread Cert.ProjIdeal.nD Cert.ProjIdeal.τ).loc Cert.ProjIdeal.main_v52_0) = v3 c
          ∧ r.2.mem ((c.tc : Thread Cert.ProjIdeal.nD Cert.ProjIdeal.τ).loc Cert.ProjIdeal.main_v52_5) = v4 c
          ∧ r.2.mem ((c.tc : Thread Cert.ProjIdeal.nD Cert.ProjIdeal.τ).loc Cert.ProjIdeal.main_v52_8) = v5 c
          ∧ r.2.mem ((c.tc : Thread Cert.ProjIdeal.nD Cert.ProjIdeal.τ).loc Cert.ProjIdeal.main_v52_9) = v6 c
          ∧ r.2.mem ((c.tc : Thread Cert.ProjIdeal.nD Cert.ProjIdeal.τ).loc Cert.ProjIdeal.main_v52_10) = v7 c
          ∧ r.2.mem ((c.tc : Thread Cert.ProjIdeal.nD Cert.ProjIdeal.τ).loc Cert.ProjIdeal.main_v52_11) = v8 c
          ∧ r.2.mem ((c.tc : Thread Cert.ProjIdeal.nD Cert.ProjIdeal.τ).loc Cert.ProjIdeal.main_v52_12) = v9 c
          ∧ r.2.mem ((c.tc : Thread Cert.ProjIdeal.nD Cert.ProjIdeal.τ).loc Cert.ProjIdeal.main_v52_13) = v10 c
          ∧ r.2.mem ((c.tc : Thread Cert.ProjIdeal.nD Cert.ProjIdeal.τ).loc Cert.ProjIdeal.main_v52_14) = v11 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v104) = v0 c
          ∧ r.2.mem ((c.tc : Thread Cert.ProjRefIdeal.nD Cert.ProjRefIdeal.τ).loc Cert.ProjRefIdeal.main_v105) = v1 c
          ∧ r.2.mem ((c.tc : Thread Cert.ProjRefIdeal.nD Cert.ProjRefIdeal.τ).loc Cert.ProjRefIdeal.main_v106) = v2 c
          ∧ r.2.mem ((c.tc : Thread Cert.ProjRefIdeal.nD Cert.ProjRefIdeal.τ).loc Cert.ProjRefIdeal.main_v110) = v3 c
          ∧ r.2.mem ((c.tc : Thread Cert.ProjRefIdeal.nD Cert.ProjRefIdeal.τ).loc Cert.ProjRefIdeal.main_v112) = v4 c
          ∧ r.2.mem ((c.tc : Thread Cert.ProjRefIdeal.nD Cert.ProjRefIdeal.τ).loc Cert.ProjRefIdeal.main_v113) = v5 c
          ∧ r.2.mem ((c.tc : Thread Cert.ProjRefIdeal.nD Cert.ProjRefIdeal.τ).loc Cert.ProjRefIdeal.main_v118) = v6 c
          ∧ r.2.mem ((c.tc : Thread Cert.ProjRefIdeal.nD Cert.ProjRefIdeal.τ).loc Cert.ProjRefIdeal.main_v123) = v7 c
          ∧ r.2.mem ((c.tc : Thread Cert.ProjRefIdeal.nD Cert.ProjRefIdeal.τ).loc Cert.ProjRefIdeal.main_v125) = v8 c
          ∧ r.2.mem ((c.tc : Thread Cert.ProjRefIdeal.nD Cert.ProjRefIdeal.τ).loc Cert.ProjRefIdeal.main_v127) = v9 c
          ∧ r.2.mem ((c.tc : Thread Cert.ProjRefIdeal.nD Cert.ProjRefIdeal.τ).loc Cert.ProjRefIdeal.main_v129) = v10 c
          ∧ r.2.mem ((c.tc : Thread Cert.ProjRefIdeal.nD Cert.ProjRefIdeal.τ).loc Cert.ProjRefIdeal.main_v131) = v11 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3))

def preserves_FinishSample_FinishSampleIdeal : Prop :=
  True

def algebraic_FinishSampleIdeal_FinishSampleRefIdeal [hFinishSampleIdeal : Cert.FinishSampleIdeal.Facts] [hFinishSampleRefIdeal : Cert.FinishSampleRefIdeal.Facts] : Prop :=
  ∀ (m : (ℓ : Loc Cert.FinishSampleIdeal.nD Cert.FinishSampleIdeal.τ Cert.FinishSampleIdeal.sig) → Buf (Elt Ideal) ℓ) (g : Dev Cert.FinishSampleIdeal.nD → PrngReg)
    (m' : (ℓ : Loc Cert.FinishSampleRefIdeal.nD Cert.FinishSampleRefIdeal.τ Cert.FinishSampleRefIdeal.sig) → Buf (Elt Ideal) ℓ) (g' : Dev Cert.FinishSampleRefIdeal.nD → PrngReg), Pre_FinishSampleIdeal m →
    (∀ c : Dev Cert.FinishSampleIdeal.nD,
      m' ((c.tc : Thread Cert.FinishSampleRefIdeal.nD Cert.FinishSampleRefIdeal.τ).loc Cert.FinishSampleRefIdeal.main_arg0) = m ((c.tc : Thread Cert.FinishSampleIdeal.nD Cert.FinishSampleIdeal.τ).loc Cert.FinishSampleIdeal.main_arg0)
      ∧ m' ((c.tc : Thread Cert.FinishSampleRefIdeal.nD Cert.FinishSampleRefIdeal.τ).loc Cert.FinishSampleRefIdeal.main_arg1) = m ((c.tc : Thread Cert.FinishSampleIdeal.nD Cert.FinishSampleIdeal.τ).loc Cert.FinishSampleIdeal.main_arg1)
      ∧ m' ((c.tc : Thread Cert.FinishSampleRefIdeal.nD Cert.FinishSampleRefIdeal.τ).loc Cert.FinishSampleRefIdeal.main_arg2) = m ((c.tc : Thread Cert.FinishSampleIdeal.nD Cert.FinishSampleIdeal.τ).loc Cert.FinishSampleIdeal.main_arg2)
      ∧ m' ((c.tc : Thread Cert.FinishSampleRefIdeal.nD Cert.FinishSampleRefIdeal.τ).loc Cert.FinishSampleRefIdeal.main_arg3) = m ((c.tc : Thread Cert.FinishSampleIdeal.nD Cert.FinishSampleIdeal.τ).loc Cert.FinishSampleIdeal.main_arg3)
      ∧ m' ((c.tc : Thread Cert.FinishSampleRefIdeal.nD Cert.FinishSampleRefIdeal.τ).loc Cert.FinishSampleRefIdeal.main_arg4) = m ((c.tc : Thread Cert.FinishSampleIdeal.nD Cert.FinishSampleIdeal.τ).loc Cert.FinishSampleIdeal.main_arg4)
      ∧ m' ((c.tc : Thread Cert.FinishSampleRefIdeal.nD Cert.FinishSampleRefIdeal.τ).loc Cert.FinishSampleRefIdeal.main_arg5) = m ((c.tc : Thread Cert.FinishSampleIdeal.nD Cert.FinishSampleIdeal.τ).loc Cert.FinishSampleIdeal.main_arg5)
      ∧ m' ((c.tc : Thread Cert.FinishSampleRefIdeal.nD Cert.FinishSampleRefIdeal.τ).loc Cert.FinishSampleRefIdeal.main_arg6) = m ((c.tc : Thread Cert.FinishSampleIdeal.nD Cert.FinishSampleIdeal.τ).loc Cert.FinishSampleIdeal.main_arg6)
      ∧ m' ((c.tc : Thread Cert.FinishSampleRefIdeal.nD Cert.FinishSampleRefIdeal.τ).loc Cert.FinishSampleRefIdeal.main_arg7) = m ((c.tc : Thread Cert.FinishSampleIdeal.nD Cert.FinishSampleIdeal.τ).loc Cert.FinishSampleIdeal.main_arg7)
      ∧ m' ((c.tc : Thread Cert.FinishSampleRefIdeal.nD Cert.FinishSampleRefIdeal.τ).loc Cert.FinishSampleRefIdeal.main_arg8) = m ((c.tc : Thread Cert.FinishSampleIdeal.nD Cert.FinishSampleIdeal.τ).loc Cert.FinishSampleIdeal.main_arg8)
      ∧ m' ((c.tc : Thread Cert.FinishSampleRefIdeal.nD Cert.FinishSampleRefIdeal.τ).loc Cert.FinishSampleRefIdeal.main_arg9) = m ((c.tc : Thread Cert.FinishSampleIdeal.nD Cert.FinishSampleIdeal.τ).loc Cert.FinishSampleIdeal.main_arg9)
      ∧ m' ((c.tc : Thread Cert.FinishSampleRefIdeal.nD Cert.FinishSampleRefIdeal.τ).loc Cert.FinishSampleRefIdeal.main_arg10) = m ((c.tc : Thread Cert.FinishSampleIdeal.nD Cert.FinishSampleIdeal.τ).loc Cert.FinishSampleIdeal.main_arg10)
      ∧ m' ((c.tc : Thread Cert.FinishSampleRefIdeal.nD Cert.FinishSampleRefIdeal.τ).loc Cert.FinishSampleRefIdeal.main_arg11) = m ((c.tc : Thread Cert.FinishSampleIdeal.nD Cert.FinishSampleIdeal.τ).loc Cert.FinishSampleIdeal.main_arg11)
      ∧ m' ((c.tc : Thread Cert.FinishSampleRefIdeal.nD Cert.FinishSampleRefIdeal.τ).loc Cert.FinishSampleRefIdeal.main_arg12) = m ((c.tc : Thread Cert.FinishSampleIdeal.nD Cert.FinishSampleIdeal.τ).loc Cert.FinishSampleIdeal.main_arg12)
      ∧ m' ((c.tc : Thread Cert.FinishSampleRefIdeal.nD Cert.FinishSampleRefIdeal.τ).loc Cert.FinishSampleRefIdeal.main_arg13) = m ((c.tc : Thread Cert.FinishSampleIdeal.nD Cert.FinishSampleIdeal.τ).loc Cert.FinishSampleIdeal.main_arg13)
      ∧ m' ((c.tc : Thread Cert.FinishSampleRefIdeal.nD Cert.FinishSampleRefIdeal.τ).loc Cert.FinishSampleRefIdeal.main_arg14) = m ((c.tc : Thread Cert.FinishSampleIdeal.nD Cert.FinishSampleIdeal.τ).loc Cert.FinishSampleIdeal.main_arg14)) →
    ∃ (v0 : (c : Dev Cert.FinishSampleIdeal.nD) → Buf (Elt Ideal) ((c.tc : Thread Cert.FinishSampleIdeal.nD Cert.FinishSampleIdeal.τ).loc Cert.FinishSampleIdeal.main_v15)),
      θ_run (Cert.FinishSampleIdeal.defs (F := Ideal)) (onTc (τ := Cert.FinishSampleIdeal.τ) (Cert.FinishSampleIdeal.main (F := Ideal))) ⟨m, fun _ => 0, g⟩ (fun r => ∀ c : Dev Cert.FinishSampleIdeal.nD,
          r.2.mem ((c.tc : Thread Cert.FinishSampleIdeal.nD Cert.FinishSampleIdeal.τ).loc Cert.FinishSampleIdeal.main_v15) = v0 c
          ∧ r.2.mem ((c.tc : Thread Cert.FinishSampleIdeal.nD Cert.FinishSampleIdeal.τ).loc Cert.FinishSampleIdeal.main_arg0) = m ((c.tc : Thread Cert.FinishSampleIdeal.nD Cert.FinishSampleIdeal.τ).loc Cert.FinishSampleIdeal.main_arg0)
          ∧ r.2.mem ((c.tc : Thread Cert.FinishSampleIdeal.nD Cert.FinishSampleIdeal.τ).loc Cert.FinishSampleIdeal.main_arg1) = m ((c.tc : Thread Cert.FinishSampleIdeal.nD Cert.FinishSampleIdeal.τ).loc Cert.FinishSampleIdeal.main_arg1)
          ∧ r.2.mem ((c.tc : Thread Cert.FinishSampleIdeal.nD Cert.FinishSampleIdeal.τ).loc Cert.FinishSampleIdeal.main_arg2) = m ((c.tc : Thread Cert.FinishSampleIdeal.nD Cert.FinishSampleIdeal.τ).loc Cert.FinishSampleIdeal.main_arg2)
          ∧ r.2.mem ((c.tc : Thread Cert.FinishSampleIdeal.nD Cert.FinishSampleIdeal.τ).loc Cert.FinishSampleIdeal.main_arg3) = m ((c.tc : Thread Cert.FinishSampleIdeal.nD Cert.FinishSampleIdeal.τ).loc Cert.FinishSampleIdeal.main_arg3)
          ∧ r.2.mem ((c.tc : Thread Cert.FinishSampleIdeal.nD Cert.FinishSampleIdeal.τ).loc Cert.FinishSampleIdeal.main_arg4) = m ((c.tc : Thread Cert.FinishSampleIdeal.nD Cert.FinishSampleIdeal.τ).loc Cert.FinishSampleIdeal.main_arg4)
          ∧ r.2.mem ((c.tc : Thread Cert.FinishSampleIdeal.nD Cert.FinishSampleIdeal.τ).loc Cert.FinishSampleIdeal.main_arg5) = m ((c.tc : Thread Cert.FinishSampleIdeal.nD Cert.FinishSampleIdeal.τ).loc Cert.FinishSampleIdeal.main_arg5)
          ∧ r.2.mem ((c.tc : Thread Cert.FinishSampleIdeal.nD Cert.FinishSampleIdeal.τ).loc Cert.FinishSampleIdeal.main_arg6) = m ((c.tc : Thread Cert.FinishSampleIdeal.nD Cert.FinishSampleIdeal.τ).loc Cert.FinishSampleIdeal.main_arg6)
          ∧ r.2.mem ((c.tc : Thread Cert.FinishSampleIdeal.nD Cert.FinishSampleIdeal.τ).loc Cert.FinishSampleIdeal.main_arg7) = m ((c.tc : Thread Cert.FinishSampleIdeal.nD Cert.FinishSampleIdeal.τ).loc Cert.FinishSampleIdeal.main_arg7)
          ∧ r.2.mem ((c.tc : Thread Cert.FinishSampleIdeal.nD Cert.FinishSampleIdeal.τ).loc Cert.FinishSampleIdeal.main_arg8) = m ((c.tc : Thread Cert.FinishSampleIdeal.nD Cert.FinishSampleIdeal.τ).loc Cert.FinishSampleIdeal.main_arg8)
          ∧ r.2.mem ((c.tc : Thread Cert.FinishSampleIdeal.nD Cert.FinishSampleIdeal.τ).loc Cert.FinishSampleIdeal.main_arg9) = m ((c.tc : Thread Cert.FinishSampleIdeal.nD Cert.FinishSampleIdeal.τ).loc Cert.FinishSampleIdeal.main_arg9)
          ∧ r.2.mem ((c.tc : Thread Cert.FinishSampleIdeal.nD Cert.FinishSampleIdeal.τ).loc Cert.FinishSampleIdeal.main_arg10) = m ((c.tc : Thread Cert.FinishSampleIdeal.nD Cert.FinishSampleIdeal.τ).loc Cert.FinishSampleIdeal.main_arg10)
          ∧ r.2.mem ((c.tc : Thread Cert.FinishSampleIdeal.nD Cert.FinishSampleIdeal.τ).loc Cert.FinishSampleIdeal.main_arg11) = m ((c.tc : Thread Cert.FinishSampleIdeal.nD Cert.FinishSampleIdeal.τ).loc Cert.FinishSampleIdeal.main_arg11)
          ∧ r.2.mem ((c.tc : Thread Cert.FinishSampleIdeal.nD Cert.FinishSampleIdeal.τ).loc Cert.FinishSampleIdeal.main_arg12) = m ((c.tc : Thread Cert.FinishSampleIdeal.nD Cert.FinishSampleIdeal.τ).loc Cert.FinishSampleIdeal.main_arg12)
          ∧ r.2.mem ((c.tc : Thread Cert.FinishSampleIdeal.nD Cert.FinishSampleIdeal.τ).loc Cert.FinishSampleIdeal.main_arg13) = m ((c.tc : Thread Cert.FinishSampleIdeal.nD Cert.FinishSampleIdeal.τ).loc Cert.FinishSampleIdeal.main_arg13)
          ∧ r.2.mem ((c.tc : Thread Cert.FinishSampleIdeal.nD Cert.FinishSampleIdeal.τ).loc Cert.FinishSampleIdeal.main_arg14) = m ((c.tc : Thread Cert.FinishSampleIdeal.nD Cert.FinishSampleIdeal.τ).loc Cert.FinishSampleIdeal.main_arg14))
      ∧ θ_run (Cert.FinishSampleRefIdeal.defs (F := Ideal)) (onTc (τ := Cert.FinishSampleRefIdeal.τ) (Cert.FinishSampleRefIdeal.main (F := Ideal))) ⟨m', fun _ => 0, g'⟩ (fun r => ∀ c : Dev Cert.FinishSampleRefIdeal.nD,
          r.2.mem ((c.tc : Thread Cert.FinishSampleRefIdeal.nD Cert.FinishSampleRefIdeal.τ).loc Cert.FinishSampleRefIdeal.main_v81) = v0 c
          ∧ r.2.mem ((c.tc : Thread Cert.FinishSampleRefIdeal.nD Cert.FinishSampleRefIdeal.τ).loc Cert.FinishSampleRefIdeal.main_arg0) = m' ((c.tc : Thread Cert.FinishSampleRefIdeal.nD Cert.FinishSampleRefIdeal.τ).loc Cert.FinishSampleRefIdeal.main_arg0)
          ∧ r.2.mem ((c.tc : Thread Cert.FinishSampleRefIdeal.nD Cert.FinishSampleRefIdeal.τ).loc Cert.FinishSampleRefIdeal.main_arg1) = m' ((c.tc : Thread Cert.FinishSampleRefIdeal.nD Cert.FinishSampleRefIdeal.τ).loc Cert.FinishSampleRefIdeal.main_arg1)
          ∧ r.2.mem ((c.tc : Thread Cert.FinishSampleRefIdeal.nD Cert.FinishSampleRefIdeal.τ).loc Cert.FinishSampleRefIdeal.main_arg2) = m' ((c.tc : Thread Cert.FinishSampleRefIdeal.nD Cert.FinishSampleRefIdeal.τ).loc Cert.FinishSampleRefIdeal.main_arg2)
          ∧ r.2.mem ((c.tc : Thread Cert.FinishSampleRefIdeal.nD Cert.FinishSampleRefIdeal.τ).loc Cert.FinishSampleRefIdeal.main_arg3) = m' ((c.tc : Thread Cert.FinishSampleRefIdeal.nD Cert.FinishSampleRefIdeal.τ).loc Cert.FinishSampleRefIdeal.main_arg3)
          ∧ r.2.mem ((c.tc : Thread Cert.FinishSampleRefIdeal.nD Cert.FinishSampleRefIdeal.τ).loc Cert.FinishSampleRefIdeal.main_arg4) = m' ((c.tc : Thread Cert.FinishSampleRefIdeal.nD Cert.FinishSampleRefIdeal.τ).loc Cert.FinishSampleRefIdeal.main_arg4)
          ∧ r.2.mem ((c.tc : Thread Cert.FinishSampleRefIdeal.nD Cert.FinishSampleRefIdeal.τ).loc Cert.FinishSampleRefIdeal.main_arg5) = m' ((c.tc : Thread Cert.FinishSampleRefIdeal.nD Cert.FinishSampleRefIdeal.τ).loc Cert.FinishSampleRefIdeal.main_arg5)
          ∧ r.2.mem ((c.tc : Thread Cert.FinishSampleRefIdeal.nD Cert.FinishSampleRefIdeal.τ).loc Cert.FinishSampleRefIdeal.main_arg6) = m' ((c.tc : Thread Cert.FinishSampleRefIdeal.nD Cert.FinishSampleRefIdeal.τ).loc Cert.FinishSampleRefIdeal.main_arg6)
          ∧ r.2.mem ((c.tc : Thread Cert.FinishSampleRefIdeal.nD Cert.FinishSampleRefIdeal.τ).loc Cert.FinishSampleRefIdeal.main_arg7) = m' ((c.tc : Thread Cert.FinishSampleRefIdeal.nD Cert.FinishSampleRefIdeal.τ).loc Cert.FinishSampleRefIdeal.main_arg7)
          ∧ r.2.mem ((c.tc : Thread Cert.FinishSampleRefIdeal.nD Cert.FinishSampleRefIdeal.τ).loc Cert.FinishSampleRefIdeal.main_arg8) = m' ((c.tc : Thread Cert.FinishSampleRefIdeal.nD Cert.FinishSampleRefIdeal.τ).loc Cert.FinishSampleRefIdeal.main_arg8)
          ∧ r.2.mem ((c.tc : Thread Cert.FinishSampleRefIdeal.nD Cert.FinishSampleRefIdeal.τ).loc Cert.FinishSampleRefIdeal.main_arg9) = m' ((c.tc : Thread Cert.FinishSampleRefIdeal.nD Cert.FinishSampleRefIdeal.τ).loc Cert.FinishSampleRefIdeal.main_arg9)
          ∧ r.2.mem ((c.tc : Thread Cert.FinishSampleRefIdeal.nD Cert.FinishSampleRefIdeal.τ).loc Cert.FinishSampleRefIdeal.main_arg10) = m' ((c.tc : Thread Cert.FinishSampleRefIdeal.nD Cert.FinishSampleRefIdeal.τ).loc Cert.FinishSampleRefIdeal.main_arg10)
          ∧ r.2.mem ((c.tc : Thread Cert.FinishSampleRefIdeal.nD Cert.FinishSampleRefIdeal.τ).loc Cert.FinishSampleRefIdeal.main_arg11) = m' ((c.tc : Thread Cert.FinishSampleRefIdeal.nD Cert.FinishSampleRefIdeal.τ).loc Cert.FinishSampleRefIdeal.main_arg11)
          ∧ r.2.mem ((c.tc : Thread Cert.FinishSampleRefIdeal.nD Cert.FinishSampleRefIdeal.τ).loc Cert.FinishSampleRefIdeal.main_arg12) = m' ((c.tc : Thread Cert.FinishSampleRefIdeal.nD Cert.FinishSampleRefIdeal.τ).loc Cert.FinishSampleRefIdeal.main_arg12)
          ∧ r.2.mem ((c.tc : Thread Cert.FinishSampleRefIdeal.nD Cert.FinishSampleRefIdeal.τ).loc Cert.FinishSampleRefIdeal.main_arg13) = m' ((c.tc : Thread Cert.FinishSampleRefIdeal.nD Cert.FinishSampleRefIdeal.τ).loc Cert.FinishSampleRefIdeal.main_arg13)
          ∧ r.2.mem ((c.tc : Thread Cert.FinishSampleRefIdeal.nD Cert.FinishSampleRefIdeal.τ).loc Cert.FinishSampleRefIdeal.main_arg14) = m' ((c.tc : Thread Cert.FinishSampleRefIdeal.nD Cert.FinishSampleRefIdeal.τ).loc Cert.FinishSampleRefIdeal.main_arg14))

def preserves_ProjSample_ProjSampleIdeal : Prop :=
  True

def algebraic_ProjSampleIdeal_ProjSampleRefIdeal [hProjSampleIdeal : Cert.ProjSampleIdeal.Facts] [hProjSampleRefIdeal : Cert.ProjSampleRefIdeal.Facts] : Prop :=
  ∀ (m : (ℓ : Loc Cert.ProjSampleIdeal.nD Cert.ProjSampleIdeal.τ Cert.ProjSampleIdeal.sig) → Buf (Elt Ideal) ℓ) (g : Dev Cert.ProjSampleIdeal.nD → PrngReg)
    (m' : (ℓ : Loc Cert.ProjSampleRefIdeal.nD Cert.ProjSampleRefIdeal.τ Cert.ProjSampleRefIdeal.sig) → Buf (Elt Ideal) ℓ) (g' : Dev Cert.ProjSampleRefIdeal.nD → PrngReg), Pre_ProjSampleIdeal m →
    (∀ c : Dev Cert.ProjSampleIdeal.nD,
      m' ((c.tc : Thread Cert.ProjSampleRefIdeal.nD Cert.ProjSampleRefIdeal.τ).loc Cert.ProjSampleRefIdeal.main_arg0) = m ((c.tc : Thread Cert.ProjSampleIdeal.nD Cert.ProjSampleIdeal.τ).loc Cert.ProjSampleIdeal.main_arg0)
      ∧ m' ((c.tc : Thread Cert.ProjSampleRefIdeal.nD Cert.ProjSampleRefIdeal.τ).loc Cert.ProjSampleRefIdeal.main_arg1) = m ((c.tc : Thread Cert.ProjSampleIdeal.nD Cert.ProjSampleIdeal.τ).loc Cert.ProjSampleIdeal.main_arg1)
      ∧ m' ((c.tc : Thread Cert.ProjSampleRefIdeal.nD Cert.ProjSampleRefIdeal.τ).loc Cert.ProjSampleRefIdeal.main_arg2) = m ((c.tc : Thread Cert.ProjSampleIdeal.nD Cert.ProjSampleIdeal.τ).loc Cert.ProjSampleIdeal.main_arg2)
      ∧ m' ((c.tc : Thread Cert.ProjSampleRefIdeal.nD Cert.ProjSampleRefIdeal.τ).loc Cert.ProjSampleRefIdeal.main_arg3) = m ((c.tc : Thread Cert.ProjSampleIdeal.nD Cert.ProjSampleIdeal.τ).loc Cert.ProjSampleIdeal.main_arg3)) →
    ∃ (v0 : (c : Dev Cert.ProjSampleIdeal.nD) → Buf (Elt Ideal) ((c.tc : Thread Cert.ProjSampleIdeal.nD Cert.ProjSampleIdeal.τ).loc Cert.ProjSampleIdeal.main_v60_1)) (v1 : (c : Dev Cert.ProjSampleIdeal.nD) → Buf (Elt Ideal) ((c.tc : Thread Cert.ProjSampleIdeal.nD Cert.ProjSampleIdeal.τ).loc Cert.ProjSampleIdeal.main_v60_3)) (v2 : (c : Dev Cert.ProjSampleIdeal.nD) → Buf (Elt Ideal) ((c.tc : Thread Cert.ProjSampleIdeal.nD Cert.ProjSampleIdeal.τ).loc Cert.ProjSampleIdeal.main_v60_6)),
      θ_run (Cert.ProjSampleIdeal.defs (F := Ideal)) (onTc (τ := Cert.ProjSampleIdeal.τ) (Cert.ProjSampleIdeal.main (F := Ideal))) ⟨m, fun _ => 0, g⟩ (fun r => ∀ c : Dev Cert.ProjSampleIdeal.nD,
          r.2.mem ((c.tc : Thread Cert.ProjSampleIdeal.nD Cert.ProjSampleIdeal.τ).loc Cert.ProjSampleIdeal.main_v60_1) = v0 c
          ∧ r.2.mem ((c.tc : Thread Cert.ProjSampleIdeal.nD Cert.ProjSampleIdeal.τ).loc Cert.ProjSampleIdeal.main_v60_3) = v1 c
          ∧ r.2.mem ((c.tc : Thread Cert.ProjSampleIdeal.nD Cert.ProjSampleIdeal.τ).loc Cert.ProjSampleIdeal.main_v60_6) = v2 c
          ∧ r.2.mem ((c.tc : Thread Cert.ProjSampleIdeal.nD Cert.ProjSampleIdeal.τ).loc Cert.ProjSampleIdeal.main_arg0) = m ((c.tc : Thread Cert.ProjSampleIdeal.nD Cert.ProjSampleIdeal.τ).loc Cert.ProjSampleIdeal.main_arg0)
          ∧ r.2.mem ((c.tc : Thread Cert.ProjSampleIdeal.nD Cert.ProjSampleIdeal.τ).loc Cert.ProjSampleIdeal.main_arg1) = m ((c.tc : Thread Cert.ProjSampleIdeal.nD Cert.ProjSampleIdeal.τ).loc Cert.ProjSampleIdeal.main_arg1)
          ∧ r.2.mem ((c.tc : Thread Cert.ProjSampleIdeal.nD Cert.ProjSampleIdeal.τ).loc Cert.ProjSampleIdeal.main_arg2) = m ((c.tc : Thread Cert.ProjSampleIdeal.nD Cert.ProjSampleIdeal.τ).loc Cert.ProjSampleIdeal.main_arg2)
          ∧ r.2.mem ((c.tc : Thread Cert.ProjSampleIdeal.nD Cert.ProjSampleIdeal.τ).loc Cert.ProjSampleIdeal.main_arg3) = m ((c.tc : Thread Cert.ProjSampleIdeal.nD Cert.ProjSampleIdeal.τ).loc Cert.ProjSampleIdeal.main_arg3))
      ∧ θ_run (Cert.ProjSampleRefIdeal.defs (F := Ideal)) (onTc (τ := Cert.ProjSampleRefIdeal.τ) (Cert.ProjSampleRefIdeal.main (F := Ideal))) ⟨m', fun _ => 0, g'⟩ (fun r => ∀ c : Dev Cert.ProjSampleRefIdeal.nD,
          r.2.mem ((c.tc : Thread Cert.ProjSampleRefIdeal.nD Cert.ProjSampleRefIdeal.τ).loc Cert.ProjSampleRefIdeal.main_v37) = v0 c
          ∧ r.2.mem ((c.tc : Thread Cert.ProjSampleRefIdeal.nD Cert.ProjSampleRefIdeal.τ).loc Cert.ProjSampleRefIdeal.main_v38) = v1 c
          ∧ r.2.mem ((c.tc : Thread Cert.ProjSampleRefIdeal.nD Cert.ProjSampleRefIdeal.τ).loc Cert.ProjSampleRefIdeal.main_v39) = v2 c
          ∧ r.2.mem ((c.tc : Thread Cert.ProjSampleRefIdeal.nD Cert.ProjSampleRefIdeal.τ).loc Cert.ProjSampleRefIdeal.main_arg0) = m' ((c.tc : Thread Cert.ProjSampleRefIdeal.nD Cert.ProjSampleRefIdeal.τ).loc Cert.ProjSampleRefIdeal.main_arg0)
          ∧ r.2.mem ((c.tc : Thread Cert.ProjSampleRefIdeal.nD Cert.ProjSampleRefIdeal.τ).loc Cert.ProjSampleRefIdeal.main_arg1) = m' ((c.tc : Thread Cert.ProjSampleRefIdeal.nD Cert.ProjSampleRefIdeal.τ).loc Cert.ProjSampleRefIdeal.main_arg1)
          ∧ r.2.mem ((c.tc : Thread Cert.ProjSampleRefIdeal.nD Cert.ProjSampleRefIdeal.τ).loc Cert.ProjSampleRefIdeal.main_arg2) = m' ((c.tc : Thread Cert.ProjSampleRefIdeal.nD Cert.ProjSampleRefIdeal.τ).loc Cert.ProjSampleRefIdeal.main_arg2)
          ∧ r.2.mem ((c.tc : Thread Cert.ProjSampleRefIdeal.nD Cert.ProjSampleRefIdeal.τ).loc Cert.ProjSampleRefIdeal.main_arg3) = m' ((c.tc : Thread Cert.ProjSampleRefIdeal.nD Cert.ProjSampleRefIdeal.τ).loc Cert.ProjSampleRefIdeal.main_arg3))

def Claim : Prop :=
  ∃ (hRetention : Cert.Retention.Facts) (hRetentionIdeal : Cert.RetentionIdeal.Facts) (hRetentionRefIdeal : Cert.RetentionRefIdeal.Facts) (hFinish : Cert.Finish.Facts) (hFinishIdeal : Cert.FinishIdeal.Facts) (hFinishRefIdeal : Cert.FinishRefIdeal.Facts) (hProj : Cert.Proj.Facts) (hProjIdeal : Cert.ProjIdeal.Facts) (hProjRefIdeal : Cert.ProjRefIdeal.Facts) (hFinishSample : Cert.FinishSample.Facts) (hFinishSampleIdeal : Cert.FinishSampleIdeal.Facts) (hFinishSampleRefIdeal : Cert.FinishSampleRefIdeal.Facts) (hProjSample : Cert.ProjSample.Facts) (hProjSampleIdeal : Cert.ProjSampleIdeal.Facts) (hProjSampleRefIdeal : Cert.ProjSampleRefIdeal.Facts),
    quiescent_Retention (hRetention := hRetention)
    ∧ quiescent_RetentionIdeal (hRetentionIdeal := hRetentionIdeal)
    ∧ quiescent_RetentionRefIdeal (hRetentionRefIdeal := hRetentionRefIdeal)
    ∧ quiescent_Finish (hFinish := hFinish)
    ∧ quiescent_FinishIdeal (hFinishIdeal := hFinishIdeal)
    ∧ quiescent_FinishRefIdeal (hFinishRefIdeal := hFinishRefIdeal)
    ∧ quiescent_Proj (hProj := hProj)
    ∧ quiescent_ProjIdeal (hProjIdeal := hProjIdeal)
    ∧ quiescent_ProjRefIdeal (hProjRefIdeal := hProjRefIdeal)
    ∧ quiescent_FinishSample (hFinishSample := hFinishSample)
    ∧ quiescent_FinishSampleIdeal (hFinishSampleIdeal := hFinishSampleIdeal)
    ∧ quiescent_FinishSampleRefIdeal (hFinishSampleRefIdeal := hFinishSampleRefIdeal)
    ∧ quiescent_ProjSample (hProjSample := hProjSample)
    ∧ quiescent_ProjSampleIdeal (hProjSampleIdeal := hProjSampleIdeal)
    ∧ quiescent_ProjSampleRefIdeal (hProjSampleRefIdeal := hProjSampleRefIdeal)
    ∧ preserves_Retention_RetentionIdeal
    ∧ preserves_Finish_FinishIdeal
    ∧ algebraic_FinishIdeal_FinishRefIdeal (hFinishIdeal := hFinishIdeal) (hFinishRefIdeal := hFinishRefIdeal)
    ∧ preserves_Proj_ProjIdeal
    ∧ algebraic_ProjIdeal_ProjRefIdeal (hProjIdeal := hProjIdeal) (hProjRefIdeal := hProjRefIdeal)
    ∧ preserves_FinishSample_FinishSampleIdeal
    ∧ algebraic_FinishSampleIdeal_FinishSampleRefIdeal (hFinishSampleIdeal := hFinishSampleIdeal) (hFinishSampleRefIdeal := hFinishSampleRefIdeal)
    ∧ preserves_ProjSample_ProjSampleIdeal
    ∧ algebraic_ProjSampleIdeal_ProjSampleRefIdeal (hProjSampleIdeal := hProjSampleIdeal) (hProjSampleRefIdeal := hProjSampleRefIdeal)
-- ==== Retention.lean ====
abbrev S8x8192x8x64 : Shape := ⟨4, ![8, 8192, 8, 64]⟩
abbrev S8x8192x1024 : Shape := ⟨3, ![8, 8192, 1024]⟩
abbrev S1024 : Shape := ⟨1, ![1024]⟩
abbrev S8x128 : Shape := ⟨2, ![8, 128]⟩
abbrev S8 : Shape := ⟨1, ![8]⟩
abbrev S_ : Shape := ⟨0, ![]⟩
abbrev S8x8x128x128 : Shape := ⟨4, ![8, 8, 128, 128]⟩
abbrev S8x8192x4x2x2x32 : Shape := ⟨6, ![8, 8192, 4, 2, 2, 32]⟩
abbrev S8x8192x512 : Shape := ⟨3, ![8, 8192, 512]⟩
abbrev S1x1024 : Shape := ⟨2, ![1, 1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x1 : Shape := ⟨3, ![8, 1, 1]⟩
abbrev S1x256x256 : Shape := ⟨3, ![1, 256, 256]⟩
abbrev S8x256x256 : Shape := ⟨3, ![8, 256, 256]⟩
abbrev S8x1 : Shape := ⟨2, ![8, 1]⟩
abbrev S8x256 : Shape := ⟨2, ![8, 256]⟩
abbrev S8x1x128 : Shape := ⟨3, ![8, 1, 128]⟩
abbrev S8x256x128 : Shape := ⟨3, ![8, 256, 128]⟩
abbrev S8x256x1 : Shape := ⟨3, ![8, 256, 1]⟩
abbrev S8x1x256x128 : Shape := ⟨4, ![8, 1, 256, 128]⟩
abbrev S8x2x256x128 : Shape := ⟨4, ![8, 2, 256, 128]⟩
abbrev S1x256x512 : Shape := ⟨3, ![1, 256, 512]⟩
abbrev S1x256x1024 : Shape := ⟨3, ![1, 256, 1024]⟩
abbrev S1x8x128x128 : Shape := ⟨4, ![1, 8, 128, 128]⟩
abbrev S8x128x128 : Shape := ⟨3, ![8, 128, 128]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S1x1x256x128 : Shape := ⟨4, ![1, 1, 256, 128]⟩
abbrev S1x1x128 : Shape := ⟨3, ![1, 1, 128]⟩
abbrev S1x128 : Shape := ⟨2, ![1, 128]⟩
abbrev S8x4x2x2x2x32x128 : Shape := ⟨7, ![8, 4, 2, 2, 2, 32, 128]⟩
abbrev S8x4x1x2x1x32x128 : Shape := ⟨7, ![8, 4, 1, 2, 1, 32, 128]⟩
abbrev S8x4x2x32x128 : Shape := ⟨5, ![8, 4, 2, 32, 128]⟩
abbrev S8x4x1x2x32x128 : Shape := ⟨6, ![8, 4, 1, 2, 32, 128]⟩
abbrev S8x4x2x2x32x128 : Shape := ⟨6, ![8, 4, 2, 2, 32, 128]⟩
abbrev S8x8x64x128 : Shape := ⟨4, ![8, 8, 64, 128]⟩

abbrev nBuf : Space → Nat
  | .hbm => 102
  | .vmem => 20
  | .smem => 0
  | _ => 0

abbrev bufTy : (tb : Table) → Fin (tcTables nBuf tb) → BufTy
  | .hbm, ⟨0, _⟩ => ⟨S8x8192x8x64, .f32⟩
  | .hbm, ⟨1, _⟩ => ⟨S8x8192x8x64, .f32⟩
  | .hbm, ⟨2, _⟩ => ⟨S8x8192x1024, .f32⟩
  | .hbm, ⟨3, _⟩ => ⟨S8x8192x1024, .f32⟩
  | .hbm, ⟨4, _⟩ => ⟨S1024, .f32⟩
  | .hbm, ⟨5, _⟩ => ⟨S8x128, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8x8x128x128, .f32⟩
  | .hbm, ⟨18, _⟩ => ⟨S8x8192x4x2x2x32, .f32⟩
  | .hbm, ⟨19, _⟩ => ⟨S8x8192x4x2x2x32, .f32⟩
  | .hbm, ⟨20, _⟩ => ⟨S8x8192x512, .f32⟩
  | .hbm, ⟨21, _⟩ => ⟨S8x8192x512, .bf16⟩
  | .hbm, ⟨22, _⟩ => ⟨S8x8192x4x2x2x32, .f32⟩
  | .hbm, ⟨23, _⟩ => ⟨S8x8192x4x2x2x32, .f32⟩
  | .hbm, ⟨24, _⟩ => ⟨S8x8192x512, .f32⟩
  | .hbm, ⟨25, _⟩ => ⟨S8x8192x512, .bf16⟩
  | .hbm, ⟨26, _⟩ => ⟨S8x8192x1024, .bf16⟩
  | .hbm, ⟨27, _⟩ => ⟨S8x8192x1024, .bf16⟩
  | .hbm, ⟨28, _⟩ => ⟨S1x1024, .f32⟩
  | .hbm, ⟨29, _⟩ => ⟨S256, .f32⟩
  | .hbm, ⟨30, _⟩ => ⟨S256x1, .f32⟩
  | .hbm, ⟨31, _⟩ => ⟨S1x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .i1⟩
  | .hbm, ⟨38, _⟩ => ⟨S8x1x1, .f32⟩
  | .hbm, ⟨39, _⟩ => ⟨S_, .f32⟩
  | .hbm, ⟨40, _⟩ => ⟨S256x256, .f32⟩
  | .hbm, ⟨41, _⟩ => ⟨S256x256, .f32⟩
  | .hbm, ⟨42, _⟩ => ⟨S1x256x256, .f32⟩
  | .hbm, ⟨43, _⟩ => ⟨S8x256x256, .f32⟩
  | .hbm, ⟨44, _⟩ => ⟨S8x256x256, .f32⟩
  | .hbm, ⟨45, _⟩ => ⟨S8x256x256, .f32⟩
  | .hbm, ⟨46, _⟩ => ⟨S8x256x256, .f32⟩
  | .hbm, ⟨47, _⟩ => ⟨S_, .f32⟩
  | .hbm, ⟨48, _⟩ => ⟨S_, .f32⟩
  | .hbm, ⟨49, _⟩ => ⟨S8x256x256, .i1⟩
  | .hbm, ⟨50, _⟩ => ⟨S8x256x256, .f32⟩
  | .hbm, ⟨51, _⟩ => ⟨S8x256x256, .f32⟩
  | .hbm, ⟨52, _⟩ => ⟨S8x1, .f32⟩
  | .hbm, ⟨53, _⟩ => ⟨S_, .f32⟩
  | .hbm, ⟨54, _⟩ => ⟨S256, .f32⟩
  | .hbm, ⟨55, _⟩ => ⟨S256, .f32⟩
  | .hbm, ⟨56, _⟩ => ⟨S1x256, .f32⟩
  | .hbm, ⟨57, _⟩ => ⟨S8x256, .f32⟩
  | .hbm, ⟨58, _⟩ => ⟨S8x256, .f32⟩
  | .hbm, ⟨59, _⟩ => ⟨S8x256, .f32⟩
  | .hbm, ⟨60, _⟩ => ⟨S8x256, .f32⟩
  | .hbm, ⟨61, _⟩ => ⟨S8x1, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S1x256, .f32⟩
  | .hbm, ⟨66, _⟩ => ⟨S8x256, .f32⟩
  | .hbm, ⟨67, _⟩ => ⟨S8x256, .f32⟩
  | .hbm, ⟨68, _⟩ => ⟨S8x256, .f32⟩
  | .hbm, ⟨69, _⟩ => ⟨S8x256, .f32⟩
  | .hbm, ⟨70, _⟩ => ⟨S8x1x128, .f32⟩
  | .hbm, ⟨71, _⟩ => ⟨S8x256x128, .f32⟩
  | .hbm, ⟨72, _⟩ => ⟨S8x1x128, .f32⟩
  | .hbm, ⟨73, _⟩ => ⟨S8x256x1, .f32⟩
  | .hbm, ⟨74, _⟩ => ⟨S8x256x128, .f32⟩
  | .hbm, ⟨75, _⟩ => ⟨S8x256x128, .f32⟩
  | .hbm, ⟨76, _⟩ => ⟨S8x256x128, .f32⟩
  | .hbm, ⟨77, _⟩ => ⟨S8x1x256x128, .f32⟩
  | .hbm, ⟨78, _⟩ => ⟨S8x1x256x128, .f32⟩
  | .hbm, ⟨79, _⟩ => ⟨S8x2x256x128, .f32⟩
  | .hbm, ⟨80, _⟩ => ⟨S8x1x128, .f32⟩
  | .hbm, ⟨81, _⟩ => ⟨S8x256x1, .f32⟩
  | .hbm, ⟨82, _⟩ => ⟨S8x256x128, .f32⟩
  | .hbm, ⟨83, _⟩ => ⟨S8x256x128, .f32⟩
  | .hbm, ⟨84, _⟩ => ⟨S8x256x128, .f32⟩
  | .hbm, ⟨85, _⟩ => ⟨S_, .f32⟩
  | .hbm, ⟨86, _⟩ => ⟨S8, .f32⟩
  | .hbm, ⟨87, _⟩ => ⟨S8, .f32⟩
  | .hbm, ⟨88, _⟩ => ⟨S8, .f32⟩
  | .hbm, ⟨89, _⟩ => ⟨S8x1x1, .f32⟩
  | .hbm, ⟨90, _⟩ => ⟨S8x1x128, .f32⟩
  | .hbm, ⟨91, _⟩ => ⟨S8x8192x1024, .bf16⟩
  | .hbm, ⟨92, _⟩ => ⟨S8x8x128x128, .f32⟩
  | .hbm, ⟨93, _⟩ => ⟨S8x4x2x2x2x32x128, .f32⟩
  | .hbm, ⟨94, _⟩ => ⟨S8x4x1x2x1x32x128, .f32⟩
  | .hbm, ⟨95, _⟩ => ⟨S8x4x2x32x128, .f32⟩
  | .hbm, ⟨96, _⟩ => ⟨S8x4x1x2x1x32x128, .f32⟩
  | .hbm, ⟨97, _⟩ => ⟨S8x4x2x32x128, .f32⟩
  | .hbm, ⟨98, _⟩ => ⟨S8x4x1x2x32x128, .f32⟩
  | .hbm, ⟨99, _⟩ => ⟨S8x4x1x2x32x128, .f32⟩
  | .hbm, ⟨100, _⟩ => ⟨S8x4x2x2x32x128, .f32⟩
  | .hbm, ⟨101, _⟩ => ⟨S8x8x64x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x1024, .f32⟩
  | .local _ .vmem, ⟨9, _⟩ => ⟨S1x8x128x128, .f32⟩
  | .local _ .vmem, ⟨10, _⟩ => ⟨S1x8x128x128, .f32⟩
  | .local _ .vmem, ⟨11, _⟩ => ⟨S8x256x256, .f32⟩
  | .local _ .vmem, ⟨12, _⟩ => ⟨S8x2x256x128, .f32⟩
  | .local _ .vmem, ⟨13, _⟩ => ⟨S8x256x128, .f32⟩
  | .local _ .vmem, ⟨14, _⟩ => ⟨S8x1x128, .f32⟩
  | .local _ .vmem, ⟨15, _⟩ => ⟨S1x256x1024, .bf16⟩
  | .local _ .vmem, ⟨16, _⟩ => ⟨S1x256x1024, .bf16⟩
  | .local _ .vmem, ⟨17, _⟩ => ⟨S1x8x128x128, .f32⟩
  | .local _ .vmem, ⟨18, _⟩ => ⟨S1x8x128x128, .f32⟩
  | .local _ .vmem, ⟨19, _⟩ => ⟨S8x128x128, .f32⟩
  | _, _ => ⟨S8x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_8 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73_0 : Ref sig .tc := ⟨.hbm, 91, rfl⟩
abbrev main_v73_1 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v563 : BitVec 1 := Scalar.cmpi .eq arg1 c31_i32
  let v564 : BitVec 32 := Scalar.extui v563
  let c0_i32_377 : BitVec 32 := 0#32
  let v565 : BitVec 1 := Scalar.cmpi .ne v564 c0_i32_377
  v565

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x2x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== RetentionRefIdeal.lean ====
abbrev S8x8192x8x64 : Shape := ⟨4, ![8, 8192, 8, 64]⟩
abbrev S8x8192x1024 : Shape := ⟨3, ![8, 8192, 1024]⟩
abbrev S1024 : Shape := ⟨1, ![1024]⟩
abbrev S8 : Shape := ⟨1, ![8]⟩
abbrev S_ : Shape := ⟨0, ![]⟩
abbrev S8x8x8192x64 : Shape := ⟨4, ![8, 8, 8192, 64]⟩
abbrev S8x8192x8x128 : Shape := ⟨4, ![8, 8192, 8, 128]⟩
abbrev S8x8x8192x128 : Shape := ⟨4, ![8, 8, 8192, 128]⟩
abbrev S8x8x64x128 : Shape := ⟨4, ![8, 8, 64, 128]⟩
abbrev S8x8x128x64x64 : Shape := ⟨5, ![8, 8, 128, 64, 64]⟩
abbrev S128x8x8x64x64 : Shape := ⟨5, ![128, 8, 8, 64, 64]⟩
abbrev S8x8x128x64x128 : Shape := ⟨5, ![8, 8, 128, 64, 128]⟩
abbrev S128x8x8x64x128 : Shape := ⟨5, ![128, 8, 8, 64, 128]⟩
abbrev S1x8x8x64x64 : Shape := ⟨5, ![1, 8, 8, 64, 64]⟩
abbrev S8x8x64x64 : Shape := ⟨4, ![8, 8, 64, 64]⟩
abbrev S1x8x8x64x128 : Shape := ⟨5, ![1, 8, 8, 64, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S1x8x64x64 : Shape := ⟨4, ![1, 8, 64, 64]⟩
abbrev S8x1 : Shape := ⟨2, ![8, 1]⟩
abbrev S8x64 : Shape := ⟨2, ![8, 64]⟩
abbrev S1x8x64x1 : Shape := ⟨4, ![1, 8, 64, 1]⟩
abbrev S1x8x1x1 : Shape := ⟨4, ![1, 8, 1, 1]⟩
abbrev S8x8x8192 : Shape := ⟨3, ![8, 8, 8192]⟩
abbrev S8x8x8192x1 : Shape := ⟨4, ![8, 8, 8192, 1]⟩
abbrev S1x1x1024 : Shape := ⟨3, ![1, 1, 1024]⟩

abbrev nBuf : Space → Nat
  | .hbm => 169
  | .vmem => 0
  | .smem => 0
  | _ => 0

abbrev hbmTy0_0 (i : Nat) : BufTy := match i % 128 with
  | 0 => ⟨S8x8192x8x64, .f32⟩
  | 1 => ⟨S8x8192x8x64, .f32⟩
  | 2 => ⟨S8x8192x1024, .f32⟩
  | 3 => ⟨S8x8192x1024, .f32⟩
  | 4 => ⟨S1024, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S8, .f32⟩
  | 13 => ⟨S8, .f32⟩
  | 14 => ⟨S8, .f32⟩
  | 15 => ⟨S8x8x8192x64, .f32⟩
  | 16 => ⟨S8x8x8192x64, .f32⟩
  | 17 => ⟨S8x8192x8x128, .f32⟩
  | 18 => ⟨S8x8x8192x128, .f32⟩
  | 19 => ⟨S_, .f32⟩
  | 20 => ⟨S8x8x64x128, .f32⟩
  | 21 => ⟨S8x8x128x64x64, .f32⟩
  | 22 => ⟨S128x8x8x64x64, .f32⟩
  | 23 => ⟨S8x8x128x64x64, .f32⟩
  | 24 => ⟨S128x8x8x64x64, .f32⟩
  | 25 => ⟨S8x8x128x64x128, .f32⟩
  | 26 => ⟨S128x8x8x64x128, .f32⟩
  | 27 => ⟨S_, .f32⟩
  | 28 => ⟨S128x8x8x64x128, .f32⟩
  | 29 => ⟨S_, .i32⟩
  | 30 => ⟨S128x8x8x64x64, .f32⟩
  | 31 => ⟨S128x8x8x64x64, .f32⟩
  | 32 => ⟨S128x8x8x64x128, .f32⟩
  | 33 => ⟨S8, .f32⟩
  | 34 => ⟨S_, .i32⟩
  | 35 => ⟨S8x8x64x128, .f32⟩
  | 36 => ⟨S128x8x8x64x128, .f32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S1x8x8x64x64, .f32⟩
  | 44 => ⟨S8x8x64x64, .f32⟩
  | 45 => ⟨S_, .i32⟩
  | 46 => ⟨S_, .i32⟩
  | 47 => ⟨S_, .i32⟩
  | 48 => ⟨S_, .i32⟩
  | 49 => ⟨S1x8x8x64x64, .f32⟩
  | 50 => ⟨S8x8x64x64, .f32⟩
  | 51 => ⟨S_, .i32⟩
  | 52 => ⟨S_, .i32⟩
  | 53 => ⟨S_, .i32⟩
  | 54 => ⟨S_, .i32⟩
  | 55 => ⟨S1x8x8x64x128, .f32⟩
  | 56 => ⟨S8x8x64x128, .f32⟩
  | 57 => ⟨S64, .f32⟩
  | 58 => ⟨S64x1, .f32⟩
  | 59 => ⟨S1x64, .f32⟩
  | 60 => ⟨S64x64, .f32⟩
  | 61 => ⟨S64x64, .f32⟩
  | 62 => ⟨S64x64, .f32⟩
  | 63 => ⟨S8x1x1, .f32⟩
  | 64 => ⟨S_, .f32⟩
  | 65 => ⟨S64x64, .f32⟩
  | 66 => ⟨S64x64, .i1⟩
  | 67 => ⟨S_, .f32⟩
  | 68 => ⟨S64x64, .f32⟩
  | 69 => ⟨S64x64, .f32⟩
  | 70 => ⟨S1x64x64, .f32⟩
  | 71 => ⟨S8x64x64, .f32⟩
  | 72 => ⟨S8x64x64, .f32⟩
  | 73 => ⟨S8x64x64, .f32⟩
  | 74 => ⟨S8x64x64, .f32⟩
  | 75 => ⟨S_, .f32⟩
  | 76 => ⟨S_, .f32⟩
  | 77 => ⟨S8x64x64, .i1⟩
  | 78 => ⟨S8x64x64, .f32⟩
  | 79 => ⟨S8x64x64, .f32⟩
  | 80 => ⟨S8x8x64x64, .f32⟩
  | 81 => ⟨S1x8x64x64, .f32⟩
  | 82 => ⟨S8x8x64x64, .f32⟩
  | 83 => ⟨S8x8x64x64, .f32⟩
  | 84 => ⟨S8x1, .f32⟩
  | 85 => ⟨S_, .f32⟩
  | 86 => ⟨S64, .f32⟩
  | 87 => ⟨S64, .f32⟩
  | 88 => ⟨S1x64, .f32⟩
  | 89 => ⟨S8x64, .f32⟩
  | 90 => ⟨S8x64, .f32⟩
  | 91 => ⟨S8x64, .f32⟩
  | 92 => ⟨S8x64, .f32⟩
  | 93 => ⟨S1x8x64x1, .f32⟩
  | 94 => ⟨S8x8x64x64, .f32⟩
  | 95 => ⟨S8x8x64x64, .f32⟩
  | 96 => ⟨S8x8x64x128, .f32⟩
  | 97 => ⟨S8x8x64x128, .f32⟩
  | 98 => ⟨S8x8x64x128, .f32⟩
  | 99 => ⟨S8x1, .f32⟩
  | 100 => ⟨S_, .f32⟩
  | 101 => ⟨S64, .f32⟩
  | 102 => ⟨S64, .f32⟩
  | 103 => ⟨S1x64, .f32⟩
  | 104 => ⟨S8x64, .f32⟩
  | 105 => ⟨S8x64, .f32⟩
  | 106 => ⟨S8x64, .f32⟩
  | 107 => ⟨S8x64, .f32⟩
  | 108 => ⟨S1x8x64x1, .f32⟩
  | 109 => ⟨S8x8x64x64, .f32⟩
  | 110 => ⟨S8x8x64x64, .f32⟩
  | 111 => ⟨S_, .f32⟩
  | 112 => ⟨S8, .f32⟩
  | 113 => ⟨S8, .f32⟩
  | 114 => ⟨S8, .f32⟩
  | 115 => ⟨S1x8x1x1, .f32⟩
  | 116 => ⟨S8x8x64x128, .f32⟩
  | 117 => ⟨S8x8x64x128, .f32⟩
  | 118 => ⟨S8x8x64x128, .f32⟩
  | 119 => ⟨S8x8x64x128, .f32⟩
  | 120 => ⟨S1x8x8x64x128, .f32⟩
  | 121 => ⟨S_, .i32⟩
  | 122 => ⟨S_, .i32⟩
  | 123 => ⟨S_, .i32⟩
  | 124 => ⟨S_, .i32⟩
  | 125 => ⟨S128x8x8x64x128, .f32⟩
  | 126 => ⟨S_, .i32⟩
  | 127 => ⟨S_, .i32⟩
  | _ => ⟨S8x8192x8x64, .f32⟩

abbrev hbmTy0_1 (i : Nat) : BufTy := match i % 128 with
  | 0 => ⟨S8x8x128x64x128, .f32⟩
  | 1 => ⟨S8x8x8192x128, .f32⟩
  | 2 => ⟨S_, .f32⟩
  | 3 => ⟨S8x8x8192, .f32⟩
  | 4 => ⟨S8x8x8192x1, .f32⟩
  | 5 => ⟨S_, .f32⟩
  | 6 => ⟨S8x8x8192x1, .f32⟩
  | 7 => ⟨S8x8x8192x1, .f32⟩
  | 8 => ⟨S8x8x8192x128, .f32⟩
  | 9 => ⟨S8x8x8192x128, .f32⟩
  | 10 => ⟨S8x8x8192x128, .f32⟩
  | 11 => ⟨S_, .f32⟩
  | 12 => ⟨S8x8x8192, .f32⟩
  | 13 => ⟨S8x8x8192x1, .f32⟩
  | 14 => ⟨S_, .f32⟩
  | 15 => ⟨S8x8x8192x1, .f32⟩
  | 16 => ⟨S8x8x8192x1, .f32⟩
  | 17 => ⟨S8x8x8192x128, .f32⟩
  | 18 => ⟨S8x8x8192x128, .f32⟩
  | 19 => ⟨S_, .f32⟩
  | 20 => ⟨S8x8x8192x1, .f32⟩
  | 21 => ⟨S8x8x8192x1, .f32⟩
  | 22 => ⟨S8x8x8192x1, .f32⟩
  | 23 => ⟨S8x8x8192x128, .f32⟩
  | 24 => ⟨S8x8x8192x128, .f32⟩
  | 25 => ⟨S8x8192x8x128, .f32⟩
  | 26 => ⟨S8x8192x1024, .f32⟩
  | 27 => ⟨S1x1x1024, .f32⟩
  | 28 => ⟨S8x8192x1024, .f32⟩
  | 29 => ⟨S8x8192x1024, .f32⟩
  | 30 => ⟨S8x8192x1024, .f32⟩
  | 31 => ⟨S8x8192x1024, .f32⟩
  | 32 => ⟨S_, .f32⟩
  | 33 => ⟨S8x8192x1024, .f32⟩
  | 34 => ⟨S8x8192x1024, .f32⟩
  | 35 => ⟨S_, .f32⟩
  | 36 => ⟨S8x8192x1024, .f32⟩
  | 37 => ⟨S8x8192x1024, .f32⟩
  | 38 => ⟨S8x8192x1024, .f32⟩
  | 39 => ⟨S8x8192x1024, .f32⟩
  | 40 => ⟨S8x8192x1024, .bf16⟩
  | _ => ⟨S8x8192x8x64, .f32⟩

abbrev hbmTy (i : Nat) : BufTy := match i / 128 with
  | 0 => hbmTy0_0 i
  | 1 => hbmTy0_1 i
  | _ => ⟨S8x8192x8x64, .f32⟩

abbrev bufTy : (tb : Table) → Fin (tcTables nBuf tb) → BufTy
  | .hbm, ⟨i, _⟩ => hbmTy i
  | _, _ => ⟨S8x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_c : Ref sig .tc := ⟨.hbm, 29, rfl⟩
abbrev main_v20_0 : Ref sig .tc := ⟨.hbm, 30, rfl⟩
abbrev main_v20_1 : Ref sig .tc := ⟨.hbm, 31, rfl⟩
abbrev main_v20_2 : Ref sig .tc := ⟨.hbm, 32, rfl⟩
abbrev main_v20_3 : Ref sig .tc := ⟨.hbm, 33, rfl⟩
abbrev main_v20_4 : Ref sig .tc := ⟨.hbm, 34, rfl⟩
abbrev main_v20_5 : Ref sig .tc := ⟨.hbm, 35, rfl⟩
abbrev main_v20_6 : Ref sig .tc := ⟨.hbm, 36, rfl⟩
abbrev main_while0c_c_14 : Ref sig .tc := ⟨.hbm, 37, rfl⟩
abbrev main_while0c_v49 : Ref sig .tc := ⟨.hbm, 38, rfl⟩
abbrev main_while0b_call0_c : Ref sig .tc := ⟨.hbm, 39, rfl⟩
abbrev main_while0b_call0_c_0 : Ref sig .tc := ⟨.hbm, 40, rfl⟩
abbrev main_while0b_call0_c_1 : Ref sig .tc := ⟨.hbm, 41, rfl⟩
abbrev main_while0b_call0_c_2 : Ref sig .tc := ⟨.hbm, 42, rfl⟩
abbrev main_while0b_call0_v0 : Ref sig .tc := ⟨.hbm, 43, rfl⟩
abbrev main_while0b_v49 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_call1_v0 : Ref sig .tc := ⟨.hbm, 49, rfl⟩
abbrev main_while0b_v50 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_c_2 : Ref sig .tc := ⟨.hbm, 54, rfl⟩
abbrev main_while0b_call2_v0 : Ref sig .tc := ⟨.hbm, 55, rfl⟩
abbrev main_while0b_v51 : Ref sig .tc := ⟨.hbm, 56, rfl⟩
abbrev main_while0b_v52 : Ref sig .tc := ⟨.hbm, 57, rfl⟩
abbrev main_while0b_v53 : Ref sig .tc := ⟨.hbm, 58, rfl⟩
abbrev main_while0b_v54 : Ref sig .tc := ⟨.hbm, 59, rfl⟩
abbrev main_while0b_v55 : Ref sig .tc := ⟨.hbm, 60, rfl⟩
abbrev main_while0b_v56 : Ref sig .tc := ⟨.hbm, 61, rfl⟩
abbrev main_while0b_v57 : Ref sig .tc := ⟨.hbm, 62, rfl⟩
abbrev main_while0b_v58 : Ref sig .tc := ⟨.hbm, 63, rfl⟩
abbrev main_while0b_cst_14 : Ref sig .tc := ⟨.hbm, 64, rfl⟩
abbrev main_while0b_v59 : Ref sig .tc := ⟨.hbm, 65, rfl⟩
abbrev main_while0b_v60 : Ref sig .tc := ⟨.hbm, 66, rfl⟩
abbrev main_while0b_cst_15 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_v64 : Ref sig .tc := ⟨.hbm, 71, rfl⟩
abbrev main_while0b_v65 : Ref sig .tc := ⟨.hbm, 72, rfl⟩
abbrev main_while0b_v66 : Ref sig .tc := ⟨.hbm, 73, rfl⟩
abbrev main_while0b_v67 : Ref sig .tc := ⟨.hbm, 74, rfl⟩
abbrev main_while0b_cst_16 : Ref sig .tc := ⟨.hbm, 75, rfl⟩
abbrev main_while0b_call3_v0 : Ref sig .tc := ⟨.hbm, 76, rfl⟩
abbrev main_while0b_call3_v1 : Ref sig .tc := ⟨.hbm, 77, rfl⟩
abbrev main_while0b_call3_v2 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_v73 : Ref sig .tc := ⟨.hbm, 84, rfl⟩
abbrev main_while0b_cst_17 : Ref sig .tc := ⟨.hbm, 85, rfl⟩
abbrev main_while0b_v74 : Ref sig .tc := ⟨.hbm, 86, rfl⟩
abbrev main_while0b_v75 : Ref sig .tc := ⟨.hbm, 87, rfl⟩
abbrev main_while0b_v76 : Ref sig .tc := ⟨.hbm, 88, rfl⟩
abbrev main_while0b_v77 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_v81 : Ref sig .tc := ⟨.hbm, 93, rfl⟩
abbrev main_while0b_v82 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_cst_18 : Ref sig .tc := ⟨.hbm, 100, rfl⟩
abbrev main_while0b_v88 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_v92 : Ref sig .tc := ⟨.hbm, 105, rfl⟩
abbrev main_while0b_v93 : Ref sig .tc := ⟨.hbm, 106, rfl⟩
abbrev main_while0b_v94 : Ref sig .tc := ⟨.hbm, 107, rfl⟩
abbrev main_while0b_v95 : Ref sig .tc := ⟨.hbm, 108, rfl⟩
abbrev main_while0b_v96 : Ref sig .tc := ⟨.hbm, 109, rfl⟩
abbrev main_while0b_v97 : Ref sig .tc := ⟨.hbm, 110, rfl⟩
abbrev main_while0b_cst_19 : Ref sig .tc := ⟨.hbm, 111, rfl⟩
abbrev main_while0b_v98 : Ref sig .tc := ⟨.hbm, 112, rfl⟩
abbrev main_while0b_v99 : Ref sig .tc := ⟨.hbm, 113, rfl⟩
abbrev main_while0b_v100 : Ref sig .tc := ⟨.hbm, 114, rfl⟩
abbrev main_while0b_v101 : Ref sig .tc := ⟨.hbm, 115, rfl⟩
abbrev main_while0b_v102 : Ref sig .tc := ⟨.hbm, 116, rfl⟩
abbrev main_while0b_v103 : Ref sig .tc := ⟨.hbm, 117, rfl⟩
abbrev main_while0b_v104 : Ref sig .tc := ⟨.hbm, 118, rfl⟩
abbrev main_while0b_v105 : Ref sig .tc := ⟨.hbm, 119, rfl⟩
abbrev main_while0b_call4_v0 : Ref sig .tc := ⟨.hbm, 120, rfl⟩
abbrev main_while0b_call4_c : Ref sig .tc := ⟨.hbm, 121, rfl⟩
abbrev main_while0b_call4_c_0 : Ref sig .tc := ⟨.hbm, 122, rfl⟩
abbrev main_while0b_call4_c_1 : Ref sig .tc := ⟨.hbm, 123, rfl⟩
abbrev main_while0b_call4_c_2 : Ref sig .tc := ⟨.hbm, 124, rfl⟩
abbrev main_while0b_v106 : Ref sig .tc := ⟨.hbm, 125, rfl⟩
abbrev main_while0b_c_20 : Ref sig .tc := ⟨.hbm, 126, rfl⟩
abbrev main_while0b_v107 : Ref sig .tc := ⟨.hbm, 127, rfl⟩
abbrev main_v21 : Ref sig .tc := ⟨.hbm, 128, rfl⟩
abbrev main_v22 : Ref sig .tc := ⟨.hbm, 129, rfl⟩
abbrev main_cst_3 : Ref sig .tc := ⟨.hbm, 130, rfl⟩
abbrev main_v23 : Ref sig .tc := ⟨.hbm, 131, rfl⟩
abbrev main_v24 : Ref sig .tc := ⟨.hbm, 132, rfl⟩
abbrev main_cst_4 : Ref sig .tc := ⟨.hbm, 133, rfl⟩
abbrev main_v25 : Ref sig .tc := ⟨.hbm, 134, rfl⟩
abbrev main_v26 : Ref sig .tc := ⟨.hbm, 135, rfl⟩
abbrev main_v27 : Ref sig .tc := ⟨.hbm, 136, rfl⟩
abbrev main_v28 : Ref sig .tc := ⟨.hbm, 137, rfl⟩
abbrev main_v29 : Ref sig .tc := ⟨.hbm, 138, rfl⟩
abbrev main_cst_5 : Ref sig .tc := ⟨.hbm, 139, rfl⟩
abbrev main_v30 : Ref sig .tc := ⟨.hbm, 140, rfl⟩
abbrev main_v31 : Ref sig .tc := ⟨.hbm, 141, rfl⟩
abbrev main_cst_6 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_cst_7 : Ref sig .tc := ⟨.hbm, 147, rfl⟩
abbrev main_v36 : Ref sig .tc := ⟨.hbm, 148, rfl⟩
abbrev main_v37 : Ref sig .tc := ⟨.hbm, 149, rfl⟩
abbrev main_v38 : Ref sig .tc := ⟨.hbm, 150, rfl⟩
abbrev main_v39 : Ref sig .tc := ⟨.hbm, 151, rfl⟩
abbrev main_v40 : Ref sig .tc := ⟨.hbm, 152, rfl⟩
abbrev main_v41 : Ref sig .tc := ⟨.hbm, 153, rfl⟩
abbrev main_v42 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_call5_v0 : Ref sig .tc := ⟨.hbm, 158, rfl⟩
abbrev main_call5_v1 : Ref sig .tc := ⟨.hbm, 159, rfl⟩
abbrev main_call5_cst : Ref sig .tc := ⟨.hbm, 160, rfl⟩
abbrev main_call5_v2 : Ref sig .tc := ⟨.hbm, 161, rfl⟩
abbrev main_call5_v3 : Ref sig .tc := ⟨.hbm, 162, rfl⟩
abbrev main_call5_cst_0 : Ref sig .tc := ⟨.hbm, 163, rfl⟩
abbrev main_call5_v4 : Ref sig .tc := ⟨.hbm, 164, rfl⟩
abbrev main_call5_v5 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩

abbrev nD : Nat := 1
abbrev τ : Topo := Topo.v7x

variable {F : FTy → Type} [FloatOps F]

abbrev main_while0_count : Scf.Loop 32 := ⟨0#32, 128#32, 1#32⟩
-- ==== Finish.lean ====
abbrev S8x8192x1024 : Shape := ⟨3, ![8, 8192, 1024]⟩
abbrev S8x8192x512 : Shape := ⟨3, ![8, 8192, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S65536x1024 : Shape := ⟨2, ![65536, 1024]⟩
abbrev S65536x512 : Shape := ⟨2, ![65536, 512]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 31
  | .vmem => 22
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S65536x1024, .f32⟩
  | .hbm, ⟨16, _⟩ => ⟨S65536x512, .bf16⟩
  | .hbm, ⟨17, _⟩ => ⟨S65536x1024, .bf16⟩
  | .hbm, ⟨18, _⟩ => ⟨S65536x1024, .bf16⟩
  | .hbm, ⟨19, _⟩ => ⟨S65536x1024, .bf16⟩
  | .hbm, ⟨20, _⟩ => ⟨S512x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1024x2816, .bf16⟩
  | .hbm, ⟨26, _⟩ => ⟨S1024x2816, .bf16⟩
  | .hbm, ⟨27, _⟩ => ⟨S2816x1024, .bf16⟩
  | .hbm, ⟨28, _⟩ => ⟨S1x1024, .f32⟩
  | .hbm, ⟨29, _⟩ => ⟨S1x1024, .f32⟩
  | .hbm, ⟨30, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x2816, .bf16⟩
  | .local _ .vmem, ⟨16, _⟩ => ⟨S1024x2816, .bf16⟩
  | .local _ .vmem, ⟨17, _⟩ => ⟨S2816x1024, .bf16⟩
  | .local _ .vmem, ⟨18, _⟩ => ⟨S1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem15_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== FinishRefIdeal.lean ====
abbrev S8x8192x1024 : Shape := ⟨3, ![8, 8192, 1024]⟩
abbrev S8x8192x512 : Shape := ⟨3, ![8, 8192, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x2816 : Shape := ⟨3, ![8, 8192, 2816]⟩
abbrev S65536x1024 : Shape := ⟨2, ![65536, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x1024, .bf16⟩
  | .hbm, ⟨3, _⟩ => ⟨S8x8192x1024, .bf16⟩
  | .hbm, ⟨4, _⟩ => ⟨S8x8192x1024, .bf16⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S8x8192x512, .f32⟩
  | .hbm, ⟨16, _⟩ => ⟨S8x8192x1024, .f32⟩
  | .hbm, ⟨17, _⟩ => ⟨S8x8192x1024, .f32⟩
  | .hbm, ⟨18, _⟩ => ⟨S8x8192x1024, .f32⟩
  | .hbm, ⟨19, _⟩ => ⟨S8x8192x1024, .f32⟩
  | .hbm, ⟨20, _⟩ => ⟨S8x8192x1024, .f32⟩
  | .hbm, ⟨21, _⟩ => ⟨S_, .f32⟩
  | .hbm, ⟨22, _⟩ => ⟨S8x8192x1024, .f32⟩
  | .hbm, ⟨23, _⟩ => ⟨S8x8192x1024, .f32⟩
  | .hbm, ⟨24, _⟩ => ⟨S_, .f32⟩
  | .hbm, ⟨25, _⟩ => ⟨S8x8192x1024, .f32⟩
  | .hbm, ⟨26, _⟩ => ⟨S8x8192x1024, .f32⟩
  | .hbm, ⟨27, _⟩ => ⟨S8x8192x1024, .f32⟩
  | .hbm, ⟨28, _⟩ => ⟨S8x8192x1024, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x8192x1024, .f32⟩
  | .hbm, ⟨33, _⟩ => ⟨S8x8192x1024, .f32⟩
  | .hbm, ⟨34, _⟩ => ⟨S_, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S_, .f32⟩
  | .hbm, ⟨41, _⟩ => ⟨S8x8192x1024, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S_, .f32⟩
  | .hbm, ⟨49, _⟩ => ⟨S8x8192x1, .f32⟩
  | .hbm, ⟨50, _⟩ => ⟨S8x8192x1, .f32⟩
  | .hbm, ⟨51, _⟩ => ⟨S8x8192x1024, .f32⟩
  | .hbm, ⟨52, _⟩ => ⟨S8x8192x1024, .f32⟩
  | .hbm, ⟨53, _⟩ => ⟨S8x8192x1024, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x8192x1024, .f32⟩
  | .hbm, ⟨61, _⟩ => ⟨S8x8192x1024, .f32⟩
  | .hbm, ⟨62, _⟩ => ⟨S_, .f32⟩
  | .hbm, ⟨63, _⟩ => ⟨S8x8192x1, .f32⟩
  | .hbm, ⟨64, _⟩ => ⟨S8x8192x1, .f32⟩
  | .hbm, ⟨65, _⟩ => ⟨S8x8192x1, .f32⟩
  | .hbm, ⟨66, _⟩ => ⟨S8x8192x1024, .f32⟩
  | .hbm, ⟨67, _⟩ => ⟨S8x8192x1024, .f32⟩
  | .hbm, ⟨68, _⟩ => ⟨S1x1x1024, .f32⟩
  | .hbm, ⟨69, _⟩ => ⟨S8x8192x1024, .f32⟩
  | .hbm, ⟨70, _⟩ => ⟨S8x8192x1024, .f32⟩
  | .hbm, ⟨71, _⟩ => ⟨S1x1x1024, .f32⟩
  | .hbm, ⟨72, _⟩ => ⟨S8x8192x1024, .f32⟩
  | .hbm, ⟨73, _⟩ => ⟨S8x8192x1024, .f32⟩
  | .hbm, ⟨74, _⟩ => ⟨S8x8192x2816, .f32⟩
  | .hbm, ⟨75, _⟩ => ⟨S8x8192x2816, .f32⟩
  | .hbm, ⟨76, _⟩ => ⟨S8x8192x2816, .f32⟩
  | .hbm, ⟨77, _⟩ => ⟨S_, .f32⟩
  | .hbm, ⟨78, _⟩ => ⟨S8x8192x2816, .f32⟩
  | .hbm, ⟨79, _⟩ => ⟨S8x8192x2816, .f32⟩
  | .hbm, ⟨80, _⟩ => ⟨S_, .f32⟩
  | .hbm, ⟨81, _⟩ => ⟨S8x8192x2816, .f32⟩
  | .hbm, ⟨82, _⟩ => ⟨S8x8192x2816, .f32⟩
  | .hbm, ⟨83, _⟩ => ⟨S8x8192x2816, .f32⟩
  | .hbm, ⟨84, _⟩ => ⟨S8x8192x2816, .f32⟩
  | .hbm, ⟨85, _⟩ => ⟨S8x8192x2816, .f32⟩
  | .hbm, ⟨86, _⟩ => ⟨S_, .f32⟩
  | .hbm, ⟨87, _⟩ => ⟨S8x8192x1024, .f32⟩
  | .hbm, ⟨88, _⟩ => ⟨S8x8192x1024, .f32⟩
  | .hbm, ⟨89, _⟩ => ⟨S8x8192x1024, .f32⟩
  | .hbm, ⟨90, _⟩ => ⟨S8x8192x1024, .f32⟩
  | .hbm, ⟨91, _⟩ => ⟨S_, .f32⟩
  | .hbm, ⟨92, _⟩ => ⟨S8x8192, .f32⟩
  | .hbm, ⟨93, _⟩ => ⟨S8x8192x1, .f32⟩
  | .hbm, ⟨94, _⟩ => ⟨S_, .f32⟩
  | .hbm, ⟨95, _⟩ => ⟨S8x8192x1, .f32⟩
  | .hbm, ⟨96, _⟩ => ⟨S8x8192x1, .f32⟩
  | .hbm, ⟨97, _⟩ => ⟨S8x8192x1024, .f32⟩
  | .hbm, ⟨98, _⟩ => ⟨S8x8192x1024, .f32⟩
  | .hbm, ⟨99, _⟩ => ⟨S8x8192x1024, .f32⟩
  | .hbm, ⟨100, _⟩ => ⟨S_, .f32⟩
  | .hbm, ⟨101, _⟩ => ⟨S8x8192, .f32⟩
  | .hbm, ⟨102, _⟩ => ⟨S8x8192x1, .f32⟩
  | .hbm, ⟨103, _⟩ => ⟨S_, .f32⟩
  | .hbm, ⟨104, _⟩ => ⟨S8x8192x1, .f32⟩
  | .hbm, ⟨105, _⟩ => ⟨S8x8192x1, .f32⟩
  | .hbm, ⟨106, _⟩ => ⟨S8x8192x1024, .f32⟩
  | .hbm, ⟨107, _⟩ => ⟨S8x8192x1024, .f32⟩
  | .hbm, ⟨108, _⟩ => ⟨S_, .f32⟩
  | .hbm, ⟨109, _⟩ => ⟨S8x8192x1, .f32⟩
  | .hbm, ⟨110, _⟩ => ⟨S8x8192x1, .f32⟩
  | .hbm, ⟨111, _⟩ => ⟨S8x8192x1, .f32⟩
  | .hbm, ⟨112, _⟩ => ⟨S8x8192x1024, .f32⟩
  | .hbm, ⟨113, _⟩ => ⟨S8x8192x1024, .f32⟩
  | .hbm, ⟨114, _⟩ => ⟨S1x1x1024, .f32⟩
  | .hbm, ⟨115, _⟩ => ⟨S8x8192x1024, .f32⟩
  | .hbm, ⟨116, _⟩ => ⟨S8x8192x1024, .f32⟩
  | .hbm, ⟨117, _⟩ => ⟨S1x1x1024, .f32⟩
  | .hbm, ⟨118, _⟩ => ⟨S8x8192x1024, .f32⟩
  | .hbm, ⟨119, _⟩ => ⟨S8x8192x1024, .f32⟩
  | .hbm, ⟨120, _⟩ => ⟨S65536x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Proj.lean ====
abbrev S8x8192x1024 : Shape := ⟨3, ![8, 8192, 1024]⟩
abbrev S1024x6980 : Shape := ⟨2, ![1024, 6980]⟩
abbrev S64 : Shape := ⟨1, ![64]⟩
abbrev S512 : Shape := ⟨1, ![512]⟩
abbrev S_ : Shape := ⟨0, ![]⟩
abbrev S128 : Shape := ⟨1, ![128]⟩
abbrev S1x128 : Shape := ⟨2, ![1, 128]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S65536x1024 : Shape := ⟨2, ![65536, 1024]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x1024 : Shape := ⟨2, ![1024, 1024]⟩
abbrev S1024x68 : Shape := ⟨2, ![1024, 68]⟩
abbrev S1024x128 : Shape := ⟨2, ![1024, 128]⟩
abbrev S512x1 : Shape := ⟨2, ![512, 1]⟩
abbrev S1024x7040 : Shape := ⟨2, ![1024, 7040]⟩
abbrev S65536x512 : Shape := ⟨2, ![65536, 512]⟩
abbrev S65536x8x64 : Shape := ⟨3, ![65536, 8, 64]⟩
abbrev S128x8x80x512 : Shape := ⟨4, ![128, 8, 80, 512]⟩
abbrev S65536x256 : Shape := ⟨2, ![65536, 256]⟩
abbrev S65536x64 : Shape := ⟨2, ![65536, 64]⟩
abbrev S65536x128 : Shape := ⟨2, ![65536, 128]⟩
abbrev S512x1024 : Shape := ⟨2, ![512, 1024]⟩
abbrev S512x128 : Shape := ⟨2, ![512, 128]⟩
abbrev S512x512 : Shape := ⟨2, ![512, 512]⟩
abbrev S512x8x64 : Shape := ⟨3, ![512, 8, 64]⟩
abbrev S1x8x80x512 : Shape := ⟨4, ![1, 8, 80, 512]⟩
abbrev S512x256 : Shape := ⟨2, ![512, 256]⟩
abbrev S512x64 : Shape := ⟨2, ![512, 64]⟩
abbrev S64x512 : Shape := ⟨2, ![64, 512]⟩
abbrev S1x1x64x512 : Shape := ⟨4, ![1, 1, 64, 512]⟩
abbrev S16x512 : Shape := ⟨2, ![16, 512]⟩
abbrev S1x1x16x512 : Shape := ⟨4, ![1, 1, 16, 512]⟩

abbrev nBuf : Space → Nat
  | .hbm => 84
  | .vmem => 39
  | .smem => 0
  | _ => 0

abbrev bufTy : (tb : Table) → Fin (tcTables nBuf tb) → BufTy
  | .hbm, ⟨0, _⟩ => ⟨S8x8192x1024, .f32⟩
  | .hbm, ⟨1, _⟩ => ⟨S1024x6980, .f32⟩
  | .hbm, ⟨2, _⟩ => ⟨S64, .f32⟩
  | .hbm, ⟨3, _⟩ => ⟨S64, .f32⟩
  | .hbm, ⟨4, _⟩ => ⟨S512, .i32⟩
  | .hbm, ⟨5, _⟩ => ⟨S512, .i1⟩
  | .hbm, ⟨6, _⟩ => ⟨S512, .i1⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S8192, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8192, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S1x8192x1x32, .f32⟩
  | .hbm, ⟨33, _⟩ => ⟨S1x8192x4x32, .f32⟩
  | .hbm, ⟨34, _⟩ => ⟨S8192x128, .f32⟩
  | .hbm, ⟨35, _⟩ => ⟨S8192x32, .f32⟩
  | .hbm, ⟨36, _⟩ => ⟨S8192x32, .f32⟩
  | .hbm, ⟨37, _⟩ => ⟨S8192x128, .f32⟩
  | .hbm, ⟨38, _⟩ => ⟨S65536x1024, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1024x256, .f32⟩
  | .hbm, ⟨43, _⟩ => ⟨S1024x64, .f32⟩
  | .hbm, ⟨44, _⟩ => ⟨S1024x4, .f32⟩
  | .hbm, ⟨45, _⟩ => ⟨S1024x512, .f32⟩
  | .hbm, ⟨46, _⟩ => ⟨S1024x512, .f32⟩
  | .hbm, ⟨47, _⟩ => ⟨S1024x1024, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1024x68, .f32⟩
  | .hbm, ⟨52, _⟩ => ⟨S_, .i32⟩
  | .hbm, ⟨53, _⟩ => ⟨S_, .f32⟩
  | .hbm, ⟨54, _⟩ => ⟨S1024x128, .f32⟩
  | .hbm, ⟨55, _⟩ => ⟨S_, .i32⟩
  | .hbm, ⟨56, _⟩ => ⟨S512, .i32⟩
  | .hbm, ⟨57, _⟩ => ⟨S512, .i32⟩
  | .hbm, ⟨58, _⟩ => ⟨S512, .i32⟩
  | .hbm, ⟨59, _⟩ => ⟨S512x1, .i32⟩
  | .hbm, ⟨60, _⟩ => ⟨S1024x512, .f32⟩
  | .hbm, ⟨61, _⟩ => ⟨S_, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S1024x512, .f32⟩
  | .hbm, ⟨67, _⟩ => ⟨S1024x7040, .f32⟩
  | .hbm, ⟨68, _⟩ => ⟨S1024x7040, .bf16⟩
  | .hbm, ⟨69, _⟩ => ⟨S65536x512, .bf16⟩
  | .hbm, ⟨70, _⟩ => ⟨S65536x8x64, .f32⟩
  | .hbm, ⟨71, _⟩ => ⟨S65536x512, .bf16⟩
  | .hbm, ⟨72, _⟩ => ⟨S65536x8x64, .f32⟩
  | .hbm, ⟨73, _⟩ => ⟨S128x8x80x512, .bf16⟩
  | .hbm, ⟨74, _⟩ => ⟨S65536x256, .bf16⟩
  | .hbm, ⟨75, _⟩ => ⟨S65536x64, .f32⟩
  | .hbm, ⟨76, _⟩ => ⟨S65536x128, .bf16⟩
  | .hbm, ⟨77, _⟩ => ⟨S65536x128, .f32⟩
  | .hbm, ⟨78, _⟩ => ⟨S65536x512, .bf16⟩
  | .hbm, ⟨79, _⟩ => ⟨S65536x512, .bf16⟩
  | .hbm, ⟨80, _⟩ => ⟨S65536x1024, .bf16⟩
  | .hbm, ⟨81, _⟩ => ⟨S65536x1024, .bf16⟩
  | .hbm, ⟨82, _⟩ => ⟨S65536x1024, .bf16⟩
  | .hbm, ⟨83, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1024x7040, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S1x128, .f32⟩
  | .local _ .vmem, ⟨8, _⟩ => ⟨S1x128, .f32⟩
  | .local _ .vmem, ⟨9, _⟩ => ⟨S512x512, .bf16⟩
  | .local _ .vmem, ⟨10, _⟩ => ⟨S512x512, .bf16⟩
  | .local _ .vmem, ⟨11, _⟩ => ⟨S512x8x64, .f32⟩
  | .local _ .vmem, ⟨12, _⟩ => ⟨S512x8x64, .f32⟩
  | .local _ .vmem, ⟨13, _⟩ => ⟨S512x512, .bf16⟩
  | .local _ .vmem, ⟨14, _⟩ => ⟨S512x512, .bf16⟩
  | .local _ .vmem, ⟨15, _⟩ => ⟨S512x8x64, .f32⟩
  | .local _ .vmem, ⟨16, _⟩ => ⟨S512x8x64, .f32⟩
  | .local _ .vmem, ⟨17, _⟩ => ⟨S1x8x80x512, .bf16⟩
  | .local _ .vmem, ⟨18, _⟩ => ⟨S1x8x80x512, .bf16⟩
  | .local _ .vmem, ⟨19, _⟩ => ⟨S512x256, .bf16⟩
  | .local _ .vmem, ⟨20, _⟩ => ⟨S512x256, .bf16⟩
  | .local _ .vmem, ⟨21, _⟩ => ⟨S512x64, .f32⟩
  | .local _ .vmem, ⟨22, _⟩ => ⟨S512x64, .f32⟩
  | .local _ .vmem, ⟨23, _⟩ => ⟨S512x128, .bf16⟩
  | .local _ .vmem, ⟨24, _⟩ => ⟨S512x128, .bf16⟩
  | .local _ .vmem, ⟨25, _⟩ => ⟨S512x128, .f32⟩
  | .local _ .vmem, ⟨26, _⟩ => ⟨S512x128, .f32⟩
  | .local _ .vmem, ⟨27, _⟩ => ⟨S512x512, .bf16⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S512x1024, .bf16⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_3 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_5 : Ref sig .tc := ⟨.hbm, 52, rfl⟩
abbrev main_call2_v0 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52_0 : Ref sig .tc := ⟨.hbm, 69, rfl⟩
abbrev main_v52_1 : Ref sig .tc := ⟨.hbm, 70, rfl⟩
abbrev main_v52_2 : Ref sig .tc := ⟨.hbm, 71, rfl⟩
abbrev main_v52_3 : Ref sig .tc := ⟨.hbm, 72, rfl⟩
abbrev main_v52_4 : Ref sig .tc := ⟨.hbm, 73, rfl⟩
abbrev main_v52_5 : Ref sig .tc := ⟨.hbm, 74, rfl⟩
abbrev main_v52_6 : Ref sig .tc := ⟨.hbm, 75, rfl⟩
abbrev main_v52_7 : Ref sig .tc := ⟨.hbm, 76, rfl⟩
abbrev main_v52_8 : Ref sig .tc := ⟨.hbm, 77, rfl⟩
abbrev main_v52_9 : Ref sig .tc := ⟨.hbm, 78, rfl⟩
abbrev main_v52_10 : Ref sig .tc := ⟨.hbm, 79, rfl⟩
abbrev main_v52_11 : Ref sig .tc := ⟨.hbm, 80, rfl⟩
abbrev main_v52_12 : Ref sig .tc := ⟨.hbm, 81, rfl⟩
abbrev main_v52_13 : Ref sig .tc := ⟨.hbm, 82, rfl⟩
abbrev main_v52_14 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x7040 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x8x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x8x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x80x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ProjRefIdeal.lean ====
abbrev S8x8192x1024 : Shape := ⟨3, ![8, 8192, 1024]⟩
abbrev S1024x6980 : Shape := ⟨2, ![1024, 6980]⟩
abbrev S64 : Shape := ⟨1, ![64]⟩
abbrev S8192 : Shape := ⟨1, ![8192]⟩
abbrev S8x8192x6980 : Shape := ⟨3, ![8, 8192, 6980]⟩
abbrev S8x8192x512 : Shape := ⟨3, ![8, 8192, 512]⟩
abbrev S8x8192x256 : Shape := ⟨3, ![8, 8192, 256]⟩
abbrev S8x8192x64 : Shape := ⟨3, ![8, 8192, 64]⟩
abbrev S8x8192x4 : Shape := ⟨3, ![8, 8192, 4]⟩
abbrev S8x8192x68 : Shape := ⟨3, ![8, 8192, 68]⟩
abbrev S_ : Shape := ⟨0, ![]⟩
abbrev S8x8192x128 : Shape := ⟨3, ![8, 8192, 128]⟩
abbrev S8x8192 : Shape := ⟨2, ![8, 8192]⟩
abbrev S8x8192x1 : Shape := ⟨3, ![8, 8192, 1]⟩
abbrev S1x1x64 : Shape := ⟨3, ![1, 1, 64]⟩
abbrev S8x8192x8x64 : Shape := ⟨4, ![8, 8192, 8, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S8x8192x8x32 : Shape := ⟨4, ![8, 8192, 8, 32]⟩
abbrev S65536x8x64 : Shape := ⟨3, ![65536, 8, 64]⟩
abbrev S65536x64 : Shape := ⟨2, ![65536, 64]⟩
abbrev S65536x512 : Shape := ⟨2, ![65536, 512]⟩
abbrev S65536x256 : Shape := ⟨2, ![65536, 256]⟩
abbrev S65536x128 : Shape := ⟨2, ![65536, 128]⟩
abbrev S8x8192x4x2x2x32 : Shape := ⟨6, ![8, 8192, 4, 2, 2, 32]⟩
abbrev S65536x1024 : Shape := ⟨2, ![65536, 1024]⟩

abbrev nBuf : Space → Nat
  | .hbm => 150
  | .vmem => 0
  | .smem => 0
  | _ => 0

abbrev hbmTy0_0 (i : Nat) : BufTy := match i % 128 with
  | 0 => ⟨S8x8192x1024, .f32⟩
  | 1 => ⟨S1024x6980, .f32⟩
  | 2 => ⟨S64, .f32⟩
  | 3 => ⟨S64, .f32⟩
  | 4 => ⟨S8192, .i32⟩
  | 5 => ⟨S8x8192x6980, .f32⟩
  | 6 => ⟨S8x8192x512, .f32⟩
  | 7 => ⟨S8x8192x512, .f32⟩
  | 8 => ⟨S8x8192x512, .f32⟩
  | 9 => ⟨S8x8192x256, .f32⟩
  | 10 => ⟨S8x8192x64, .f32⟩
  | 11 => ⟨S8x8192x4, .f32⟩
  | 12 => ⟨S8x8192x512, .f32⟩
  | 13 => ⟨S8x8192x512, .f32⟩
  | 14 => ⟨S8x8192x1024, .f32⟩
  | 15 => ⟨S8x8192x1024, .f32⟩
  | 16 => ⟨S8x8192x1024, .f32⟩
  | 17 => ⟨S8x8192x1024, .f32⟩
  | 18 => ⟨S8x8192x68, .f32⟩
  | 19 => ⟨S_, .i32⟩
  | 20 => ⟨S_, .f32⟩
  | 21 => ⟨S8x8192x128, .f32⟩
  | 22 => ⟨S_, .f32⟩
  | 23 => ⟨S8x8192x128, .f32⟩
  | 24 => ⟨S8x8192x128, .f32⟩
  | 25 => ⟨S_, .f32⟩
  | 26 => ⟨S8x8192, .f32⟩
  | 27 => ⟨S8x8192x1, .f32⟩
  | 28 => ⟨S_, .f32⟩
  | 29 => ⟨S8x8192x1, .f32⟩
  | 30 => ⟨S8x8192x1, .f32⟩
  | 31 => ⟨S8x8192x64, .f32⟩
  | 32 => ⟨S8x8192x64, .f32⟩
  | 33 => ⟨S8x8192x64, .f32⟩
  | 34 => ⟨S_, .f32⟩
  | 35 => ⟨S8x8192, .f32⟩
  | 36 => ⟨S8x8192x1, .f32⟩
  | 37 => ⟨S_, .f32⟩
  | 38 => ⟨S8x8192x1, .f32⟩
  | 39 => ⟨S8x8192x1, .f32⟩
  | 40 => ⟨S8x8192x64, .f32⟩
  | 41 => ⟨S8x8192x64, .f32⟩
  | 42 => ⟨S_, .f32⟩
  | 43 => ⟨S8x8192x1, .f32⟩
  | 44 => ⟨S8x8192x1, .f32⟩
  | 45 => ⟨S8x8192x1, .f32⟩
  | 46 => ⟨S8x8192x64, .f32⟩
  | 47 => ⟨S8x8192x64, .f32⟩
  | 48 => ⟨S1x1x64, .f32⟩
  | 49 => ⟨S8x8192x64, .f32⟩
  | 50 => ⟨S8x8192x64, .f32⟩
  | 51 => ⟨S1x1x64, .f32⟩
  | 52 => ⟨S8x8192x64, .f32⟩
  | 53 => ⟨S8x8192x64, .f32⟩
  | 54 => ⟨S8x8192x8x64, .f32⟩
  | 55 => ⟨S32, .f32⟩
  | 56 => ⟨S32, .f32⟩
  | 57 => ⟨S_, .f32⟩
  | 58 => ⟨S32, .f32⟩
  | 59 => ⟨S32, .f32⟩
  | 60 => ⟨S_, .f32⟩
  | 61 => ⟨S32, .f32⟩
  | 62 => ⟨S32, .f32⟩
  | 63 => ⟨S8192, .f32⟩
  | 64 => ⟨S8192x1, .f32⟩
  | 65 => ⟨S1x32, .f32⟩
  | 66 => ⟨S8192x32, .f32⟩
  | 67 => ⟨S8192x32, .f32⟩
  | 68 => ⟨S8192x32, .f32⟩
  | 69 => ⟨S8192x32, .f32⟩
  | 70 => ⟨S1x8192x1x32, .f32⟩
  | 71 => ⟨S8192x32, .f32⟩
  | 72 => ⟨S1x8192x1x32, .f32⟩
  | 73 => ⟨S8x8192x8x32, .f32⟩
  | 74 => ⟨S8x8192x8x32, .f32⟩
  | 75 => ⟨S8x8192x8x32, .f32⟩
  | 76 => ⟨S8x8192x8x32, .f32⟩
  | 77 => ⟨S8x8192x8x32, .f32⟩
  | 78 => ⟨S8x8192x8x32, .f32⟩
  | 79 => ⟨S8x8192x8x32, .f32⟩
  | 80 => ⟨S8x8192x8x32, .f32⟩
  | 81 => ⟨S8x8192x8x32, .f32⟩
  | 82 => ⟨S8x8192x8x32, .f32⟩
  | 83 => ⟨S8x8192x8x32, .f32⟩
  | 84 => ⟨S8x8192x8x32, .f32⟩
  | 85 => ⟨S8x8192x8x64, .f32⟩
  | 86 => ⟨S8x8192x8x64, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S8192, .f32⟩
  | 96 => ⟨S8192x1, .f32⟩
  | 97 => ⟨S1x32, .f32⟩
  | 98 => ⟨S8192x32, .f32⟩
  | 99 => ⟨S8192x32, .f32⟩
  | 100 => ⟨S8192x32, .f32⟩
  | 101 => ⟨S8192x32, .f32⟩
  | 102 => ⟨S1x8192x1x32, .f32⟩
  | 103 => ⟨S8192x32, .f32⟩
  | 104 => ⟨S1x8192x1x32, .f32⟩
  | 105 => ⟨S8x8192x8x32, .f32⟩
  | 106 => ⟨S8x8192x8x32, .f32⟩
  | 107 => ⟨S8x8192x8x32, .f32⟩
  | 108 => ⟨S8x8192x8x32, .f32⟩
  | 109 => ⟨S8x8192x8x32, .f32⟩
  | 110 => ⟨S8x8192x8x32, .f32⟩
  | 111 => ⟨S8x8192x8x32, .f32⟩
  | 112 => ⟨S8x8192x8x32, .f32⟩
  | 113 => ⟨S8x8192x8x32, .f32⟩
  | 114 => ⟨S8x8192x8x32, .f32⟩
  | 115 => ⟨S8x8192x8x32, .f32⟩
  | 116 => ⟨S8x8192x8x32, .f32⟩
  | 117 => ⟨S8x8192x8x64, .f32⟩
  | 118 => ⟨S_, .f32⟩
  | 119 => ⟨S8x8192x8x64, .f32⟩
  | 120 => ⟨S8x8192x8x64, .f32⟩
  | 121 => ⟨S65536x8x64, .f32⟩
  | 122 => ⟨S65536x8x64, .f32⟩
  | 123 => ⟨S65536x64, .f32⟩
  | 124 => ⟨S_, .f32⟩
  | 125 => ⟨S8x8192x512, .f32⟩
  | 126 => ⟨S8x8192x512, .f32⟩
  | 127 => ⟨S65536x512, .f32⟩
  | _ => ⟨S8x8192x1024, .f32⟩

abbrev hbmTy0_1 (i : Nat) : BufTy := match i % 128 with
  | 0 => ⟨S65536x512, .bf16⟩
  | 1 => ⟨S65536x256, .f32⟩
  | 2 => ⟨S65536x256, .bf16⟩
  | 3 => ⟨S65536x128, .f32⟩
  | 4 => ⟨S8x8192x4x2x2x32, .f32⟩
  | 5 => ⟨S8x8192x4x2x2x32, .f32⟩
  | 6 => ⟨S8x8192x512, .f32⟩
  | 7 => ⟨S65536x512, .f32⟩
  | 8 => ⟨S65536x512, .bf16⟩
  | 9 => ⟨S8x8192x4x2x2x32, .f32⟩
  | 10 => ⟨S8x8192x4x2x2x32, .f32⟩
  | 11 => ⟨S8x8192x512, .f32⟩
  | 12 => ⟨S65536x512, .f32⟩
  | 13 => ⟨S65536x512, .bf16⟩
  | 14 => ⟨S65536x1024, .f32⟩
  | 15 => ⟨S65536x1024, .bf16⟩
  | 16 => ⟨S65536x1024, .f32⟩
  | 17 => ⟨S65536x1024, .bf16⟩
  | 18 => ⟨S65536x1024, .f32⟩
  | 19 => ⟨S65536x1024, .bf16⟩
  | 20 => ⟨S65536x1024, .f32⟩
  | 21 => ⟨S65536x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_call0_v0 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_7 : Ref sig .tc := ⟨.hbm, 89, rfl⟩
abbrev main_v75 : Ref sig .tc := ⟨.hbm, 90, rfl⟩
abbrev main_v76 : Ref sig .tc := ⟨.hbm, 91, rfl⟩
abbrev main_cst_8 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_9 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_cst_10 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩

abbrev nD : Nat := 1
abbrev τ : Topo := Topo.v7x

variable {F : FTy → Type} [FloatOps F]
-- ==== FinishSample.lean ====
abbrev S8x32x1024 : Shape := ⟨3, ![8, 32, 1024]⟩
abbrev S8x32x512 : Shape := ⟨3, ![8, 32, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S256x512 : Shape := ⟨2, ![256, 512]⟩
abbrev S1x1024 : Shape := ⟨2, ![1, 1024]⟩
abbrev S256 : Shape := ⟨1, ![256]⟩
abbrev S256x1 : Shape := ⟨2, ![256, 1]⟩
abbrev S256x2816 : Shape := ⟨2, ![256, 2816]⟩

abbrev nBuf : Space → Nat
  | .hbm => 31
  | .vmem => 16
  | .smem => 0
  | _ => 0

abbrev bufTy : (tb : Table) → Fin (tcTables nBuf tb) → BufTy
  | .hbm, ⟨0, _⟩ => ⟨S8x32x1024, .f32⟩
  | .hbm, ⟨1, _⟩ => ⟨S8x32x512, .bf16⟩
  | .hbm, ⟨2, _⟩ => ⟨S8x32x1024, .bf16⟩
  | .hbm, ⟨3, _⟩ => ⟨S8x32x1024, .bf16⟩
  | .hbm, ⟨4, _⟩ => ⟨S8x32x1024, .bf16⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S256x1024, .f32⟩
  | .hbm, ⟨16, _⟩ => ⟨S256x512, .bf16⟩
  | .hbm, ⟨17, _⟩ => ⟨S256x1024, .bf16⟩
  | .hbm, ⟨18, _⟩ => ⟨S256x1024, .bf16⟩
  | .hbm, ⟨19, _⟩ => ⟨S256x1024, .bf16⟩
  | .hbm, ⟨20, _⟩ => ⟨S512x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S1024x2816, .bf16⟩
  | .hbm, ⟨26, _⟩ => ⟨S1024x2816, .bf16⟩
  | .hbm, ⟨27, _⟩ => ⟨S2816x1024, .bf16⟩
  | .hbm, ⟨28, _⟩ => ⟨S1x1024, .f32⟩
  | .hbm, ⟨29, _⟩ => ⟨S1x1024, .f32⟩
  | .hbm, ⟨30, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x2816, .bf16⟩
  | .local _ .vmem, ⟨11, _⟩ => ⟨S1024x2816, .bf16⟩
  | .local _ .vmem, ⟨12, _⟩ => ⟨S2816x1024, .bf16⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]
-- ==== FinishSampleRefIdeal.lean ====
abbrev S8x32x1024 : Shape := ⟨3, ![8, 32, 1024]⟩
abbrev S8x32x512 : Shape := ⟨3, ![8, 32, 512]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S8x32x2816 : Shape := ⟨3, ![8, 32, 2816]⟩
abbrev S256x1024 : Shape := ⟨2, ![256, 1024]⟩

abbrev nBuf : Space → Nat
  | .hbm => 121
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x32x512, .bf16⟩
  | .hbm, ⟨2, _⟩ => ⟨S8x32x1024, .bf16⟩
  | .hbm, ⟨3, _⟩ => ⟨S8x32x1024, .bf16⟩
  | .hbm, ⟨4, _⟩ => ⟨S8x32x1024, .bf16⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S1024, .f32⟩
  | .hbm, ⟨15, _⟩ => ⟨S8x32x512, .f32⟩
  | .hbm, ⟨16, _⟩ => ⟨S8x32x1024, .f32⟩
  | .hbm, ⟨17, _⟩ => ⟨S8x32x1024, .f32⟩
  | .hbm, ⟨18, _⟩ => ⟨S8x32x1024, .f32⟩
  | .hbm, ⟨19, _⟩ => ⟨S8x32x1024, .f32⟩
  | .hbm, ⟨20, _⟩ => ⟨S8x32x1024, .f32⟩
  | .hbm, ⟨21, _⟩ => ⟨S_, .f32⟩
  | .hbm, ⟨22, _⟩ => ⟨S8x32x1024, .f32⟩
  | .hbm, ⟨23, _⟩ => ⟨S8x32x1024, .f32⟩
  | .hbm, ⟨24, _⟩ => ⟨S_, .f32⟩
  | .hbm, ⟨25, _⟩ => ⟨S8x32x1024, .f32⟩
  | .hbm, ⟨26, _⟩ => ⟨S8x32x1024, .f32⟩
  | .hbm, ⟨27, _⟩ => ⟨S8x32x1024, .f32⟩
  | .hbm, ⟨28, _⟩ => ⟨S8x32x1024, .f32⟩
  | .hbm, ⟨29, _⟩ => ⟨S8x32x1024, .f32⟩
  | .hbm, ⟨30, _⟩ => ⟨S8x32x1024, .f32⟩
  | .hbm, ⟨31, _⟩ => ⟨S_, .f32⟩
  | .hbm, ⟨32, _⟩ => ⟨S8x32x1024, .f32⟩
  | .hbm, ⟨33, _⟩ => ⟨S8x32x1024, .f32⟩
  | .hbm, ⟨34, _⟩ => ⟨S_, .f32⟩
  | .hbm, ⟨35, _⟩ => ⟨S8x32x1024, .f32⟩
  | .hbm, ⟨36, _⟩ => ⟨S8x32x1024, .f32⟩
  | .hbm, ⟨37, _⟩ => ⟨S8x32x1024, .f32⟩
  | .hbm, ⟨38, _⟩ => ⟨S8x32x1024, .f32⟩
  | .hbm, ⟨39, _⟩ => ⟨S8x32x1024, .f32⟩
  | .hbm, ⟨40, _⟩ => ⟨S_, .f32⟩
  | .hbm, ⟨41, _⟩ => ⟨S8x32x1024, .f32⟩
  | .hbm, ⟨42, _⟩ => ⟨S8x32x1024, .f32⟩
  | .hbm, ⟨43, _⟩ => ⟨S8x32x1024, .f32⟩
  | .hbm, ⟨44, _⟩ => ⟨S8x32x1024, .f32⟩
  | .hbm, ⟨45, _⟩ => ⟨S_, .f32⟩
  | .hbm, ⟨46, _⟩ => ⟨S8x32, .f32⟩
  | .hbm, ⟨47, _⟩ => ⟨S8x32x1, .f32⟩
  | .hbm, ⟨48, _⟩ => ⟨S_, .f32⟩
  | .hbm, ⟨49, _⟩ => ⟨S8x32x1, .f32⟩
  | .hbm, ⟨50, _⟩ => ⟨S8x32x1, .f32⟩
  | .hbm, ⟨51, _⟩ => ⟨S8x32x1024, .f32⟩
  | .hbm, ⟨52, _⟩ => ⟨S8x32x1024, .f32⟩
  | .hbm, ⟨53, _⟩ => ⟨S8x32x1024, .f32⟩
  | .hbm, ⟨54, _⟩ => ⟨S_, .f32⟩
  | .hbm, ⟨55, _⟩ => ⟨S8x32, .f32⟩
  | .hbm, ⟨56, _⟩ => ⟨S8x32x1, .f32⟩
  | .hbm, ⟨57, _⟩ => ⟨S_, .f32⟩
  | .hbm, ⟨58, _⟩ => ⟨S8x32x1, .f32⟩
  | .hbm, ⟨59, _⟩ => ⟨S8x32x1, .f32⟩
  | .hbm, ⟨60, _⟩ => ⟨S8x32x1024, .f32⟩
  | .hbm, ⟨61, _⟩ => ⟨S8x32x1024, .f32⟩
  | .hbm, ⟨62, _⟩ => ⟨S_, .f32⟩
  | .hbm, ⟨63, _⟩ => ⟨S8x32x1, .f32⟩
  | .hbm, ⟨64, _⟩ => ⟨S8x32x1, .f32⟩
  | .hbm, ⟨65, _⟩ => ⟨S8x32x1, .f32⟩
  | .hbm, ⟨66, _⟩ => ⟨S8x32x1024, .f32⟩
  | .hbm, ⟨67, _⟩ => ⟨S8x32x1024, .f32⟩
  | .hbm, ⟨68, _⟩ => ⟨S1x1x1024, .f32⟩
  | .hbm, ⟨69, _⟩ => ⟨S8x32x1024, .f32⟩
  | .hbm, ⟨70, _⟩ => ⟨S8x32x1024, .f32⟩
  | .hbm, ⟨71, _⟩ => ⟨S1x1x1024, .f32⟩
  | .hbm, ⟨72, _⟩ => ⟨S8x32x1024, .f32⟩
  | .hbm, ⟨73, _⟩ => ⟨S8x32x1024, .f32⟩
  | .hbm, ⟨74, _⟩ => ⟨S8x32x2816, .f32⟩
  | .hbm, ⟨75, _⟩ => ⟨S8x32x2816, .f32⟩
  | .hbm, ⟨76, _⟩ => ⟨S8x32x2816, .f32⟩
  | .hbm, ⟨77, _⟩ => ⟨S_, .f32⟩
  | .hbm, ⟨78, _⟩ => ⟨S8x32x2816, .f32⟩
  | .hbm, ⟨79, _⟩ => ⟨S8x32x2816, .f32⟩
  | .hbm, ⟨80, _⟩ => ⟨S_, .f32⟩
  | .hbm, ⟨81, _⟩ => ⟨S8x32x2816, .f32⟩
  | .hbm, ⟨82, _⟩ => ⟨S8x32x2816, .f32⟩
  | .hbm, ⟨83, _⟩ => ⟨S8x32x2816, .f32⟩
  | .hbm, ⟨84, _⟩ => ⟨S8x32x2816, .f32⟩
  | .hbm, ⟨85, _⟩ => ⟨S8x32x2816, .f32⟩
  | .hbm, ⟨86, _⟩ => ⟨S_, .f32⟩
  | .hbm, ⟨87, _⟩ => ⟨S8x32x1024, .f32⟩
  | .hbm, ⟨88, _⟩ => ⟨S8x32x1024, .f32⟩
  | .hbm, ⟨89, _⟩ => ⟨S8x32x1024, .f32⟩
  | .hbm, ⟨90, _⟩ => ⟨S8x32x1024, .f32⟩
  | .hbm, ⟨91, _⟩ => ⟨S_, .f32⟩
  | .hbm, ⟨92, _⟩ => ⟨S8x32, .f32⟩
  | .hbm, ⟨93, _⟩ => ⟨S8x32x1, .f32⟩
  | .hbm, ⟨94, _⟩ => ⟨S_, .f32⟩
  | .hbm, ⟨95, _⟩ => ⟨S8x32x1, .f32⟩
  | .hbm, ⟨96, _⟩ => ⟨S8x32x1, .f32⟩
  | .hbm, ⟨97, _⟩ => ⟨S8x32x1024, .f32⟩
  | .hbm, ⟨98, _⟩ => ⟨S8x32x1024, .f32⟩
  | .hbm, ⟨99, _⟩ => ⟨S8x32x1024, .f32⟩
  | .hbm, ⟨100, _⟩ => ⟨S_, .f32⟩
  | .hbm, ⟨101, _⟩ => ⟨S8x32, .f32⟩
  | .hbm, ⟨102, _⟩ => ⟨S8x32x1, .f32⟩
  | .hbm, ⟨103, _⟩ => ⟨S_, .f32⟩
  | .hbm, ⟨104, _⟩ => ⟨S8x32x1, .f32⟩
  | .hbm, ⟨105, _⟩ => ⟨S8x32x1, .f32⟩
  | .hbm, ⟨106, _⟩ => ⟨S8x32x1024, .f32⟩
  | .hbm, ⟨107, _⟩ => ⟨S8x32x1024, .f32⟩
  | .hbm, ⟨108, _⟩ => ⟨S_, .f32⟩
  | .hbm, ⟨109, _⟩ => ⟨S8x32x1, .f32⟩
  | .hbm, ⟨110, _⟩ => ⟨S8x32x1, .f32⟩
  | .hbm, ⟨111, _⟩ => ⟨S8x32x1, .f32⟩
  | .hbm, ⟨112, _⟩ => ⟨S8x32x1024, .f32⟩
  | .hbm, ⟨113, _⟩ => ⟨S8x32x1024, .f32⟩
  | .hbm, ⟨114, _⟩ => ⟨S1x1x1024, .f32⟩
  | .hbm, ⟨115, _⟩ => ⟨S8x32x1024, .f32⟩
  | .hbm, ⟨116, _⟩ => ⟨S8x32x1024, .f32⟩
  | .hbm, ⟨117, _⟩ => ⟨S1x1x1024, .f32⟩
  | .hbm, ⟨118, _⟩ => ⟨S8x32x1024, .f32⟩
  | .hbm, ⟨119, _⟩ => ⟨S8x32x1024, .f32⟩
  | .hbm, ⟨120, _⟩ => ⟨S256x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_6 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_9 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_10 : Ref sig .tc := ⟨.hbm, 91, rfl⟩
abbrev main_v57 : Ref sig .tc := ⟨.hbm, 92, rfl⟩
abbrev main_v58 : Ref sig .tc := ⟨.hbm, 93, rfl⟩
abbrev main_cst_11 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_12 : Ref sig .tc := ⟨.hbm, 100, rfl⟩
abbrev main_v64 : Ref sig .tc := ⟨.hbm, 101, rfl⟩
abbrev main_v65 : Ref sig .tc := ⟨.hbm, 102, rfl⟩
abbrev main_cst_13 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== ProjSample.lean ====
abbrev S8x32x1024 : Shape := ⟨3, ![8, 32, 1024]⟩
abbrev S1024x6980 : Shape := ⟨2, ![1024, 6980]⟩
abbrev S64 : Shape := ⟨1, ![64]⟩
abbrev S512 : Shape := ⟨1, ![512]⟩
abbrev S_ : Shape := ⟨0, ![]⟩
abbrev S128 : Shape := ⟨1, ![128]⟩
abbrev S1x128 : Shape := ⟨2, ![1, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x1x32 : Shape := ⟨4, ![1, 32, 1, 32]⟩
abbrev S1x32x4x32 : Shape := ⟨4, ![1, 32, 4, 32]⟩
abbrev S32x128 : Shape := ⟨2, ![32, 128]⟩
abbrev S1x32x1x128 : Shape := ⟨4, ![1, 32, 1, 128]⟩
abbrev S8x32x1x128 : Shape := ⟨4, ![8, 32, 1, 128]⟩
abbrev S256x128 : Shape := ⟨2, ![256, 128]⟩
abbrev S256x1024 : Shape := ⟨2, ![256, 1024]⟩
abbrev S1024x512 : Shape := ⟨2, ![1024, 512]⟩
abbrev S1024x256 : Shape := ⟨2, ![1024, 256]⟩
abbrev S1024x64 : Shape := ⟨2, ![1024, 64]⟩
abbrev S1024x4 : Shape := ⟨2, ![1024, 4]⟩
abbrev S1024x1024 : Shape := ⟨2, ![1024, 1024]⟩
abbrev S1024x68 : Shape := ⟨2, ![1024, 68]⟩
abbrev S1024x128 : Shape := ⟨2, ![1024, 128]⟩
abbrev S512x1 : Shape := ⟨2, ![512, 1]⟩
abbrev S1024x7040 : Shape := ⟨2, ![1024, 7040]⟩
abbrev S256x512 : Shape := ⟨2, ![256, 512]⟩
abbrev S256x8x64 : Shape := ⟨3, ![256, 8, 64]⟩
abbrev S256x256 : Shape := ⟨2, ![256, 256]⟩
abbrev S256x64 : Shape := ⟨2, ![256, 64]⟩
abbrev S256 : Shape := ⟨1, ![256]⟩
abbrev S256x1 : Shape := ⟨2, ![256, 1]⟩

abbrev nBuf : Space → Nat
  | .hbm => 93
  | .vmem => 21
  | .smem => 0
  | _ => 0

abbrev bufTy : (tb : Table) → Fin (tcTables nBuf tb) → BufTy
  | .hbm, ⟨0, _⟩ => ⟨S8x32x1024, .f32⟩
  | .hbm, ⟨1, _⟩ => ⟨S1024x6980, .f32⟩
  | .hbm, ⟨2, _⟩ => ⟨S64, .f32⟩
  | .hbm, ⟨3, _⟩ => ⟨S64, .f32⟩
  | .hbm, ⟨4, _⟩ => ⟨S512, .i32⟩
  | .hbm, ⟨5, _⟩ => ⟨S512, .i1⟩
  | .hbm, ⟨6, _⟩ => ⟨S512, .i1⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S32x1, .f32⟩
  | .hbm, ⟨29, _⟩ => ⟨S1x32, .f32⟩
  | .hbm, ⟨30, _⟩ => ⟨S32x32, .f32⟩
  | .hbm, ⟨31, _⟩ => ⟨S32x32, .f32⟩
  | .hbm, ⟨32, _⟩ => ⟨S32x32, .f32⟩
  | .hbm, ⟨33, _⟩ => ⟨S32x32, .f32⟩
  | .hbm, ⟨34, _⟩ => ⟨S32x32, .f32⟩
  | .hbm, ⟨35, _⟩ => ⟨S1x32x1x32, .f32⟩
  | .hbm, ⟨36, _⟩ => ⟨S1x32x4x32, .f32⟩
  | .hbm, ⟨37, _⟩ => ⟨S32x128, .f32⟩
  | .hbm, ⟨38, _⟩ => ⟨S32x32, .f32⟩
  | .hbm, ⟨39, _⟩ => ⟨S32x32, .f32⟩
  | .hbm, ⟨40, _⟩ => ⟨S32x128, .f32⟩
  | .hbm, ⟨41, _⟩ => ⟨S1x32x1x128, .f32⟩
  | .hbm, ⟨42, _⟩ => ⟨S8x32x1x128, .f32⟩
  | .hbm, ⟨43, _⟩ => ⟨S256x128, .f32⟩
  | .hbm, ⟨44, _⟩ => ⟨S1x32x1x128, .f32⟩
  | .hbm, ⟨45, _⟩ => ⟨S8x32x1x128, .f32⟩
  | .hbm, ⟨46, _⟩ => ⟨S256x128, .f32⟩
  | .hbm, ⟨47, _⟩ => ⟨S256x1024, .f32⟩
  | .hbm, ⟨48, _⟩ => ⟨S1024x512, .f32⟩
  | .hbm, ⟨49, _⟩ => ⟨S1024x512, .f32⟩
  | .hbm, ⟨50, _⟩ => ⟨S1024x512, .f32⟩
  | .hbm, ⟨51, _⟩ => ⟨S1024x256, .f32⟩
  | .hbm, ⟨52, _⟩ => ⟨S1024x64, .f32⟩
  | .hbm, ⟨53, _⟩ => ⟨S1024x4, .f32⟩
  | .hbm, ⟨54, _⟩ => ⟨S1024x512, .f32⟩
  | .hbm, ⟨55, _⟩ => ⟨S1024x512, .f32⟩
  | .hbm, ⟨56, _⟩ => ⟨S1024x1024, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S1024x68, .f32⟩
  | .hbm, ⟨61, _⟩ => ⟨S_, .i32⟩
  | .hbm, ⟨62, _⟩ => ⟨S_, .f32⟩
  | .hbm, ⟨63, _⟩ => ⟨S1024x128, .f32⟩
  | .hbm, ⟨64, _⟩ => ⟨S_, .i32⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S512x1, .i32⟩
  | .hbm, ⟨69, _⟩ => ⟨S1024x512, .f32⟩
  | .hbm, ⟨70, _⟩ => ⟨S_, .i32⟩
  | .hbm, ⟨71, _⟩ => ⟨S512, .i32⟩
  | .hbm, ⟨72, _⟩ => ⟨S512, .i32⟩
  | .hbm, ⟨73, _⟩ => ⟨S512, .i32⟩
  | .hbm, ⟨74, _⟩ => ⟨S512x1, .i32⟩
  | .hbm, ⟨75, _⟩ => ⟨S1024x512, .f32⟩
  | .hbm, ⟨76, _⟩ => ⟨S1024x7040, .f32⟩
  | .hbm, ⟨77, _⟩ => ⟨S1024x7040, .bf16⟩
  | .hbm, ⟨78, _⟩ => ⟨S256x512, .bf16⟩
  | .hbm, ⟨79, _⟩ => ⟨S256x8x64, .f32⟩
  | .hbm, ⟨80, _⟩ => ⟨S256x512, .bf16⟩
  | .hbm, ⟨81, _⟩ => ⟨S256x8x64, .f32⟩
  | .hbm, ⟨82, _⟩ => ⟨S256x512, .bf16⟩
  | .hbm, ⟨83, _⟩ => ⟨S256x256, .bf16⟩
  | .hbm, ⟨84, _⟩ => ⟨S256x64, .f32⟩
  | .hbm, ⟨85, _⟩ => ⟨S256x128, .bf16⟩
  | .hbm, ⟨86, _⟩ => ⟨S256x128, .f32⟩
  | .hbm, ⟨87, _⟩ => ⟨S256x512, .bf16⟩
  | .hbm, ⟨88, _⟩ => ⟨S256x512, .bf16⟩
  | .hbm, ⟨89, _⟩ => ⟨S256x1024, .bf16⟩
  | .hbm, ⟨90, _⟩ => ⟨S256x1024, .bf16⟩
  | .hbm, ⟨91, _⟩ => ⟨S256x1024, .bf16⟩
  | .hbm, ⟨92, _⟩ => ⟨S256x1024, .bf16⟩
  | .local _ .vmem, ⟨0, _⟩ => ⟨S256x1024, .f32⟩
  | .local _ .vmem, ⟨1, _⟩ => ⟨S1024x7040, .bf16⟩
  | .local _ .vmem, ⟨2, _⟩ => ⟨S256x128, .f32⟩
  | .local _ .vmem, ⟨3, _⟩ => ⟨S256x128, .f32⟩
  | .local _ .vmem, ⟨4, _⟩ => ⟨S1x128, .f32⟩
  | .local _ .vmem, ⟨5, _⟩ => ⟨S1x128, .f32⟩
  | .local _ .vmem, ⟨6, _⟩ => ⟨S256x512, .bf16⟩
  | .local _ .vmem, ⟨7, _⟩ => ⟨S256x8x64, .f32⟩
  | .local _ .vmem, ⟨8, _⟩ => ⟨S256x512, .bf16⟩
  | .local _ .vmem, ⟨9, _⟩ => ⟨S256x8x64, .f32⟩
  | .local _ .vmem, ⟨10, _⟩ => ⟨S256x512, .bf16⟩
  | .local _ .vmem, ⟨11, _⟩ => ⟨S256x256, .bf16⟩
  | .local _ .vmem, ⟨12, _⟩ => ⟨S256x64, .f32⟩
  | .local _ .vmem, ⟨13, _⟩ => ⟨S256x128, .bf16⟩
  | .local _ .vmem, ⟨14, _⟩ => ⟨S256x128, .f32⟩
  | .local _ .vmem, ⟨15, _⟩ => ⟨S256x512, .bf16⟩
  | .local _ .vmem, ⟨16, _⟩ => ⟨S256x512, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_c_3 : Ref sig .tc := ⟨.hbm, 11, rfl⟩
abbrev main_call1_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_6 : Ref sig .tc := ⟨.hbm, 61, rfl⟩
abbrev main_call2_v0 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60_0 : Ref sig .tc := ⟨.hbm, 78, rfl⟩
abbrev main_v60_1 : Ref sig .tc := ⟨.hbm, 79, rfl⟩
abbrev main_v60_2 : Ref sig .tc := ⟨.hbm, 80, rfl⟩
abbrev main_v60_3 : Ref sig .tc := ⟨.hbm, 81, rfl⟩
abbrev main_v60_4 : Ref sig .tc := ⟨.hbm, 82, rfl⟩
abbrev main_v60_5 : Ref sig .tc := ⟨.hbm, 83, rfl⟩
abbrev main_v60_6 : Ref sig .tc := ⟨.hbm, 84, rfl⟩
abbrev main_v60_7 : Ref sig .tc := ⟨.hbm, 85, rfl⟩
abbrev main_v60_8 : Ref sig .tc := ⟨.hbm, 86, rfl⟩
abbrev main_v60_9 : Ref sig .tc := ⟨.hbm, 87, rfl⟩
abbrev main_v60_10 : Ref sig .tc := ⟨.hbm, 88, rfl⟩
abbrev main_v60_11 : Ref sig .tc := ⟨.hbm, 89, rfl⟩
abbrev main_v60_12 : Ref sig .tc := ⟨.hbm, 90, rfl⟩
abbrev main_v60_13 : Ref sig .tc := ⟨.hbm, 91, rfl⟩
abbrev main_v60_14 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x7040 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x8x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x8x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S256x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]
-- ==== ProjSampleRefIdeal.lean ====
abbrev S8x32x1024 : Shape := ⟨3, ![8, 32, 1024]⟩
abbrev S1024x6980 : Shape := ⟨2, ![1024, 6980]⟩
abbrev S64 : Shape := ⟨1, ![64]⟩
abbrev S8x32x6980 : Shape := ⟨3, ![8, 32, 6980]⟩
abbrev S8x32x512 : Shape := ⟨3, ![8, 32, 512]⟩
abbrev S8x32x256 : Shape := ⟨3, ![8, 32, 256]⟩
abbrev S8x32x64 : Shape := ⟨3, ![8, 32, 64]⟩
abbrev S8x32x4 : Shape := ⟨3, ![8, 32, 4]⟩
abbrev S_ : Shape := ⟨0, ![]⟩
abbrev S8x32 : Shape := ⟨2, ![8, 32]⟩
abbrev S8x32x1 : Shape := ⟨3, ![8, 32, 1]⟩
abbrev S1x1x64 : Shape := ⟨3, ![1, 1, 64]⟩
abbrev S256x8x64 : Shape := ⟨3, ![256, 8, 64]⟩
abbrev S256x64 : Shape := ⟨2, ![256, 64]⟩

abbrev nBuf : Space → Nat
  | .hbm => 49
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1024x6980, .f32⟩
  | .hbm, ⟨2, _⟩ => ⟨S64, .f32⟩
  | .hbm, ⟨3, _⟩ => ⟨S64, .f32⟩
  | .hbm, ⟨4, _⟩ => ⟨S8x32x6980, .f32⟩
  | .hbm, ⟨5, _⟩ => ⟨S8x32x512, .f32⟩
  | .hbm, ⟨6, _⟩ => ⟨S8x32x512, .f32⟩
  | .hbm, ⟨7, _⟩ => ⟨S8x32x512, .f32⟩
  | .hbm, ⟨8, _⟩ => ⟨S8x32x256, .f32⟩
  | .hbm, ⟨9, _⟩ => ⟨S8x32x64, .f32⟩
  | .hbm, ⟨10, _⟩ => ⟨S8x32x4, .f32⟩
  | .hbm, ⟨11, _⟩ => ⟨S8x32x512, .f32⟩
  | .hbm, ⟨12, _⟩ => ⟨S8x32x512, .f32⟩
  | .hbm, ⟨13, _⟩ => ⟨S8x32x1024, .f32⟩
  | .hbm, ⟨14, _⟩ => ⟨S8x32x1024, .f32⟩
  | .hbm, ⟨15, _⟩ => ⟨S8x32x1024, .f32⟩
  | .hbm, ⟨16, _⟩ => ⟨S8x32x1024, .f32⟩
  | .hbm, ⟨17, _⟩ => ⟨S_, .f32⟩
  | .hbm, ⟨18, _⟩ => ⟨S8x32, .f32⟩
  | .hbm, ⟨19, _⟩ => ⟨S8x32x1, .f32⟩
  | .hbm, ⟨20, _⟩ => ⟨S_, .f32⟩
  | .hbm, ⟨21, _⟩ => ⟨S8x32x1, .f32⟩
  | .hbm, ⟨22, _⟩ => ⟨S8x32x1, .f32⟩
  | .hbm, ⟨23, _⟩ => ⟨S8x32x64, .f32⟩
  | .hbm, ⟨24, _⟩ => ⟨S8x32x64, .f32⟩
  | .hbm, ⟨25, _⟩ => ⟨S8x32x64, .f32⟩
  | .hbm, ⟨26, _⟩ => ⟨S_, .f32⟩
  | .hbm, ⟨27, _⟩ => ⟨S8x32, .f32⟩
  | .hbm, ⟨28, _⟩ => ⟨S8x32x1, .f32⟩
  | .hbm, ⟨29, _⟩ => ⟨S_, .f32⟩
  | .hbm, ⟨30, _⟩ => ⟨S8x32x1, .f32⟩
  | .hbm, ⟨31, _⟩ => ⟨S8x32x1, .f32⟩
  | .hbm, ⟨32, _⟩ => ⟨S8x32x64, .f32⟩
  | .hbm, ⟨33, _⟩ => ⟨S8x32x64, .f32⟩
  | .hbm, ⟨34, _⟩ => ⟨S_, .f32⟩
  | .hbm, ⟨35, _⟩ => ⟨S8x32x1, .f32⟩
  | .hbm, ⟨36, _⟩ => ⟨S8x32x1, .f32⟩
  | .hbm, ⟨37, _⟩ => ⟨S8x32x1, .f32⟩
  | .hbm, ⟨38, _⟩ => ⟨S8x32x64, .f32⟩
  | .hbm, ⟨39, _⟩ => ⟨S8x32x64, .f32⟩
  | .hbm, ⟨40, _⟩ => ⟨S1x1x64, .f32⟩
  | .hbm, ⟨41, _⟩ => ⟨S8x32x64, .f32⟩
  | .hbm, ⟨42, _⟩ => ⟨S8x32x64, .f32⟩
  | .hbm, ⟨43, _⟩ => ⟨S1x1x64, .f32⟩
  | .hbm, ⟨44, _⟩ => ⟨S8x32x64, .f32⟩
  | .hbm, ⟨45, _⟩ => ⟨S8x32x64, .f32⟩
  | .hbm, ⟨46, _⟩ => ⟨S256x8x64, .f32⟩
  | .hbm, ⟨47, _⟩ => ⟨S256x8x64, .f32⟩
  | .hbm, ⟨48, _⟩ => ⟨S256x64, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩

abbrev nD : Nat := 1
abbrev τ : Topo := Topo.v7x

variable {F : FTy → Type} [FloatOps F]
-- ==== Proof.Finish.Row.lean ====
/-
  The finishing step of the layer on ONE token, over the extended reals: what both the kernel and the
  reference compute for a row, stated once and for any row.
-/
module

public import Idealize.ShloMosaic.Lib.Pointwise

@[expose] public section

noncomputable section

namespace Cert.FinishRow

open Idealize.ShloMosaic

/-- A row times a matrix: entry `n` is the sum over `k` of `v k * w k n`. -/
def lin {K N : ℕ} (v : Fin K → EReal) (w : Fin K → Fin N → EReal) (n : Fin N) : EReal := ∑ k, v k * w k n

/-- The mean of a row of 1024 entries, the divisor being the literal 1024. -/
def mean (v : Fin 1024 → EReal) : EReal := Ideal.div (∑ k, v k) (Ideal.ofBits .f32 0x44800000#32)

/-- Layer normalisation of a row: the row less its mean, times the reciprocal root of its variance plus
    the literal epsilon, times the gain, plus the bias. -/
def layerNorm (v g b : Fin 1024 → EReal) (j : Fin 1024) : EReal :=
  (v j - mean v) * Ideal.rsqrt (mean (fun k => (v k - mean v) * (v k - mean v)) + Ideal.ofBits .f32 0x3727C5AC#32) * g j + b j

/-- The merge of the two branches and the residual: `α x + (σ(ga) (a Wa) + σ(gr) (r Wr)) Wo`. -/
def merged (x ga gr : Fin 1024 → EReal) (a : Fin 512 → EReal) (r : Fin 1024 → EReal)
    (wa : Fin 512 → Fin 1024 → EReal) (wr wo : Fin 1024 → Fin 1024 → EReal) (j : Fin 1024) : EReal :=
  Ideal.ofBits .f32 0x3F9837F0#32 * x j
    + lin (fun n => Ideal.logistic (ga n) * lin a wa n + Ideal.logistic (gr n) * lin r wr n) wo j

/-- The gated feed-forward step and its residual: `α z + (silu(z Wg) (z Wu)) Wd`. -/
def feed (z : Fin 1024 → EReal) (wg wu : Fin 1024 → Fin 2816 → EReal) (wd : Fin 2816 → Fin 1024 → EReal) (j : Fin 1024) : EReal :=
  Ideal.ofBits .f32 0x3F9837F0#32 * z j
    + lin (fun n => lin z wg n * Ideal.logistic (lin z wg n) * lin z wu n) wd j

/-- The whole finishing step of one token. -/
def finish (x ga gr : Fin 1024 → EReal) (a : Fin 512 → EReal) (r : Fin 1024 → EReal)
    (wa : Fin 512 → Fin 1024 → EReal) (wr wo : Fin 1024 → Fin 1024 → EReal) (g₁ b₁ : Fin 1024 → EReal)
    (wg wu : Fin 1024 → Fin 2816 → EReal) (wd : Fin 2816 → Fin 1024 → EReal) (g₂ b₂ : Fin 1024 → EReal) : Fin 1024 → EReal :=
  layerNorm (feed (layerNorm (merged x ga gr a r wa wr wo) g₁ b₁) wg wu wd) g₂ b₂

/-- The whole result: row `y 0` of the 65536 is token `(y 0) % 8192` of sequence `(y 0) / 8192`. -/
def result (x : (⟨3, ![8, 8192, 1024]⟩ : Shape).Idx → EReal) (a : (⟨3, ![8, 8192, 512]⟩ : Shape).Idx → EReal)
    (r ga gr : (⟨3, ![8, 8192, 1024]⟩ : Shape).Idx → EReal) (wa : (⟨2, ![512, 1024]⟩ : Shape).Idx → EReal)
    (wr wo : (⟨2, ![1024, 1024]⟩ : Shape).Idx → EReal) (g₁ b₁ : (⟨1, ![1024]⟩ : Shape).Idx → EReal)
    (wg wu : (⟨2, ![1024, 2816]⟩ : Shape).Idx → EReal) (wd : (⟨2, ![2816, 1024]⟩ : Shape).Idx → EReal)
    (g₂ b₂ : (⟨1, ![1024]⟩ : Shape).Idx → EReal) (R : Fin 65536) (j : Fin 1024) : EReal :=
  have b : Fin 8 := ⟨R.val / 8192, by have := R.isLt; omega⟩
  have s : Fin 8192 := ⟨R.val % 8192, by omega⟩
  finish (fun n => x (ix3 b s n)) (fun n => ga (ix3 b s n)) (fun n => gr (ix3 b s n)) (fun n => a (ix3 b s n)) (fun n => r (ix3 b s n))
    (fun k n => wa (ix2 k n)) (fun k n => wr (ix2 k n)) (fun k n => wo (ix2 k n)) (fun n => g₁ (ix1 n)) (fun n => b₁ (ix1 n))
    (fun k n => wg (ix2 k n)) (fun k n => wu (ix2 k n)) (fun k n => wd (ix2 k n)) (fun n => g₂ (ix1 n)) (fun n => b₂ (ix1 n)) j

end Cert.FinishRow

end
-- ==== Proof.Finish.Block.lean ====
/-
  What one grid point of the finishing kernel computes from its blocks, row by row.
-/
module

public import proofs.«01_k».proof.Proof.Gen.FinishIdeal.Value
public import proofs.«01_k».proof.Proof.Finish.Row

@[expose] public section

set_option maxRecDepth 16384

noncomputable section

namespace Cert.FinishIdeal.Block

open Cert.FinishIdeal Cert.FinishIdeal.Gen Cert.FinishRow Idealize.ShloMosaic Idealize.ShloMosaic.TcCoe Idealize.SL.Sem

/-- The first payload at an index: the merge of the two branches of that row. -/
theorem pay2_apply (v0 : Vec Ideal S512x1024 .f32) (v2 : Vec Ideal S512x1024 .bf16) (v6 : Vec Ideal S512x512 .bf16) (v8 : Vec Ideal S512x1024 .bf16)
    (v12 : Vec Ideal S512x1024 .bf16) (v16 : Vec Ideal S512x1024 .bf16) (v18 : Vec Ideal S1024x1024 .bf16) (v26 : Vec Ideal S1024x1024 .bf16)
    (i : Fin 512) (j : Fin 1024) :
    k0_pay2 (F := Ideal) v0 v2 v6 v8 v12 v16 v18 v26 (ix2 i j)
      = merged (fun n => v0 (ix2 i n)) (fun n => v2 (ix2 i n)) (fun n => v12 (ix2 i n)) (fun n => v6 (ix2 i n)) (fun n => v16 (ix2 i n))
          (fun k n => v8 (ix2 k n)) (fun k n => v18 (ix2 k n)) (fun k n => v26 (ix2 k n)) j := by
  pointwise! [k0_pay2, merged, lin]

/-- Layer normalisation followed by the feed-forward step, at an index. -/
theorem pay5_apply (v29 : FVec Ideal S512x1024 .f32) (v31 v33 : FVec Ideal S1x1024 .f32) (v55 v60 : Vec Ideal S1024x2816 .bf16) (v67 : Vec Ideal S2816x1024 .bf16)
    (i : Fin 512) (j : Fin 1024) :
    k0_pay5 (F := Ideal) v29 v31 v33 v55 v60 v67 (ix2 i j)
      = feed (layerNorm (fun n => v29 (ix2 i n)) (fun n => v31 (ix2 0 n)) (fun n => v33 (ix2 0 n)))
          (fun k n => v55 (ix2 k n)) (fun k n => v60 (ix2 k n)) (fun k n => v67 (ix2 k n)) j := by
  pointwise! [k0_pay5, feed, layerNorm, mean, lin]

/-- The last layer normalisation, at an index. -/
theorem pay1_apply (v70 : FVec Ideal S512x1024 .f32) (v72 v74 : FVec Ideal S1x1024 .f32) (i : Fin 512) (j : Fin 1024) :
    k0_pay1 (F := Ideal) v70 v72 v74 (ix2 i j)
      = layerNorm (fun n => v70 (ix2 i n)) (fun n => v72 (ix2 0 n)) (fun n => v74 (ix2 0 n)) j := by
  pointwise! [k0_pay1, layerNorm, mean]

end Cert.FinishIdeal.Block

end
-- ==== Proof.Finish.Array.lean ====
/-
  What the finishing kernel's result array holds after the run: `FinishRow.result` of the argument arrays.
-/
module

public import Idealize.ShloMosaic.Lib.Pipeline.ValueKit
public import proofs.«01_k».proof.Proof.Finish.Block

@[expose] public section

set_option maxRecDepth 16384

noncomputable section

namespace Cert.FinishIdeal.Array

open Cert.FinishIdeal Cert.FinishIdeal.Gen Cert.FinishRow Idealize.ShloMosaic Idealize.ShloMosaic.TcCoe Idealize.SL.Sem

variable (m : (ℓ : Loc nD τ sig) → Buf (Elt Ideal) ℓ) (ρ : Dev nD → PrngReg)

/-- Each window's block index at a grid point: the row windows move with the point, the others stay. -/
theorem idx : ∀ t : Fin grid0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![(grid0.coords t 0).val, 0] := by
  decide +kernel

/-- What the result array is shown to hold. -/
abbrev out (c : Dev nD) : FVec Ideal S65536x1024 .f32 := fun y =>
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (y 0) (y 1)

/-- Window 0's block at point `t`: rows of argument 0. -/
theorem blk0 (c : Dev nD) (t : Fin cfg0.N) (i : Fin 512) (n : Fin 1024) (R : Fin 65536) (hR : R.val = (grid0.coords t 0).val * 512 + i.val) :
    iblk m c 0 t (ix2 i n) = m ((c : Thread nD τ).loc main_arg0) (ix3 (⟨R.val / 8192, by have := R.isLt; omega⟩ : Fin 8) (⟨R.val % 8192, by omega⟩ : Fin 8192) n) := by
  obtain ⟨h0, h1, h2, h3, h4, -⟩ := idx t
  blk_ext! [iblk, h0, hR]

/-- Window 1's block at point `t`: rows of argument 1. -/
theorem blk1 (c : Dev nD) (t : Fin cfg0.N) (i : Fin 512) (n : Fin 512) (R : Fin 65536) (hR : R.val = (grid0.coords t 0).val * 512 + i.val) :
    iblk m c 1 t (ix2 i n) = m ((c : Thread nD τ).loc main_arg1) (ix3 (⟨R.val / 8192, by have := R.isLt; omega⟩ : Fin 8) (⟨R.val % 8192, by omega⟩ : Fin 8192) n) := by
  obtain ⟨h0, h1, h2, h3, h4, -⟩ := idx t
  blk_ext! [iblk, h1, hR]

/-- Window 2's block at point `t`: rows of argument 2. -/
theorem blk2 (c : Dev nD) (t : Fin cfg0.N) (i : Fin 512) (n : Fin 1024) (R : Fin 65536) (hR : R.val = (grid0.coords t 0).val * 512 + i.val) :
    iblk m c 2 t (ix2 i n) = m ((c : Thread nD τ).loc main_arg2) (ix3 (⟨R.val / 8192, by have := R.isLt; omega⟩ : Fin 8) (⟨R.val % 8192, by omega⟩ : Fin 8192) n) := by
  obtain ⟨h0, h1, h2, h3, h4, -⟩ := idx t
  blk_ext! [iblk, h2, hR]

/-- Window 3's block at point `t`: rows of argument 3. -/
theorem blk3 (c : Dev nD) (t : Fin cfg0.N) (i : Fin 512) (n : Fin 1024) (R : Fin 65536) (hR : R.val = (grid0.coords t 0).val * 512 + i.val) :
    iblk m c 3 t (ix2 i n) = m ((c : Thread nD τ).loc main_arg3) (ix3 (⟨R.val / 8192, by have := R.isLt; omega⟩ : Fin 8) (⟨R.val % 8192, by omega⟩ : Fin 8192) n) := by
  obtain ⟨h0, h1, h2, h3, h4, -⟩ := idx t
  blk_ext! [iblk, h3, hR]

/-- Window 4's block at point `t`: rows of argument 4. -/
theorem blk4 (c : Dev nD) (t : Fin cfg0.N) (i : Fin 512) (n : Fin 1024) (R : Fin 65536) (hR : R.val = (grid0.coords t 0).val * 512 + i.val) :
    iblk m c 4 t (ix2 i n) = m ((c : Thread nD τ).loc main_arg4) (ix3 (⟨R.val / 8192, by have := R.isLt; omega⟩ : Fin 8) (⟨R.val % 8192, by omega⟩ : Fin 8192) n) := by
  obtain ⟨h0, h1, h2, h3, h4, -⟩ := idx t
  blk_ext! [iblk, h4, hR]

/-- Window 5's block: argument 5, whole. -/
theorem blk5 (c : Dev nD) (t : Fin cfg0.N) (k : Fin 512) (n : Fin 1024) :
    iblk m c 5 t (ix2 k n) = m ((c : Thread nD τ).loc main_arg5) (ix2 k n) := by
  have h := (idx t).2.2.2.2.2.1
  blk_ext [iblk, V, h]

/-- Window 6's block: argument 6, whole. -/
theorem blk6 (c : Dev nD) (t : Fin cfg0.N) (k : Fin 1024) (n : Fin 1024) :
    iblk m c 6 t (ix2 k n) = m ((c : Thread nD τ).loc main_arg6) (ix2 k n) := by
  have h := (idx t).2.2.2.2.2.2.1
  blk_ext [iblk, V, h]

/-- Window 7's block: argument 7, whole. -/
theorem blk7 (c : Dev nD) (t : Fin cfg0.N) (k : Fin 1024) (n : Fin 1024) :
    iblk m c 7 t (ix2 k n) = m ((c : Thread nD τ).loc main_arg7) (ix2 k n) := by
  have h := (idx t).2.2.2.2.2.2.2.1
  blk_ext [iblk, V, h]

/-- Window 10's block: argument 10, whole. -/
theorem blk10 (c : Dev nD) (t : Fin cfg0.N) (k : Fin 1024) (n : Fin 2816) :
    iblk m c 10 t (ix2 k n) = m ((c : Thread nD τ).loc main_arg10) (ix2 k n) := by
  have h := (idx t).2.2.2.2.2.2.2.2.2.2.1
  blk_ext [iblk, V, h]

/-- Window 11's block: argument 11, whole. -/
theorem blk11 (c : Dev nD) (t : Fin cfg0.N) (k : Fin 1024) (n : Fin 2816) :
    iblk m c 11 t (ix2 k n) = m ((c : Thread nD τ).loc main_arg11) (ix2 k n) := by
  have h := (idx t).2.2.2.2.2.2.2.2.2.2.2.1
  blk_ext [iblk, V, h]

/-- Window 12's block: argument 12, whole. -/
theorem blk12 (c : Dev nD) (t : Fin cfg0.N) (k : Fin 2816) (n : Fin 1024) :
    iblk m c 12 t (ix2 k n) = m ((c : Thread nD τ).loc main_arg12) (ix2 k n) := by
  have h := (idx t).2.2.2.2.2.2.2.2.2.2.2.2.1
  blk_ext [iblk, V, h]

/-- Window 8's block: argument 8 as one row. -/
theorem blk8 (c : Dev nD) (t : Fin cfg0.N) (n : Fin 1024) :
    iblk m c 8 t (ix2 0 n) = m ((c : Thread nD τ).loc main_arg8) (ix1 n) := by
  have h := (idx t).2.2.2.2.2.2.2.2.1
  blk_ext! [iblk, h]

/-- Window 9's block: argument 9 as one row. -/
theorem blk9 (c : Dev nD) (t : Fin cfg0.N) (n : Fin 1024) :
    iblk m c 9 t (ix2 0 n) = m ((c : Thread nD τ).loc main_arg9) (ix1 n) := by
  have h := (idx t).2.2.2.2.2.2.2.2.2.1
  blk_ext! [iblk, h]

/-- Window 13's block: argument 13 as one row. -/
theorem blk13 (c : Dev nD) (t : Fin cfg0.N) (n : Fin 1024) :
    iblk m c 13 t (ix2 0 n) = m ((c : Thread nD τ).loc main_arg13) (ix1 n) := by
  have h := (idx t).2.2.2.2.2.2.2.2.2.2.2.2.2.1
  blk_ext! [iblk, h]

/-- Window 14's block: argument 14 as one row. -/
theorem blk14 (c : Dev nD) (t : Fin cfg0.N) (n : Fin 1024) :
    iblk m c 14 t (ix2 0 n) = m ((c : Thread nD τ).loc main_arg14) (ix1 n) := by
  have h := (idx t).2.2.2.2.2.2.2.2.2.2.2.2.2.2.1
  blk_ext! [iblk, h]

/-- The result array after the run. -/
theorem final (c : Dev nD) : (dats m 0 c).arrAt 15 cfg0.N = out m c := by
  refine (dats m 0 c).arrAt_eq_of_covers 15 _ (by decide +kernel) fun t hf y => ?_
  have h15 := (idx t).2.2.2.2.2.2.2.2.2.2.2.2.2.2.2
  have hR : ∀ y : S512x1024.Idx, ((((cfg0.win 15).blk t).view.emb y : S65536x1024.Idx) 0).val = (grid0.coords t 0).val * 512 + (y 0).val := by
    intro y; blk_simp [h15]
  have hj : ∀ y : S512x1024.Idx, ((((cfg0.win 15).blk t).view.emb y : S65536x1024.Idx) 1).val = (y 1).val := by
    intro y; blk_simp [h15]
  replace hR := hR y
  replace hj := hj y
  generalize (((cfg0.win 15).blk t).view.emb y : S65536x1024.Idx) = Y at hR hj ⊢
  blk_simp
  rw [after0_15]
  frame_out
  idx_vars y
  rw [Block.pay1_apply]
  simp only [Block.pay5_apply, Block.pay2_apply]
  pointwise [k0_pay3, k0_pay4, k0_pay6, k0_pay7]
  replace hj : Y 1 = y1 := Fin.ext hj
  unfold out result finish
  rw [hj]
  simp only [blk0 m c t y0 _ _ hR, blk1 m c t y0 _ _ hR, blk2 m c t y0 _ _ hR, blk3 m c t y0 _ _ hR, blk4 m c t y0 _ _ hR,
    blk5, blk6, blk7, blk8, blk9, blk10, blk11, blk12, blk13, blk14]

end Cert.FinishIdeal.Array

end
-- ==== Proof.Finish.Reference.lean ====
/-
  What the finishing reference computes, token by token: `FinishRow.result` of its arguments.
-/
module

public import proofs.«01_k».proof.Proof.Gen.FinishRefIdeal.Run
public import proofs.«01_k».proof.Proof.Finish.Row
public import Idealize.ShloMosaic.Lib.Claim
public import Idealize.ShloMosaic.Lib.Tactic.CleanTypes

@[expose] public section

set_option maxRecDepth 16384

noncomputable section

namespace Cert.FinishRefIdeal.Rows

open Cert.FinishRefIdeal Cert.FinishRefIdeal.Value Cert.FinishRow Idealize.ShloMosaic Idealize.ShloMosaic.TcCoe Idealize.ShloMosaic.StableHlo Idealize.SL.Sem

/-- Argument 0 of the reference, from its buffer. -/
abbrev x0 (V0 : Valuation τ sig (Elt Ideal)) : FVec Ideal S8x8192x1024 .f32 := V0 (Proc.devRef .tc main_arg0)
/-- Argument 1 of the reference, from its buffer. -/
abbrev x1 (V0 : Valuation τ sig (Elt Ideal)) : FVec Ideal S8x8192x512 .bf16 := V0 (Proc.devRef .tc main_arg1)
/-- Argument 2 of the reference, from its buffer. -/
abbrev x2 (V0 : Valuation τ sig (Elt Ideal)) : FVec Ideal S8x8192x1024 .bf16 := V0 (Proc.devRef .tc main_arg2)
/-- Argument 3 of the reference, from its buffer. -/
abbrev x3 (V0 : Valuation τ sig (Elt Ideal)) : FVec Ideal S8x8192x1024 .bf16 := V0 (Proc.devRef .tc main_arg3)
/-- Argument 4 of the reference, from its buffer. -/
abbrev x4 (V0 : Valuation τ sig (Elt Ideal)) : FVec Ideal S8x8192x1024 .bf16 := V0 (Proc.devRef .tc main_arg4)
/-- Argument 5 of the reference, from its buffer. -/
abbrev x5 (V0 : Valuation τ sig (Elt Ideal)) : FVec Ideal S512x1024 .f32 := V0 (Proc.devRef .tc main_arg5)
/-- Argument 6 of the reference, from its buffer. -/
abbrev x6 (V0 : Valuation τ sig (Elt Ideal)) : FVec Ideal S1024x1024 .f32 := V0 (Proc.devRef .tc main_arg6)
/-- Argument 7 of the reference, from its buffer. -/
abbrev x7 (V0 : Valuation τ sig (Elt Ideal)) : FVec Ideal S1024x1024 .f32 := V0 (Proc.devRef .tc main_arg7)
/-- Argument 8 of the reference, from its buffer. -/
abbrev x8 (V0 : Valuation τ sig (Elt Ideal)) : FVec Ideal S1024 .f32 := V0 (Proc.devRef .tc main_arg8)
/-- Argument 9 of the reference, from its buffer. -/
abbrev x9 (V0 : Valuation τ sig (Elt Ideal)) : FVec Ideal S1024 .f32 := V0 (Proc.devRef .tc main_arg9)
/-- Argument 10 of the reference, from its buffer. -/
abbrev x10 (V0 : Valuation τ sig (Elt Ideal)) : FVec Ideal S1024x2816 .f32 := V0 (Proc.devRef .tc main_arg10)
/-- Argument 11 of the reference, from its buffer. -/
abbrev x11 (V0 : Valuation τ sig (Elt Ideal)) : FVec Ideal S1024x2816 .f32 := V0 (Proc.devRef .tc main_arg11)
/-- Argument 12 of the reference, from its buffer. -/
abbrev x12 (V0 : Valuation τ sig (Elt Ideal)) : FVec Ideal S2816x1024 .f32 := V0 (Proc.devRef .tc main_arg12)
/-- Argument 13 of the reference, from its buffer. -/
abbrev x13 (V0 : Valuation τ sig (Elt Ideal)) : FVec Ideal S1024 .f32 := V0 (Proc.devRef .tc main_arg13)
/-- Argument 14 of the reference, from its buffer. -/
abbrev x14 (V0 : Valuation τ sig (Elt Ideal)) : FVec Ideal S1024 .f32 := V0 (Proc.devRef .tc main_arg14)

variable (V0 : Valuation τ sig (Elt Ideal))

/-- The merge of the two branches, at an index. -/
theorem v24_apply (b : Fin 8) (s : Fin 8192) (j : Fin 1024) :
    (res_main_v24 V0 : FVec Ideal S8x8192x1024 .f32) (ix3 b s j)
      = merged (fun n => x0 V0 (ix3 b s n)) (fun n => x3 V0 (ix3 b s n)) (fun n => x4 V0 (ix3 b s n)) (fun n => x1 V0 (ix3 b s n)) (fun n => x2 V0 (ix3 b s n)) (fun k n => x5 V0 (ix2 k n)) (fun k n => x6 V0 (ix2 k n)) (fun k n => x7 V0 (ix2 k n)) j := by
  unfold res_main_v24
  clean_types
  pointwise! [merged, lin]

/-- The first layer normalisation, at an index, over the merge. -/
theorem v48_apply (b : Fin 8) (s : Fin 8192) (j : Fin 1024) :
    (res_main_v48 V0 : FVec Ideal S8x8192x1024 .f32) (ix3 b s j)
      = layerNorm (fun n => (res_main_v24 V0 : FVec Ideal S8x8192x1024 .f32) (ix3 b s n)) (fun n => x8 V0 (ix1 n)) (fun n => x9 V0 (ix1 n)) j := by
  unfold res_main_v48 res_main_v30 res_main_v28
  clean_types
  pointwise! [layerNorm, mean]

/-- The feed-forward step, at an index, over the normalised row. -/
theorem v56_apply (b : Fin 8) (s : Fin 8192) (j : Fin 1024) :
    (res_main_v56 V0 : FVec Ideal S8x8192x1024 .f32) (ix3 b s j)
      = feed (fun n => (res_main_v48 V0 : FVec Ideal S8x8192x1024 .f32) (ix3 b s n)) (fun k n => x10 V0 (ix2 k n)) (fun k n => x11 V0 (ix2 k n)) (fun k n => x12 V0 (ix2 k n)) j := by
  unfold res_main_v56 res_main_v49
  clean_types
  pointwise! [feed, lin]

/-- What the reference's result array holds, as a function of the arguments. -/
abbrev out (m : (ℓ : Loc nD τ sig) → Buf (Elt Ideal) ℓ) (c : Dev nD) : FVec Ideal S65536x1024 .f32 := fun y =>
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (y 0) (y 1)

/-- The run of the reference: its result is `FinishRow.result` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun _ h c => ⟨(h c).1.trans ?_, (h c).2⟩) (Value.run (F := Ideal) m ρ)
  have e : ∀ b s, (fun n => (res_main_v24 (launchContents m c) : FVec Ideal S8x8192x1024 .f32) (ix3 b s n)) = _ :=
    fun b s => funext fun n => v24_apply (launchContents m c) b s n
  have e' : ∀ b s, (fun n => (res_main_v48 (launchContents m c) : FVec Ideal S8x8192x1024 .f32) (ix3 b s n)) = _ :=
    fun b s => funext fun n => (v48_apply (launchContents m c) b s n).trans (by rw [e])
  have e'' : ∀ b s n, (res_main_v56 (launchContents m c) : FVec Ideal S8x8192x1024 .f32) (ix3 b s n) = _ :=
    fun b s n => (v56_apply (launchContents m c) b s n).trans (by rw [e'])
  funext y
  unfold res_main_v62 res_main_v60
  unfold out result finish
  clean_types
  idx_vars y
  pointwise [layerNorm, mean]
  simp only [e'']

end Cert.FinishRefIdeal.Rows

end
-- ==== Proof.Finish.Claims.lean ====
/-
  The claims about the finishing step: its frames, and that kernel and reference return the same array.
-/
module

public import proofs.«01_k».proof.Defs
public import proofs.«01_k».proof.Proof.Gen.Finish.Frame
public import proofs.«01_k».proof.Proof.Finish.Array
public import proofs.«01_k».proof.Proof.Finish.Reference

@[expose] public section

set_option maxRecDepth 16384

noncomputable section

namespace Cert.Proof.FinishClaims

open Idealize.ShloMosaic Idealize.SL.Sem

/-- The kernel runs safely, terminates and leaves its arguments and counters as they were, over bits. -/
theorem frameP : Cert.quiescent_Finish := fun m ρ _ => Cert.Finish.Gen.frame m ρ
/-- The same over the extended reals. -/
theorem framePI : Cert.quiescent_FinishIdeal := fun m ρ _ => Cert.FinishIdeal.Gen.frame m ρ
/-- The reference runs, terminates and leaves its arguments as they were. -/
theorem frameRI : Cert.quiescent_FinishRefIdeal := fun m ρ _ =>
  (θ_run Cert.FinishRefIdeal.defs _ _).mono (fun r h => ⟨fun c => (h c).2, sem_eq_zero_of_no_sems (by decide) r.2⟩)
    (Cert.FinishRefIdeal.Value.run (F := Ideal) m ρ)
/-- The program over the extended reals is the program over bits, operation by operation. -/
theorem preserves : Cert.preserves_Finish_FinishIdeal := trivial

/-- Over the extended reals the finishing kernel returns exactly what its reference returns. -/
theorem algebraic : Cert.algebraic_FinishIdeal_FinishRefIdeal := by
  intro m ρ m' ρ' _ hagree
  refine ⟨fun c => Cert.FinishIdeal.Array.out m c, ?_, ?_⟩
  · exact (θ_run Cert.FinishIdeal.defs _ _).mono (fun _ h c => ⟨(h c).1.trans (Cert.FinishIdeal.Array.final m c), (h c).2⟩)
      (Cert.FinishIdeal.Value.run_blocks (F := Ideal) m ρ)
  refine (θ_run Cert.FinishRefIdeal.defs _ _).mono (fun _ h c => ⟨(h c).1.trans ?_, (h c).2⟩) (Cert.FinishRefIdeal.Rows.run m' ρ')
  obtain ⟨h0, h1, h2, h3, h4, h5, h6, h7, h8, h9, h10, h11, h12, h13, h14⟩ := hagree c
  unfold Cert.FinishRefIdeal.Rows.out Cert.FinishIdeal.Array.out
  rw [h0, h1, h2, h3, h4, h5, h6, h7, h8, h9, h10, h11, h12, h13, h14]

end Cert.Proof.FinishClaims

end
-- ==== Proof.Retention.Frames.lean ====
/-
  The frames of the retention kernel and of its reference.
-/
module

public import proofs.«01_k».proof.Defs
public import proofs.«01_k».proof.Proof.Gen.Retention.Frame
public import proofs.«01_k».proof.Proof.Gen.RetentionIdeal.Frame
public import proofs.«01_k».proof.Proof.Gen.RetentionRefIdeal.Run

@[expose] public section

set_option maxRecDepth 16384

noncomputable section

namespace Cert.Proof.RetentionClaims

open Idealize.ShloMosaic Idealize.SL.Sem

/-- The kernel runs safely, terminates and leaves its arguments and counters as they were, over bits. -/
theorem frameP : Cert.quiescent_Retention := fun m ρ _ => Cert.Retention.Gen.frame m ρ
/-- The same over the extended reals. -/
theorem framePI : Cert.quiescent_RetentionIdeal := fun m ρ _ => Cert.RetentionIdeal.Gen.frame m ρ
/-- The reference runs, terminates and leaves its arguments as they were. -/
theorem frameRI : Cert.quiescent_RetentionRefIdeal := fun m ρ _ =>
  (θ_run Cert.RetentionRefIdeal.defs _ _).mono (fun r h => ⟨fun c => (h c).2.2, sem_eq_zero_of_no_sems (by decide) r.2⟩)
    (Cert.RetentionRefIdeal.Value.run (F := Ideal) m ρ)
/-- The program over the extended reals is the program over bits, operation by operation. -/
theorem preserves : Cert.preserves_Retention_RetentionIdeal := trivial

end Cert.Proof.RetentionClaims

end
-- ==== Proof.Proj.Row.lean ====
/-
  What the projection computes for one token, written once for the kernel and its reference.

  A row `R` of the 65536 is token `R % 8192` of sequence `R / 8192`; `col` is the product of its activations with one
  column of the input projection.
-/
module

public import Idealize.ShloMosaic.Lib.ValueIdx
public import Idealize.ShloMosaic.Lib.Pointwise

@[expose] public section

noncomputable section

namespace Cert.ProjRow

open Idealize.ShloMosaic

variable (x : (⟨3, ![8, 8192, 1024]⟩ : Shape).Idx → EReal) (w : (⟨2, ![1024, 6980]⟩ : Shape).Idx → EReal)

/-- The sequence of a row. -/
abbrev seq (R : Fin 65536) : Fin 8 := ⟨R.val / 8192, by have := R.isLt; omega⟩
/-- The position of a row in its sequence. -/
abbrev pos (R : Fin 65536) : Fin 8192 := ⟨R.val % 8192, by omega⟩

/-- Row `R` of the activations times column `n` of the projection. -/
def col (R : Fin 65536) (n : Fin 6980) : EReal := ∑ k : Fin 1024, x (ix3 (seq R) (pos R) k) * w (ix2 k n)

/-- A column of the projection by its number. -/
abbrev C (n : ℕ) (h : n < 6980 := by omega) : Fin 6980 := ⟨n, h⟩

/-- The mean of 64 entries, the divisor being the literal 64. -/
def mean (v : Fin 64 → EReal) : EReal := Ideal.div (∑ k, v k) (Ideal.ofBits .f32 0x42800000#32)

/-- Layer normalisation of the 64 entries of the indexer key. -/
def layerNorm (v g b : Fin 64 → EReal) (j : Fin 64) : EReal :=
  (v j - mean v) * Ideal.rsqrt (mean (fun k => (v k - mean v) * (v k - mean v)) + Ideal.ofBits .f32 0x3727C5AC#32) * g j + b j

/-- The indexer key of a row. -/
def idxKey (g b : (⟨1, ![64]⟩ : Shape).Idx → EReal) (R : Fin 65536) (j : Fin 64) : EReal :=
  layerNorm (fun n => col x w R (C (1792 + n.val) (by have := n.isLt; omega))) (fun n => g (ix1 n)) (fun n => b (ix1 n)) j

/-- The score lanes of a row: the raw indexer key and weights, scaled, then zeros. -/
def score (R : Fin 65536) (l : Fin 128) : EReal :=
  (if h : l.val < 68 then col x w R (C (1792 + l.val) (by omega)) else 0) * Ideal.ofBits .f32 0x3D800000#32

/-- The rotation's angle at a position for the frequency numbered `k`. -/
def angleN (t : Fin 8192) (k : ℕ) : EReal :=
  FloatOps.sitofp (F := Ideal) .f32 (BitVec.ofNat 32 t.val)
    * Ideal.pow (Ideal.ofBits .f32 0x461C4000#32) (Ideal.div (-FloatOps.sitofp (F := Ideal) .f32 (BitVec.ofNat 32 k)) (Ideal.ofBits .f32 0x42000000#32))

/-- The column, among the 512 from `off`, of the half `p` that lane `l` rotates: lanes are laid out by pairs of heads,
    first the first halves of the two heads, then their second halves. -/
def rotCol (off : ℕ) (hoff : off + 512 ≤ 6980) (l : Fin 512) (p : Fin 2) : Fin 6980 :=
  ⟨off + (2 * (l.val / 128) + l.val / 32 % 2) * 64 + 32 * p.val + l.val % 32, by have := l.isLt; have := p.isLt; omega⟩

/-- The rotation of a row's 512 columns from `off`. -/
def rot (off : ℕ) (hoff : off + 512 ≤ 6980) (R : Fin 65536) (l : Fin 512) : EReal :=
  if l.val / 64 % 2 = 0 then
    col x w R (rotCol off hoff l 0) * Ideal.cos (angleN (pos R) (l.val % 32)) - col x w R (rotCol off hoff l 1) * Ideal.sin (angleN (pos R) (l.val % 32))
  else
    col x w R (rotCol off hoff l 0) * Ideal.sin (angleN (pos R) (l.val % 32)) + col x w R (rotCol off hoff l 1) * Ideal.cos (angleN (pos R) (l.val % 32))

/-- `N` columns from `off`, of every row. -/
def cols (off N : ℕ) (h : off + N ≤ 6980) (y : (⟨2, ![65536, N]⟩ : Shape).Idx) : EReal :=
  col x w (y 0) ⟨off + (y 1).val, by have : (y 1).val < N := (y 1).isLt; omega⟩

/-- 512 columns from `off`, of every row, as eight heads of 64. -/
def heads (off : ℕ) (h : off + 512 ≤ 6980) (y : (⟨3, ![65536, 8, 64]⟩ : Shape).Idx) : EReal :=
  col x w (y 0) ⟨off + ((y 1).val * 64 + (y 2).val), by have : (y 1).val < 8 := (y 1).isLt; have : (y 2).val < 64 := (y 2).isLt; omega⟩

/-- The attention's queries of every row, scaled. -/
def queries (y : (⟨2, ![65536, 512]⟩ : Shape).Idx) : EReal := cols x w 0 512 (by omega) y * Ideal.ofBits .f32 0x3E38AA3B#32

/-- The normalised index keys of every row. -/
def idxKeys (g b : (⟨1, ![64]⟩ : Shape).Idx → EReal) (y : (⟨2, ![65536, 64]⟩ : Shape).Idx) : EReal := idxKey x w g b (y 0) (y 1)

/-- The score lanes of every row. -/
def scores (y : (⟨2, ![65536, 128]⟩ : Shape).Idx) : EReal := score x w (y 0) (y 1)

/-- The rotated columns of every row. -/
def rots (off : ℕ) (hoff : off + 512 ≤ 6980) (y : (⟨2, ![65536, 512]⟩ : Shape).Idx) : EReal := rot x w off hoff (y 0) (y 1)

/-- The rotated keys of every row, scaled. -/
def rotKeys (y : (⟨2, ![65536, 512]⟩ : Shape).Idx) : EReal := rots x w 2372 (by omega) y * Ideal.ofBits .f32 0x3E000000#32

/-- The rotation with its two terms in lane order: the lane's own column times the cosine, and the column 64 lanes away
    times the sine with the sign of the lane's half. -/
theorem rot_lanes (off : ℕ) (hoff : off + 512 ≤ 6980) (R : Fin 65536) (H : Fin 512 → EReal)
    (hH : ∀ n : Fin 512, H n = col x w R (rotCol off hoff n ⟨n.val / 64 % 2, by omega⟩)) (l q : Fin 512)
    (hq : q.val = l.val / 128 * 128 + (l.val % 128 + 64) % 128) :
    H l * Ideal.cos (angleN (pos R) (l.val % 32))
        + H q * (if l.val % 128 < 64 then -Ideal.sin (angleN (pos R) (l.val % 32)) else Ideal.sin (angleN (pos R) (l.val % 32)))
      = rot x w off hoff R l := by
  have hl := l.isLt
  unfold rot
  by_cases h : l.val / 64 % 2 = 0
  · have e1 : rotCol off hoff l ⟨l.val / 64 % 2, by omega⟩ = rotCol off hoff l 0 := congrArg _ (Fin.ext h)
    have e2 : rotCol off hoff q ⟨q.val / 64 % 2, by omega⟩ = rotCol off hoff l 1 :=
      Fin.ext (show off + (2 * (q.val / 128) + q.val / 32 % 2) * 64 + 32 * (q.val / 64 % 2) + q.val % 32
        = off + (2 * (l.val / 128) + l.val / 32 % 2) * 64 + 32 * 1 + l.val % 32 by omega)
    rw [hH, hH, e1, e2, if_pos h, if_pos (by omega), mul_neg, sub_eq_add_neg]
  · have e1 : rotCol off hoff l ⟨l.val / 64 % 2, by omega⟩ = rotCol off hoff l 1 := congrArg _ (Fin.ext (show l.val / 64 % 2 = 1 by omega))
    have e2 : rotCol off hoff q ⟨q.val / 64 % 2, by omega⟩ = rotCol off hoff l 0 :=
      Fin.ext (show off + (2 * (q.val / 128) + q.val / 32 % 2) * 64 + 32 * (q.val / 64 % 2) + q.val % 32
        = off + (2 * (l.val / 128) + l.val / 32 % 2) * 64 + 32 * 0 + l.val % 32 by omega)
    rw [hH, hH, e1, e2, if_neg h, if_neg (by omega), add_comm]

end Cert.ProjRow

end
-- ==== Proof.Proj.Block.lean ====
/-
  What one grid point of the projection kernel computes from its blocks, at an index.
-/
module

public import proofs.«01_k».proof.Proof.Gen.ProjIdeal.Skeleton
public import Idealize.ShloMosaic.Lib.Pointwise
public import proofs.«01_k».proof.Proof.Proj.Row

@[expose] public section

set_option maxRecDepth 16384

noncomputable section

namespace Cert.ProjIdeal.Block

open Cert.ProjIdeal Cert.ProjIdeal.Gen Cert.ProjRow Idealize.ShloMosaic Idealize.ShloMosaic.TcCoe Idealize.SL.Sem

/-- The attention's queries at an index. -/
theorem pay6_apply (v0 : Vec Ideal S512x1024 .f32) (v3 : Vec Ideal S1024x512 .bf16) (i n : Fin 512) :
    k0_pay6 (F := Ideal) v0 v3 (ix2 i n) = (∑ k : Fin 1024, v0 (ix2 i k) * v3 (ix2 k n)) * Ideal.ofBits .f32 0x3E38AA3B#32 := by
  pointwise! [k0_pay6, k0_pay5]

/-- The keys at an index. -/
theorem pay8_apply (v0 : Vec Ideal S512x1024 .f32) (v10 : Vec Ideal S1024x512 .bf16) (i : Fin 512) (h : Fin 8) (d : Fin 64) :
    k0_pay8 (F := Ideal) v0 v10 (ix3 i h d) = ∑ k : Fin 1024, v0 (ix2 i k) * v10 (ix2 k ⟨h.val * 64 + d.val, by omega⟩) := by
  pointwise! [k0_pay8, k0_pay7, k0_pay5]

/-- The values at an index. -/
theorem pay11_apply (v0 : Vec Ideal S512x1024 .f32) (v17 : Vec Ideal S1024x512 .bf16) (i : Fin 512) (h : Fin 8) (d : Fin 64) :
    k0_pay11 (F := Ideal) v0 v17 (ix3 i h d) = ∑ k : Fin 1024, v0 (ix2 i k) * v17 (ix2 k ⟨h.val * 64 + d.val, by omega⟩) := by
  pointwise! [k0_pay11, k0_pay10, k0_pay5]

/-- The index queries at an index. -/
theorem pay29_apply (v2 : Vec Ideal S512x1024 .bf16) (v95 : Vec Ideal S1024x256 .bf16) (i : Fin 512) (n : Fin 256) :
    k0_pay29 (F := Ideal) v2 v95 (ix2 i n) = ∑ k : Fin 1024, v2 (ix2 i k) * v95 (ix2 k n) := by
  pointwise! [k0_pay29]

/-- The index key and weights at an index. -/
theorem pay30_apply (v2 : Vec Ideal S512x1024 .bf16) (v100 : Vec Ideal S1024x128 .bf16) (i : Fin 512) (n : Fin 128) :
    k0_pay30 (F := Ideal) v2 v100 (ix2 i n) = ∑ k : Fin 1024, v2 (ix2 i k) * v100 (ix2 k n) := by
  pointwise! [k0_pay30]

/-- The retention's queries before their rotation, at an index. -/
theorem pay37_apply (v2 : Vec Ideal S512x1024 .bf16) (v141 : Vec Ideal S1024x512 .bf16) (i n : Fin 512) :
    k0_pay37 (F := Ideal) v2 v141 (ix2 i n) = ∑ k : Fin 1024, v2 (ix2 i k) * v141 (ix2 k n) := by
  pointwise! [k0_pay37]

/-- The retention's keys before their rotation, at an index. -/
theorem pay46_apply (v2 : Vec Ideal S512x1024 .bf16) (v141 : Vec Ideal S1024x512 .bf16) (i n : Fin 512) :
    k0_pay46 (F := Ideal) v2 v141 (ix2 i n) = ∑ k : Fin 1024, v2 (ix2 i k) * v141 (ix2 k n) := by
  pointwise! [k0_pay46]

/-- The retention's values at an index. -/
theorem pay1_apply (v2 : Vec Ideal S512x1024 .bf16) (w : Vec Ideal S1024x1024 .bf16) (i : Fin 512) (n : Fin 1024) :
    k0_pay1 (F := Ideal) v2 (k0_pay54 w) (constant S512x1024 .f32 0x00000000#32) (ix2 i n) = ∑ k : Fin 1024, v2 (ix2 i k) * w (ix2 k n) := by
  pointwise! [k0_pay1, k0_pay54]

/-- The retention's gate at an index. -/
theorem pay2_apply (v2 : Vec Ideal S512x1024 .bf16) (w : Vec Ideal S1024x1024 .bf16) (i : Fin 512) (n : Fin 1024) :
    k0_pay2 (F := Ideal) v2 w (ix2 i n) = ∑ k : Fin 1024, v2 (ix2 i k) * w (ix2 k n) := by
  pointwise! [k0_pay2]

/-- The attention's gate at an index. -/
theorem pay3_apply (v2 : Vec Ideal S512x1024 .bf16) (w : Vec Ideal S1024x1024 .bf16) (i : Fin 512) (n : Fin 1024) :
    k0_pay3 (F := Ideal) v2 w (ix2 i n) = ∑ k : Fin 1024, v2 (ix2 i k) * w (ix2 k n) := by
  pointwise! [k0_pay3]

/-- The output gate at an index. -/
theorem pay4_apply (v2 : Vec Ideal S512x1024 .bf16) (w : Vec Ideal S1024x1024 .bf16) (i : Fin 512) (n : Fin 1024) :
    k0_pay4 (F := Ideal) v2 w (ix2 i n) = ∑ k : Fin 1024, v2 (ix2 i k) * w (ix2 k n) := by
  pointwise! [k0_pay4]

/-- The lane from which the rotation by half of the 128 lanes reads. -/
abbrev half (l : Fin 128) : Fin 128 := ⟨(l.val + 64) % 128, by omega⟩

/-- The first pair of heads' queries, rotated, at an index. -/
theorem qrot0 (v2 : Vec Ideal S512x1024 .bf16) (w : Vec Ideal S1024x512 .bf16) (c s : Vec Ideal S512x128 .f32) (i : Fin 512) (l : Fin 128) :
    k0_pay41 (F := Ideal) (k0_pay38 v2 w) (k0_pay39 v2 w) (k0_pay40 c) s (ix2 i l)
      = (k0_pay37 (F := Ideal) v2 w (ix2 i ⟨0 + l.val, by omega⟩) * c (ix2 i l) + k0_pay37 (F := Ideal) v2 w (ix2 i ⟨0 + (half l).val, by omega⟩) * s (ix2 i l))
        * Ideal.ofBits .f32 0x3F800000#32 := by
  pointwise! [k0_pay41, k0_pay38, k0_pay39, k0_pay40]

/-- The second pair of heads' queries, rotated, at an index. -/
theorem qrot1 (v2 : Vec Ideal S512x1024 .bf16) (w : Vec Ideal S1024x512 .bf16) (c s : Vec Ideal S512x128 .f32) (i : Fin 512) (l : Fin 128) :
    k0_pay42 (F := Ideal) (k0_pay37 v2 w) c s (ix2 i l)
      = (k0_pay37 (F := Ideal) v2 w (ix2 i ⟨128 + l.val, by omega⟩) * c (ix2 i l) + k0_pay37 (F := Ideal) v2 w (ix2 i ⟨128 + (half l).val, by omega⟩) * s (ix2 i l))
        * Ideal.ofBits .f32 0x3F800000#32 := by
  pointwise! [k0_pay42]

/-- The third pair of heads' queries, rotated, at an index. -/
theorem qrot2 (v2 : Vec Ideal S512x1024 .bf16) (w : Vec Ideal S1024x512 .bf16) (c s : Vec Ideal S512x128 .f32) (i : Fin 512) (l : Fin 128) :
    k0_pay43 (F := Ideal) (k0_pay37 v2 w) c s (ix2 i l)
      = (k0_pay37 (F := Ideal) v2 w (ix2 i ⟨256 + l.val, by omega⟩) * c (ix2 i l) + k0_pay37 (F := Ideal) v2 w (ix2 i ⟨256 + (half l).val, by omega⟩) * s (ix2 i l))
        * Ideal.ofBits .f32 0x3F800000#32 := by
  pointwise! [k0_pay43]

/-- The fourth pair of heads' queries, rotated, at an index. -/
theorem qrot3 (v2 : Vec Ideal S512x1024 .bf16) (w : Vec Ideal S1024x512 .bf16) (c s : Vec Ideal S512x128 .f32) (i : Fin 512) (l : Fin 128) :
    k0_pay45 (F := Ideal) (k0_pay44 (k0_pay37 v2 w)) c s (ix2 i l)
      = (k0_pay37 (F := Ideal) v2 w (ix2 i ⟨384 + l.val, by omega⟩) * c (ix2 i l) + k0_pay37 (F := Ideal) v2 w (ix2 i ⟨384 + (half l).val, by omega⟩) * s (ix2 i l))
        * Ideal.ofBits .f32 0x3F800000#32 := by
  pointwise! [k0_pay45, k0_pay44]

/-- The first pair of heads' keys, rotated, at an index. -/
theorem krot0 (v2 : Vec Ideal S512x1024 .bf16) (w : Vec Ideal S1024x512 .bf16) (c s : Vec Ideal S512x128 .f32) (i : Fin 512) (l : Fin 128) :
    k0_pay47 (F := Ideal) v2 w c s (ix2 i l)
      = (k0_pay46 (F := Ideal) v2 w (ix2 i ⟨0 + l.val, by omega⟩) * c (ix2 i l) + k0_pay46 (F := Ideal) v2 w (ix2 i ⟨0 + (half l).val, by omega⟩) * s (ix2 i l))
        * Ideal.ofBits .f32 0x3E000000#32 := by
  pointwise! [k0_pay47]

/-- The second pair of heads' keys, rotated, at an index. -/
theorem krot1 (v2 : Vec Ideal S512x1024 .bf16) (w : Vec Ideal S1024x512 .bf16) (c s : Vec Ideal S512x128 .f32) (i : Fin 512) (l : Fin 128) :
    k0_pay51 (F := Ideal) (k0_pay49 v2 w) (k0_pay50 v2 w c) s (ix2 i l)
      = (k0_pay46 (F := Ideal) v2 w (ix2 i ⟨128 + l.val, by omega⟩) * c (ix2 i l) + k0_pay46 (F := Ideal) v2 w (ix2 i ⟨128 + (half l).val, by omega⟩) * s (ix2 i l))
        * Ideal.ofBits .f32 0x3E000000#32 := by
  pointwise! [k0_pay51, k0_pay49, k0_pay50, k0_pay48]

/-- The third pair of heads' keys, rotated, at an index. -/
theorem krot2 (v2 : Vec Ideal S512x1024 .bf16) (w : Vec Ideal S1024x512 .bf16) (c s : Vec Ideal S512x128 .f32) (i : Fin 512) (l : Fin 128) :
    k0_pay52 (F := Ideal) (k0_pay46 v2 w) c s (ix2 i l)
      = (k0_pay46 (F := Ideal) v2 w (ix2 i ⟨256 + l.val, by omega⟩) * c (ix2 i l) + k0_pay46 (F := Ideal) v2 w (ix2 i ⟨256 + (half l).val, by omega⟩) * s (ix2 i l))
        * Ideal.ofBits .f32 0x3E000000#32 := by
  pointwise! [k0_pay52]

/-- The fourth pair of heads' keys, rotated, at an index. -/
theorem krot3 (v2 : Vec Ideal S512x1024 .bf16) (w : Vec Ideal S1024x512 .bf16) (c s : Vec Ideal S512x128 .f32) (i : Fin 512) (l : Fin 128) :
    k0_pay53 (F := Ideal) (k0_pay46 v2 w) c s (ix2 i l)
      = (k0_pay46 (F := Ideal) v2 w (ix2 i ⟨384 + l.val, by omega⟩) * c (ix2 i l) + k0_pay46 (F := Ideal) v2 w (ix2 i ⟨384 + (half l).val, by omega⟩) * s (ix2 i l))
        * Ideal.ofBits .f32 0x3E000000#32 := by
  pointwise! [k0_pay53]

/-- A sum over 128 lanes of which those from 64 on are masked away. -/
theorem masked_sum (f : Fin 128 → EReal) :
    ∑ x : Fin 128, Scalar.select (IntOp.cmpi .slt (BitVec.ofNat 32 x.val) 64#32) (f x) 0 = ∑ k : Fin 64, f ⟨k.val, by omega⟩ := by
  have h : ∀ x : Fin 128, IntOp.cmpi .slt (BitVec.ofNat 32 x.val) 64#32 = if x.val < 64 then 1#1 else 0#1 := by decide +kernel
  refine (Fin.sum_univ_add (a := 64) (b := 64) _).trans ?_
  have h1 : ∀ k : Fin 64, Scalar.select (IntOp.cmpi .slt (BitVec.ofNat 32 (Fin.castAdd 64 k).val) 64#32) (f (Fin.castAdd 64 k)) 0 = f ⟨k.val, by omega⟩ := by
    intro k
    rw [h, if_pos (by exact k.isLt)]
    rfl
  have h2 : ∀ k : Fin 64, Scalar.select (IntOp.cmpi .slt (BitVec.ofNat 32 (Fin.natAdd 64 k).val) 64#32) (f (Fin.natAdd 64 k)) 0 = 0 := by
    intro k
    rw [h, if_neg (by simp)]
    rfl
  simp only [h1, h2, Finset.sum_const_zero, add_zero]

/-- Division by 64 is multiplication by its reciprocal. -/
theorem div_64 (x : EReal) : Ideal.div x (Ideal.ofBits .f32 0x42800000#32) = x * Ideal.ofBits .f32 0x3C800000#32 := by
  have h1 : Ideal.ofBits .f32 0x42800000#32 = ((64 : ℝ) : EReal) := by
    simp [Ideal.ofBits, Ideal.ieee, -EReal.coe_mul]
    norm_num
  have h2 : Ideal.ofBits .f32 0x3C800000#32 = ((1 / 64 : ℝ) : EReal) := by
    simp [Ideal.ofBits, Ideal.ieee, -EReal.coe_mul]
    norm_num
  rw [h1, h2, Ideal.div_coe (by norm_num)]

/-- The mean of a row's index key. -/
theorem pay32_apply (v2 : Vec Ideal S512x1024 .bf16) (w : Vec Ideal S1024x128 .bf16) (i : Fin 512) :
    k0_pay32 (F := Ideal) v2 w (ix2 i 0) = mean (fun n => k0_pay30 (F := Ideal) v2 w (ix2 i ⟨n.val, by omega⟩)) := by
  pointwise [k0_pay32, k0_pay31]
  unfold mean
  rw [masked_sum, div_64]

/-- The normalised index key at an index. -/
theorem pay34_apply (v2 : Vec Ideal S512x1024 .bf16) (w : Vec Ideal S1024x128 .bf16) (g b : Vec Ideal S1x128 .f32) (i : Fin 512) (j : Fin 64) :
    k0_pay34 (F := Ideal) (k0_pay30 v2 w) k0_pay31 (k0_pay32 v2 w) g b (ix2 i j)
      = layerNorm (fun n => k0_pay30 (F := Ideal) v2 w (ix2 i ⟨n.val, by omega⟩)) (fun n => g (ix2 0 ⟨n.val, by omega⟩)) (fun n => b (ix2 0 ⟨n.val, by omega⟩)) j := by
  pointwise [k0_pay34, k0_pay33, k0_pay31]
  unfold layerNorm
  rw [masked_sum, ← div_64, pay32_apply]
  rfl

end Cert.ProjIdeal.Block

end
-- ==== Proof.Proj.Left.lean ====
/-
  What the body of the projection kernel leaves in each output's buffer at a grid point.
-/
module

public import Idealize.ShloMosaic.Lib.Pipeline.ValueKit
public import proofs.«01_k».proof.Proof.Gen.ProjIdeal.Value
public import proofs.«01_k».proof.Proof.Proj.Block

@[expose] public section

set_option maxRecDepth 16384

noncomputable section

namespace Cert.ProjIdeal.Left

open Cert.ProjIdeal Cert.ProjIdeal.Gen Idealize.ShloMosaic Idealize.ShloMosaic.TcCoe Idealize.SL.Sem

variable (m : (ℓ : Loc nD τ sig) → Buf (Elt Ideal) ℓ) (ρ : Dev nD → PrngReg)

/-- The columns of the kernel from `off`, loaded. -/
abbrev part (c : Dev nD) (t : Fin cfg0.N) (off N : ℕ) (inb : ∀ a : Fin 2, (![0, off] : Fin 2 → ℕ) a + (![1024, N] : Fin 2 → ℕ) a ≤ S1024x7040.size a) :
    Vec Ideal ⟨2, ![1024, N]⟩ .bf16 := View.ld (iblk m c 1 t) (Rect.unit (s := S1024x7040) ![0, off] ![1024, N] inb)

/-- Output 6: the attention's queries. -/
theorem left6 (c : Dev nD) (t : Fin cfg0.N) : (dats m 0 c).after 6 t = k0_pay6 (iblk m c 0 t) (part m c t 0 512 inb_S1024x7040_S1024x512_0_0) := by
  rw [after0_6]
  frame_out
  rfl

/-- Output 7: the attention's keys. -/
theorem left7 (c : Dev nD) (t : Fin cfg0.N) : (dats m 0 c).after 7 t = k0_pay8 (iblk m c 0 t) (part m c t 512 512 inb_S1024x7040_S1024x512_0_512) := by
  rw [after0_7]
  frame_out
  rfl

/-- Output 9: the attention's values. -/
theorem left9 (c : Dev nD) (t : Fin cfg0.N) : (dats m 0 c).after 9 t = k0_pay11 (iblk m c 0 t) (part m c t 1024 512 inb_S1024x7040_S1024x512_0_1024) := by
  rw [after0_9]
  frame_out
  rfl

/-- Output 11: the index queries. -/
theorem left11 (c : Dev nD) (t : Fin cfg0.N) : (dats m 0 c).after 11 t = k0_pay29 (k0_pay5 (iblk m c 0 t)) (part m c t 1536 256 inb_S1024x7040_S1024x256_0_1536) := by
  rw [after0_11]
  frame_out
  rfl

/-- Output 12: the index keys. -/
theorem left12 (c : Dev nD) (t : Fin cfg0.N) : (dats m 0 c).after 12 t = k0_pay34 (k0_pay30 (k0_pay5 (iblk m c 0 t)) (part m c t 1792 128 inb_S1024x7040_S1024x128_0_1792)) k0_pay31 (k0_pay32 (k0_pay5 (iblk m c 0 t)) (part m c t 1792 128 inb_S1024x7040_S1024x128_0_1792)) (iblk m c 4 t) (iblk m c 5 t) := by
  rw [after0_12]
  frame_out
  rfl

/-- Output 14: the score lanes. -/
theorem left14 (c : Dev nD) (t : Fin cfg0.N) : (dats m 0 c).after 14 t = k0_pay36 (k0_pay30 (k0_pay5 (iblk m c 0 t)) (part m c t 1792 128 inb_S1024x7040_S1024x128_0_1792)) := by
  rw [after0_14]
  frame_out
  rfl

/-- Output 17: the retention's values. -/
theorem left17 (c : Dev nD) (t : Fin cfg0.N) : (dats m 0 c).after 17 t = k0_pay1 (k0_pay5 (iblk m c 0 t)) (k0_pay54 (part m c t 2944 1024 inb_S1024x7040_S1024x1024_0_2944)) (constant S512x1024 .f32 0x00000000#32) := by
  rw [after0_17]
  frame_out
  rfl

/-- Output 18: the retention's gate. -/
theorem left18 (c : Dev nD) (t : Fin cfg0.N) : (dats m 0 c).after 18 t = k0_pay2 (k0_pay5 (iblk m c 0 t)) (part m c t 3968 1024 inb_S1024x7040_S1024x1024_0_3968) := by
  rw [after0_18]
  frame_out
  rfl

/-- Output 19: the attention's gate. -/
theorem left19 (c : Dev nD) (t : Fin cfg0.N) : (dats m 0 c).after 19 t = k0_pay3 (k0_pay5 (iblk m c 0 t)) (part m c t 4992 1024 inb_S1024x7040_S1024x1024_0_4992) := by
  rw [after0_19]
  frame_out
  rfl

/-- Output 20: the output gate. -/
theorem left20 (c : Dev nD) (t : Fin cfg0.N) : (dats m 0 c).after 20 t = k0_pay4 (k0_pay5 (iblk m c 0 t)) (part m c t 6016 1024 inb_S1024x7040_S1024x1024_0_6016) := by
  rw [after0_20]
  frame_out
  rfl

/-- A tile's lane `x` is lane `l` of the row: its own column and the one 64 lanes away. -/
theorem lane_eq (P : Fin 512 → EReal) (A B : Fin 128 → EReal) (s : EReal) (l : Fin 512) (x : Fin 128) (o : ℕ) (ho : o + 128 ≤ 512) (ho' : o % 128 = 0)
    (h : l.val = o + x.val) :
    (P ⟨o + x.val, by omega⟩ * A x + P ⟨o + (Block.half x).val, by omega⟩ * B x) * s
      = (P l * A ⟨l.val % 128, by omega⟩ + P ⟨l.val / 128 * 128 + (l.val % 128 + 64) % 128, by omega⟩ * B ⟨l.val % 128, by omega⟩) * s := by
  have e1 : (⟨o + x.val, by omega⟩ : Fin 512) = l := Fin.ext h.symm
  have e2 : (⟨l.val % 128, by omega⟩ : Fin 128) = x := Fin.ext (show l.val % 128 = x.val by omega)
  have e3 : (⟨l.val / 128 * 128 + (l.val % 128 + 64) % 128, by omega⟩ : Fin 512) = ⟨o + (Block.half x).val, by omega⟩ :=
    Fin.ext (show l.val / 128 * 128 + (l.val % 128 + 64) % 128 = o + (x.val + 64) % 128 by omega)
  rw [e1, e2, e3]

/-- Output 15: the retention's queries, rotated. -/
theorem left15 (c : Dev nD) (t : Fin cfg0.N) (i l : Fin 512) :
    (dats m 0 c).after 15 t (ix2 i l)
      = (k0_pay37 (F := Ideal) (k0_pay5 (iblk m c 0 t)) (part m c t 1920 512 inb_S1024x7040_S1024x512_0_1920) (ix2 i l) * iblk m c 2 t (ix2 i ⟨l.val % 128, by omega⟩)
          + k0_pay37 (F := Ideal) (k0_pay5 (iblk m c 0 t)) (part m c t 1920 512 inb_S1024x7040_S1024x512_0_1920) (ix2 i ⟨l.val / 128 * 128 + (l.val % 128 + 64) % 128, by omega⟩) * iblk m c 3 t (ix2 i ⟨l.val % 128, by omega⟩))
        * Ideal.ofBits .f32 0x3F800000#32 := by
  rw [after0_15]
  frame_out
  canon_tiles x h
  all_goals idx_vars x
  all_goals obtain rfl : x0 = i := Fin.ext h0.symm
  · exact (Block.qrot3 _ _ _ _ x0 x1).trans (lane_eq (fun n => k0_pay37 (F := Ideal) (k0_pay5 (iblk m c 0 t)) (part m c t 1920 512 inb_S1024x7040_S1024x512_0_1920) (ix2 x0 n)) (fun l => iblk m c 2 t (ix2 x0 l)) (fun l => iblk m c 3 t (ix2 x0 l)) _ l x1 384 (by omega) (by omega) (by omega))
  · exact (Block.qrot2 _ _ _ _ x0 x1).trans (lane_eq (fun n => k0_pay37 (F := Ideal) (k0_pay5 (iblk m c 0 t)) (part m c t 1920 512 inb_S1024x7040_S1024x512_0_1920) (ix2 x0 n)) (fun l => iblk m c 2 t (ix2 x0 l)) (fun l => iblk m c 3 t (ix2 x0 l)) _ l x1 256 (by omega) (by omega) (by omega))
  · exact (Block.qrot1 _ _ _ _ x0 x1).trans (lane_eq (fun n => k0_pay37 (F := Ideal) (k0_pay5 (iblk m c 0 t)) (part m c t 1920 512 inb_S1024x7040_S1024x512_0_1920) (ix2 x0 n)) (fun l => iblk m c 2 t (ix2 x0 l)) (fun l => iblk m c 3 t (ix2 x0 l)) _ l x1 128 (by omega) (by omega) (by omega))
  · exact (Block.qrot0 _ _ _ _ x0 x1).trans (lane_eq (fun n => k0_pay37 (F := Ideal) (k0_pay5 (iblk m c 0 t)) (part m c t 1920 512 inb_S1024x7040_S1024x512_0_1920) (ix2 x0 n)) (fun l => iblk m c 2 t (ix2 x0 l)) (fun l => iblk m c 3 t (ix2 x0 l)) _ l x1 0 (by omega) (by omega) (by omega))

/-- Output 16: the retention's keys, rotated. -/
theorem left16 (c : Dev nD) (t : Fin cfg0.N) (i l : Fin 512) :
    (dats m 0 c).after 16 t (ix2 i l)
      = (k0_pay46 (F := Ideal) (k0_pay5 (iblk m c 0 t)) (part m c t 2432 512 inb_S1024x7040_S1024x512_0_2432) (ix2 i l) * iblk m c 2 t (ix2 i ⟨l.val % 128, by omega⟩)
          + k0_pay46 (F := Ideal) (k0_pay5 (iblk m c 0 t)) (part m c t 2432 512 inb_S1024x7040_S1024x512_0_2432) (ix2 i ⟨l.val / 128 * 128 + (l.val % 128 + 64) % 128, by omega⟩) * iblk m c 3 t (ix2 i ⟨l.val % 128, by omega⟩))
        * Ideal.ofBits .f32 0x3E000000#32 := by
  rw [after0_16]
  frame_out
  canon_tiles x h
  all_goals idx_vars x
  all_goals obtain rfl : x0 = i := Fin.ext h0.symm
  · exact (Block.krot3 _ _ _ _ x0 x1).trans (lane_eq (fun n => k0_pay46 (F := Ideal) (k0_pay5 (iblk m c 0 t)) (part m c t 2432 512 inb_S1024x7040_S1024x512_0_2432) (ix2 x0 n)) (fun l => iblk m c 2 t (ix2 x0 l)) (fun l => iblk m c 3 t (ix2 x0 l)) _ l x1 384 (by omega) (by omega) (by omega))
  · exact (Block.krot2 _ _ _ _ x0 x1).trans (lane_eq (fun n => k0_pay46 (F := Ideal) (k0_pay5 (iblk m c 0 t)) (part m c t 2432 512 inb_S1024x7040_S1024x512_0_2432) (ix2 x0 n)) (fun l => iblk m c 2 t (ix2 x0 l)) (fun l => iblk m c 3 t (ix2 x0 l)) _ l x1 256 (by omega) (by omega) (by omega))
  · exact (Block.krot1 _ _ _ _ x0 x1).trans (lane_eq (fun n => k0_pay46 (F := Ideal) (k0_pay5 (iblk m c 0 t)) (part m c t 2432 512 inb_S1024x7040_S1024x512_0_2432) (ix2 x0 n)) (fun l => iblk m c 2 t (ix2 x0 l)) (fun l => iblk m c 3 t (ix2 x0 l)) _ l x1 128 (by omega) (by omega) (by omega))
  · exact (Block.krot0 _ _ _ _ x0 x1).trans (lane_eq (fun n => k0_pay46 (F := Ideal) (k0_pay5 (iblk m c 0 t)) (part m c t 2432 512 inb_S1024x7040_S1024x512_0_2432) (ix2 x0 n)) (fun l => iblk m c 2 t (ix2 x0 l)) (fun l => iblk m c 3 t (ix2 x0 l)) _ l x1 0 (by omega) (by omega) (by omega))

end Cert.ProjIdeal.Left

end
-- ==== Proof.Proj.Tables.lean ====
/-
  The tables that the host lays out for the projection kernel: its rows, the rotation's cosines and sines, the padded gain and bias.
-/
module

public import Idealize.ShloMosaic.Lib.Pipeline.ValueKit
public import Idealize.ShloMosaic.Lib.ValueIdxCore
public import Idealize.ShloMosaic.Lib.StableHlo.ReadAt
public import proofs.«01_k».proof.Proof.Gen.ProjIdeal.Frame.Runs
public import proofs.«01_k».proof.Proof.Proj.Row

@[expose] public section

set_option maxRecDepth 16384

noncomputable section

namespace Cert.ProjIdeal.Tables

open Cert.ProjIdeal Cert.ProjIdeal.Gen Cert.ProjRow Idealize.ShloMosaic Idealize.ShloMosaic.TcCoe Idealize.SL.Sem

variable (m : (ℓ : Loc nD τ sig) → Buf (Elt Ideal) ℓ)

/-- The host's rows of the activations. -/
theorem host25 (c : Dev nD) (R : Fin 65536) (n : Fin 1024) :
    (V m c main_v25 : FVec Ideal S65536x1024 .f32) (ix2 R n) = m ((c : Thread nD τ).loc main_arg0) (ix3 (seq R) (pos R) n) := by
  unfold V
  after_reads_at

/-- The host's cosine table. -/
theorem host21 (c : Dev nD) (T : Fin 8192) (l : Fin 128) :
    (V m c main_v21 : FVec Ideal S8192x128 .f32) (ix2 T l) = Ideal.cos (angleN T (l.val % 32)) := by
  unfold V
  after_reads_at
  rfl

/-- The host's sine table. -/
theorem host24 (c : Dev nD) (T : Fin 8192) (l : Fin 128) :
    (V m c main_v24 : FVec Ideal S8192x128 .f32) (ix2 T l)
      = if l.val < 64 then -Ideal.sin (angleN T (l.val % 32)) else Ideal.sin (angleN T (l.val % 32)) := by
  unfold V
  after_reads_at
  after_reads_simp
  clean_types
  pointwise
  split_ifs <;> first
    | omega
    | exact congrArg (fun k => -Ideal.sin (angleN T k)) (by omega)
    | exact congrArg (fun k => Ideal.sin (angleN T k)) (by omega)

/-- The host's padded gain. -/
theorem host1 (c : Dev nD) (n : Fin 128) (hn : n.val < 64) :
    (V m c main_v1 : FVec Ideal S1x128 .f32) (ix2 0 n) = m ((c : Thread nD τ).loc main_arg2) (ix1 ⟨n.val, hn⟩) := by
  unfold V
  after_reads_at
  rw [dif_pos hn]

/-- The host's padded bias. -/
theorem host3 (c : Dev nD) (n : Fin 128) (hn : n.val < 64) :
    (V m c main_v3 : FVec Ideal S1x128 .f32) (ix2 0 n) = m ((c : Thread nD τ).loc main_arg3) (ix1 ⟨n.val, hn⟩) := by
  unfold V
  after_reads_at
  rw [dif_pos hn]

end Cert.ProjIdeal.Tables

end
-- ==== Proof.Proj.Weights.lean ====
/-
  The input projection's columns as the host lays them out for the kernel.
-/
module

public import Idealize.ShloMosaic.Lib.Pipeline.ValueKit
public import Idealize.ShloMosaic.Lib.ValueIdxCore
public import Idealize.ShloMosaic.Lib.StableHlo.ReadAt
public import proofs.«01_k».proof.Proof.Gen.ProjIdeal.Frame.Runs
public import proofs.«01_k».proof.Proof.Proj.Row

@[expose] public section

set_option maxRecDepth 16384

noncomputable section

namespace Cert.ProjIdeal.Weights

open Cert.ProjIdeal Cert.ProjIdeal.Gen Cert.ProjRow Idealize.ShloMosaic Idealize.ShloMosaic.TcCoe Idealize.SL.Sem

variable (m : (ℓ : Loc nD τ sig) → Buf (Elt Ideal) ℓ)

/-- Two columns of the same number are the same. -/
theorem at_col (w : FVec Ideal S1024x6980 .f32) (k : Fin 1024) (i j : Fin 6980) (h : i.val = j.val) :
    w (ix2 k i) = w (ix2 k j) := by
  rw [Fin.ext h]

/-- What the host's arrays hold before the columns are joined. -/
abbrev U (c : Dev nD) :=
  StableHlo.upto [hostOps0, hostOps0_1, hostOps0_2, hostOps0_3, hostOps0_4, hostOps0_5, hostOps0_6].flatten (fun b => m (c, b)) 63

/-- A piece of the columns: 512 of them from 0. -/
theorem piece26 (c : Dev nD) (k : Fin 1024) (n : Fin 512) :
    (U m c (Proc.tc.devRef main_v26) : FVec Ideal S1024x512 .f32) (ix2 k n) = m ((c : Thread nD τ).loc main_arg1) (ix2 k (C (0 + n.val) (by omega))) := by
  unfold U
  after_reads_at
/-- A piece of the columns: 512 of them from 512. -/
theorem piece27 (c : Dev nD) (k : Fin 1024) (n : Fin 512) :
    (U m c (Proc.tc.devRef main_v27) : FVec Ideal S1024x512 .f32) (ix2 k n) = m ((c : Thread nD τ).loc main_arg1) (ix2 k (C (512 + n.val) (by omega))) := by
  unfold U
  after_reads_at
/-- A piece of the columns: 512 of them from 1024. -/
theorem piece28 (c : Dev nD) (k : Fin 1024) (n : Fin 512) :
    (U m c (Proc.tc.devRef main_v28) : FVec Ideal S1024x512 .f32) (ix2 k n) = m ((c : Thread nD τ).loc main_arg1) (ix2 k (C (1024 + n.val) (by omega))) := by
  unfold U
  after_reads_at
/-- A piece of the columns: 256 of them from 1536. -/
theorem piece29 (c : Dev nD) (k : Fin 1024) (n : Fin 256) :
    (U m c (Proc.tc.devRef main_v29) : FVec Ideal S1024x256 .f32) (ix2 k n) = m ((c : Thread nD τ).loc main_arg1) (ix2 k (C (1536 + n.val) (by omega))) := by
  unfold U
  after_reads_at
/-- A piece of the columns: 1024 of them from 2884. -/
theorem piece34 (c : Dev nD) (k : Fin 1024) (n : Fin 1024) :
    (U m c (Proc.tc.devRef main_v34) : FVec Ideal S1024x1024 .f32) (ix2 k n) = m ((c : Thread nD τ).loc main_arg1) (ix2 k (C (2884 + n.val) (by omega))) := by
  unfold U
  after_reads_at
/-- A piece of the columns: 1024 of them from 3908. -/
theorem piece35 (c : Dev nD) (k : Fin 1024) (n : Fin 1024) :
    (U m c (Proc.tc.devRef main_v35) : FVec Ideal S1024x1024 .f32) (ix2 k n) = m ((c : Thread nD τ).loc main_arg1) (ix2 k (C (3908 + n.val) (by omega))) := by
  unfold U
  after_reads_at
/-- A piece of the columns: 1024 of them from 4932. -/
theorem piece36 (c : Dev nD) (k : Fin 1024) (n : Fin 1024) :
    (U m c (Proc.tc.devRef main_v36) : FVec Ideal S1024x1024 .f32) (ix2 k n) = m ((c : Thread nD τ).loc main_arg1) (ix2 k (C (4932 + n.val) (by omega))) := by
  unfold U
  after_reads_at
/-- A piece of the columns: 1024 of them from 5956. -/
theorem piece37 (c : Dev nD) (k : Fin 1024) (n : Fin 1024) :
    (U m c (Proc.tc.devRef main_v37) : FVec Ideal S1024x1024 .f32) (ix2 k n) = m ((c : Thread nD τ).loc main_arg1) (ix2 k (C (5956 + n.val) (by omega))) := by
  unfold U
  after_reads_at
/-- The columns of the index key, before the index weights are joined to them. -/
theorem piece30 (c : Dev nD) (k : Fin 1024) (n : Fin 64) :
    (StableHlo.upto [hostOps0, hostOps0_1, hostOps0_2, hostOps0_3, hostOps0_4, hostOps0_5, hostOps0_6].flatten (fun b => m (c, b)) 47
      (Proc.tc.devRef main_v30) : FVec Ideal S1024x64 .f32) (ix2 k n)
      = m ((c : Thread nD τ).loc main_arg1) (ix2 k (C (1792 + n.val) (by omega))) := by
  after_reads_at

/-- The columns of the index weights, before they are joined to the index key's. -/
theorem piece31 (c : Dev nD) (k : Fin 1024) (n : Fin 4) :
    (StableHlo.upto [hostOps0, hostOps0_1, hostOps0_2, hostOps0_3, hostOps0_4, hostOps0_5, hostOps0_6].flatten (fun b => m (c, b)) 47
      (Proc.tc.devRef main_v31) : FVec Ideal S1024x4 .f32) (ix2 k n)
      = m ((c : Thread nD τ).loc main_arg1) (ix2 k (C (1856 + n.val) (by omega))) := by
  after_reads_at

/-- A piece of the columns: the index key and the index weights, padded to a width of 128. -/
theorem piece39 (c : Dev nD) (k : Fin 1024) (n : Fin 128) :
    (U m c (Proc.tc.devRef main_v39) : FVec Ideal S1024x128 .f32) (ix2 k n)
      = if h : n.val < 68 then (m ((c : Thread nD τ).loc main_arg1) : FVec Ideal S1024x6980 .f32) (ix2 k (C (1792 + n.val) (by omega)))
        else FloatOps.sitofp (F := Ideal) .f32 0#32 := by
  unfold U
  after_reads_at
  by_cases h : n.val < 68
  · rw [dif_pos h, dif_pos h]
    by_cases h' : n.val < 64
    · rw [dif_pos h']
      exact piece30 m c k _
    · rw [dif_neg h']
      exact (piece31 m c k _).trans (at_col _ k _ _ (by dsimp only; omega))
  · rw [dif_neg h, dif_neg h]

/-- The table of the order in which the columns of the rotated projections are gathered. -/
theorem lit0_eq : ∀ i : Fin 512, lit0 i = BitVec.ofNat 32 ((2 * (i.val / 128) + i.val / 32 % 2) * 64 + 32 * (i.val / 64 % 2) + i.val % 32) := by
  decide +kernel

/-- Gathering columns: the column that the index names. -/
theorem gather_cols (x : FVec Ideal S1024x512 .f32) (idx : IVec S512x1 32) (k : Fin 1024) (n p : Fin 512)
    (h : idx (ix2 n 0) = BitVec.ofNat 32 p.val) :
    Host.gather gather_S1024x512_S512x1_S1024x512_0_1_n_n_1_1_10241 x idx (ix2 k n) = x (ix2 k p) := by
  unfold Host.gather
  congr 1
  funext a
  refine Fin.ext ?_
  show GatherDims.start _ (ix2 k n) idx a + GatherDims.batchCoord _ (ix2 k n) a + GatherDims.offCoord _ (ix2 k n) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by decide)]
    have hs : GatherDims.start gather_S1024x512_S512x1_S1024x512_0_1_n_n_1_1_10241 (ix2 k n) idx 0 = 0 := by
      unfold GatherDims.start
      rw [dif_neg (by decide)]
    rw [hs]
    unfold GatherDims.offCoord
    rw [dif_pos (by decide)]
    simp only [Nat.zero_add]
    rfl
  · rw [GatherDims.batchCoord_eq_zero _ _ _ (by decide), GatherDims.offCoord_eq_zero _ _ _ (by decide)]
    simp only [Nat.add_zero]
    unfold GatherDims.start
    rw [dif_pos (by decide)]
    have hsi : GatherDims.siIdx gather_S1024x512_S512x1_S1024x512_0_1_n_n_1_1_10241 (ix2 k n) ⟨List.idxOf (1 : Fin 2) gather_S1024x512_S512x1_S1024x512_0_1_n_n_1_1_10241.startIndexMap,
        List.idxOf_lt_length_iff.2 (by decide)⟩ = ix2 n 0 := by
      funext b; refine Fin.ext ?_
      match b with
      | ⟨0, _⟩ => rfl
      | ⟨1, _⟩ => rfl
    rw [hsi, h]
    have e : (BitVec.ofNat 32 p.val).toInt.toNat = p.val := by
      have := p.isLt
      rw [BitVec.toInt_ofNat', Int.bmod_eq_of_le (by omega) (by omega)]
      rfl
    rw [e]
    show min p.val 511 = p.val
    omega

/-- The order of the gathered columns within a pair-of-heads layout. -/
def perm (n : Fin 512) : Fin 512 := ⟨(2 * (n.val / 128) + n.val / 32 % 2) * 64 + 32 * (n.val / 64 % 2) + n.val % 32, by omega⟩

/-- The gather's index at a column. -/
theorem index_eq (n : Fin 512) :
    (broadcastInDim S512x1 ![0] bcast_S512_S512x1_0
        (select (constantI S512 1 0#1)
          (addi (fun i => lit0 (S512.rowMajor i)) (broadcastInDim S512 ![] bcast_S_S512 (constantI S_ 32 512#32)))
          fun i => lit0 (S512.rowMajor i)) : IVec S512x1 32) (ix2 n 0) = BitVec.ofNat 32 (perm n).val := by
  pointwise
  exact (congrArg lit0 (Fin.ext (Shape.rowMajor_val_one (ix1 n)))).trans (lit0_eq n)

/-- A piece of the columns: 512 of them from 1860, in the order of the pairs of heads. -/
theorem piece44 (c : Dev nD) (k : Fin 1024) (n : Fin 512) :
    (U m c (Proc.tc.devRef main_v44) : FVec Ideal S1024x512 .f32) (ix2 k n)
      = m ((c : Thread nD τ).loc main_arg1) (ix2 k (C (1860 + (perm n).val) (by omega))) := by
  unfold U
  after_reads_at
  refine (gather_cols _ _ k n (perm n) (index_eq n)).trans ?_
  pointwise

/-- A piece of the columns: 512 of them from 2372, in the order of the pairs of heads. -/
theorem piece49 (c : Dev nD) (k : Fin 1024) (n : Fin 512) :
    (U m c (Proc.tc.devRef main_v49) : FVec Ideal S1024x512 .f32) (ix2 k n)
      = m ((c : Thread nD τ).loc main_arg1) (ix2 k (C (2372 + (perm n).val) (by omega))) := by
  unfold U
  after_reads_at
  refine (gather_cols _ _ k n (perm n) (index_eq n)).trans ?_
  pointwise

/-- The kernel's columns of the keys, the values, the queries, the index key and the index weights are the projection's. -/
theorem head (c : Dev nD) (k : Fin 1024) (n : Fin 7040) (hn : n.val < 1860) :
    (V m c main_v51 : FVec Ideal S1024x7040 .bf16) (ix2 k n) = m ((c : Thread nD τ).loc main_arg1) (ix2 k (C n.val (by omega))) := by
  unfold V
  after_reads_at
  by_cases h0 : n.val < 512
  · rw [dif_pos h0]
    exact (piece26 m c k _).trans (at_col _ k _ _ (by dsimp only; omega))
  rw [dif_neg h0]
  by_cases h1 : n.val - 512 < 512
  · rw [dif_pos h1]
    exact (piece27 m c k _).trans (at_col _ k _ _ (by dsimp only; omega))
  rw [dif_neg h1]
  by_cases h2 : n.val - 512 - 512 < 512
  · rw [dif_pos h2]
    exact (piece28 m c k _).trans (at_col _ k _ _ (by dsimp only; omega))
  rw [dif_neg h2]
  by_cases h3 : n.val - 512 - 512 - 512 < 256
  · rw [dif_pos h3]
    exact (piece29 m c k _).trans (at_col _ k _ _ (by dsimp only; omega))
  rw [dif_neg h3, dif_pos (by omega)]
  refine (piece39 m c k _).trans ?_
  rw [dif_pos (by dsimp only; omega)]
  exact at_col _ k _ _ (by dsimp only; omega)

/-- The kernel's columns after the index weights are zero. -/
theorem padding (c : Dev nD) (k : Fin 1024) (n : Fin 7040) (h : 1860 ≤ n.val) (h' : n.val < 1920) :
    (V m c main_v51 : FVec Ideal S1024x7040 .bf16) (ix2 k n) = FloatOps.sitofp (F := Ideal) .f32 0#32 := by
  unfold V
  after_reads_at
  rw [dif_neg (by omega)]
  rw [dif_neg (by omega)]
  rw [dif_neg (by omega)]
  rw [dif_neg (by omega)]
  rw [dif_pos (by omega)]
  refine (piece39 m c k _).trans ?_
  rw [dif_neg (by dsimp only; omega)]

/-- The kernel's columns of the retention's queries, in the order of the pairs of heads. -/
theorem queries (c : Dev nD) (k : Fin 1024) (n : Fin 7040) (l : Fin 512) (hn : n.val = 1920 + l.val) :
    (V m c main_v51 : FVec Ideal S1024x7040 .bf16) (ix2 k n) = m ((c : Thread nD τ).loc main_arg1) (ix2 k (C (1860 + (perm l).val) (by omega))) := by
  unfold V
  after_reads_at
  rw [dif_neg (by omega)]
  rw [dif_neg (by omega)]
  rw [dif_neg (by omega)]
  rw [dif_neg (by omega)]
  rw [dif_neg (by omega)]
  rw [dif_pos (by omega)]
  refine (piece44 m c k _).trans ?_
  have hl (h : n.val - 512 - 512 - 512 - 256 - 128 < 512) : (⟨n.val - 512 - 512 - 512 - 256 - 128, h⟩ : Fin 512) = l := Fin.ext (by dsimp only; omega)
  rw [hl]

/-- The kernel's columns of the retention's keys, in the order of the pairs of heads. -/
theorem keys (c : Dev nD) (k : Fin 1024) (n : Fin 7040) (l : Fin 512) (hn : n.val = 2432 + l.val) :
    (V m c main_v51 : FVec Ideal S1024x7040 .bf16) (ix2 k n) = m ((c : Thread nD τ).loc main_arg1) (ix2 k (C (2372 + (perm l).val) (by omega))) := by
  unfold V
  after_reads_at
  rw [dif_neg (by omega)]
  rw [dif_neg (by omega)]
  rw [dif_neg (by omega)]
  rw [dif_neg (by omega)]
  rw [dif_neg (by omega)]
  rw [dif_neg (by omega)]
  rw [dif_pos (by omega)]
  refine (piece49 m c k _).trans ?_
  have hl (h : n.val - 512 - 512 - 512 - 256 - 128 - 512 < 512) : (⟨n.val - 512 - 512 - 512 - 256 - 128 - 512, h⟩ : Fin 512) = l := Fin.ext (by dsimp only; omega)
  rw [hl]

/-- The kernel's last columns are the projection's last. -/
theorem tail (c : Dev nD) (k : Fin 1024) (n : Fin 7040) (hn : 2944 ≤ n.val) :
    (V m c main_v51 : FVec Ideal S1024x7040 .bf16) (ix2 k n) = m ((c : Thread nD τ).loc main_arg1) (ix2 k (C (n.val - 60) (by omega))) := by
  unfold V
  after_reads_at
  rw [dif_neg (by omega)]
  rw [dif_neg (by omega)]
  rw [dif_neg (by omega)]
  rw [dif_neg (by omega)]
  rw [dif_neg (by omega)]
  rw [dif_neg (by omega)]
  rw [dif_neg (by omega)]
  by_cases h0 : n.val - 512 - 512 - 512 - 256 - 128 - 512 - 512 < 1024
  · rw [dif_pos h0]
    exact (piece34 m c k _).trans (at_col _ k _ _ (by dsimp only; omega))
  rw [dif_neg h0]
  by_cases h1 : n.val - 512 - 512 - 512 - 256 - 128 - 512 - 512 - 1024 < 1024
  · rw [dif_pos h1]
    exact (piece35 m c k _).trans (at_col _ k _ _ (by dsimp only; omega))
  rw [dif_neg h1]
  by_cases h2 : n.val - 512 - 512 - 512 - 256 - 128 - 512 - 512 - 1024 - 1024 < 1024
  · rw [dif_pos h2]
    exact (piece36 m c k _).trans (at_col _ k _ _ (by dsimp only; omega))
  rw [dif_neg h2]
  exact (piece37 m c k _).trans (at_col _ k _ _ (by dsimp only; omega))

end Cert.ProjIdeal.Weights

end
-- ==== Proof.Proj.Blocks.lean ====
/-
  What the projection kernel's windows hold at a grid point, in terms of its arguments.
-/
module

public import proofs.«01_k».proof.Proof.Proj.Tables
public import proofs.«01_k».proof.Proof.Proj.Weights

@[expose] public section

set_option maxRecDepth 16384

noncomputable section

namespace Cert.ProjIdeal.Blocks

open Cert.ProjIdeal Cert.ProjIdeal.Gen Cert.ProjRow Idealize.ShloMosaic Idealize.ShloMosaic.TcCoe Idealize.SL.Sem

variable (m : (ℓ : Loc nD τ sig) → Buf (Elt Ideal) ℓ)

/-- Each input window's block index at a grid point. -/
theorem idx : ∀ t : Fin grid0.N, win0_0.index t = ![(grid0.coords t 0).val, 0] ∧ win0_1.index t = ![0, 0]
    ∧ win0_2.index t = ![(grid0.coords t 0).val % 16, 0] ∧ win0_3.index t = ![(grid0.coords t 0).val % 16, 0]
    ∧ win0_4.index t = ![0, 0] ∧ win0_5.index t = ![0, 0] := by
  decide +kernel

/-- Window 0's block: rows of the activations. -/
theorem blk0 (c : Dev nD) (t : Fin cfg0.N) (i : Fin 512) (n : Fin 1024) (R : Fin 65536) (hR : R.val = (grid0.coords t 0).val * 512 + i.val) :
    iblk m c 0 t (ix2 i n) = m ((c : Thread nD τ).loc main_arg0) (ix3 (seq R) (pos R) n) := by
  obtain ⟨h, -⟩ := idx t
  refine Eq.trans ?_ (Tables.host25 m c R n)
  unfold iblk
  generalize V m c = W
  blk_ext [h, hR]

/-- Window 1's block: the kernel's columns, whole. -/
theorem blk1 (c : Dev nD) (t : Fin cfg0.N) (k : Fin 1024) (n : Fin 7040) :
    iblk m c 1 t (ix2 k n) = (V m c main_v51 : FVec Ideal S1024x7040 .bf16) (ix2 k n) := by
  obtain ⟨-, h, -⟩ := idx t
  unfold iblk
  generalize V m c = W
  blk_ext [h]

/-- Window 2's block: the cosines of the rows' positions. -/
theorem blk2 (c : Dev nD) (t : Fin cfg0.N) (i : Fin 512) (l : Fin 128) (R : Fin 65536) (hR : R.val = (grid0.coords t 0).val * 512 + i.val) :
    iblk m c 2 t (ix2 i l) = Ideal.cos (angleN (pos R) (l.val % 32)) := by
  obtain ⟨-, -, h, -⟩ := idx t
  refine Eq.trans ?_ (Tables.host21 m c (pos R) l)
  have hP : (pos R).val = (grid0.coords t 0).val % 16 * 512 + i.val := by dsimp only [pos]; omega
  unfold iblk
  generalize V m c = W
  blk_ext [h, hP]

/-- Window 3's block: the signed sines of the rows' positions. -/
theorem blk3 (c : Dev nD) (t : Fin cfg0.N) (i : Fin 512) (l : Fin 128) (R : Fin 65536) (hR : R.val = (grid0.coords t 0).val * 512 + i.val) :
    iblk m c 3 t (ix2 i l) = if l.val < 64 then -Ideal.sin (angleN (pos R) (l.val % 32)) else Ideal.sin (angleN (pos R) (l.val % 32)) := by
  obtain ⟨-, -, -, h, -⟩ := idx t
  refine Eq.trans ?_ (Tables.host24 m c (pos R) l)
  have hP : (pos R).val = (grid0.coords t 0).val % 16 * 512 + i.val := by dsimp only [pos]; omega
  unfold iblk
  generalize V m c = W
  blk_ext [h, hP]

/-- Window 4's block: the gain. -/
theorem blk4 (c : Dev nD) (t : Fin cfg0.N) (n : Fin 128) (hn : n.val < 64) :
    iblk m c 4 t (ix2 0 n) = m ((c : Thread nD τ).loc main_arg2) (ix1 ⟨n.val, hn⟩) := by
  obtain ⟨-, -, -, -, h, -⟩ := idx t
  refine Eq.trans ?_ (Tables.host1 m c n hn)
  unfold iblk
  generalize V m c = W
  blk_ext [h]

/-- Window 5's block: the bias. -/
theorem blk5 (c : Dev nD) (t : Fin cfg0.N) (n : Fin 128) (hn : n.val < 64) :
    iblk m c 5 t (ix2 0 n) = m ((c : Thread nD τ).loc main_arg3) (ix1 ⟨n.val, hn⟩) := by
  obtain ⟨-, -, -, -, -, h⟩ := idx t
  refine Eq.trans ?_ (Tables.host3 m c n hn)
  unfold iblk
  generalize V m c = W
  blk_ext [h]

end Cert.ProjIdeal.Blocks

end
-- ==== Proof.Proj.Rows.lean ====
/-
  What the projection kernel computes for a row, in terms of its arguments.
-/
module

public import Idealize.ShloMosaic.Lib.Pipeline.ValueKit
public import proofs.«01_k».proof.Proof.Gen.ProjIdeal.Value
public import proofs.«01_k».proof.Proof.Proj.Left
public import proofs.«01_k».proof.Proof.Proj.Blocks

@[expose] public section

set_option maxRecDepth 16384

noncomputable section

namespace Cert.ProjIdeal.Rows

open Cert.ProjIdeal Cert.ProjIdeal.Gen Cert.ProjRow Idealize.ShloMosaic Idealize.ShloMosaic.TcCoe Idealize.SL.Sem

variable (m : (ℓ : Loc nD τ sig) → Buf (Elt Ideal) ℓ) (ρ : Dev nD → PrngReg)

/-- The activations. -/
abbrev X (c : Dev nD) : (⟨3, ![8, 8192, 1024]⟩ : Shape).Idx → EReal := m ((c : Thread nD τ).loc main_arg0)
/-- The input projection. -/
abbrev W (c : Dev nD) : (⟨2, ![1024, 6980]⟩ : Shape).Idx → EReal := m ((c : Thread nD τ).loc main_arg1)

/-- The cast of the activations is the identity. -/
theorem pay5_eq (v : Vec Ideal S512x1024 .f32) : k0_pay5 (F := Ideal) v = v := by
  funext y
  idx_vars y
  pointwise! [k0_pay5]

/-- The loaded columns at an index. -/
theorem part_apply (c : Dev nD) (t : Fin cfg0.N) {off N : ℕ} (inb : ∀ a : Fin 2, (![0, off] : Fin 2 → ℕ) a + (![1024, N] : Fin 2 → ℕ) a ≤ S1024x7040.size a)
    (k : Fin 1024) (n : Fin N) (n' : Fin 7040) (h : n'.val = off + n.val) :
    Left.part m c t off N inb (ix2 k n) = (V m c main_v51 : FVec Ideal S1024x7040 .bf16) (ix2 k n') := by
  rw [← Blocks.blk1 m c t k n']
  refine congrArg (iblk m c 1 t) (funext fun a => Fin.ext ?_)
  match a with
  | ⟨0, _⟩ => exact (Nat.zero_add _).trans (Nat.one_mul _)
  | ⟨1, _⟩ => exact (congrArg (off + ·) (Nat.one_mul _)).trans h.symm

/-- A row of the activations times a loaded column: `col` of the column that it is. -/
theorem sum_cols {N : ℕ} (x : (⟨3, ![8, 8192, 1024]⟩ : Shape).Idx → EReal) (w : (⟨2, ![1024, 6980]⟩ : Shape).Idx → EReal) (R : Fin 65536) (j : Fin 6980)
    (B : FVec Ideal S512x1024 .f32) (P : FVec Ideal ⟨2, ![1024, N]⟩ .bf16) (i : Fin 512) (n : Fin N)
    (hB : ∀ k, B (ix2 i k) = x (ix3 (seq R) (pos R) k)) (hP : ∀ k, P (ix2 k n) = w (ix2 k j)) :
    ∑ k : Fin 1024, B (ix2 i k) * P (ix2 k n) = col x w R j := by
  unfold col
  exact Finset.sum_congr rfl fun k _ => by rw [hB, hP]

/-- A loaded column among the first 1860 of the kernel's. -/
theorem head_part (c : Dev nD) (t : Fin cfg0.N) {off N : ℕ} (inb : ∀ a : Fin 2, (![0, off] : Fin 2 → ℕ) a + (![1024, N] : Fin 2 → ℕ) a ≤ S1024x7040.size a)
    (n : Fin N) (j : Fin 6980) (hj : j.val = off + n.val) (hlt : off + n.val < 1860) (k : Fin 1024) :
    Left.part m c t off N inb (ix2 k n) = W m c (ix2 k j) :=
  (part_apply m c t inb k n ⟨off + n.val, by omega⟩ rfl).trans
    ((Weights.head m c k _ hlt).trans (Weights.at_col _ k _ _ hj.symm))

/-- A loaded column among the kernel's last. -/
theorem tail_part (c : Dev nD) (t : Fin cfg0.N) {off N : ℕ} (inb : ∀ a : Fin 2, (![0, off] : Fin 2 → ℕ) a + (![1024, N] : Fin 2 → ℕ) a ≤ S1024x7040.size a)
    (n : Fin N) (j : Fin 6980) (hj : j.val + 60 = off + n.val) (hge : 2944 ≤ off) (k : Fin 1024) :
    Left.part m c t off N inb (ix2 k n) = W m c (ix2 k j) :=
  (part_apply m c t inb k n ⟨off + n.val, by omega⟩ rfl).trans
    ((Weights.tail m c k ⟨off + n.val, by omega⟩ (by dsimp only; omega)).trans (Weights.at_col _ k _ _ (by dsimp only; omega)))

/-- `layerNorm` of equal vectors. -/
theorem norm_congr {v v' g g' b b' : Fin 64 → EReal} (j : Fin 64) (hv : v = v') (hg : g = g') (hb : b = b') : layerNorm v g b j = layerNorm v' g' b' j := by
  rw [hv, hg, hb]

section
variable (x : (⟨3, ![8, 8192, 1024]⟩ : Shape).Idx → EReal) (w : (⟨2, ![1024, 6980]⟩ : Shape).Idx → EReal) (R : Fin 65536)
  (B : FVec Ideal S512x1024 .f32) (i : Fin 512) (hB : ∀ k, B (ix2 i k) = x (ix3 (seq R) (pos R) k))
include hB

/-- The queries of a block whose row is a row of the activations. -/
theorem of6 (P : FVec Ideal S1024x512 .bf16) (n : Fin 512) (hP : ∀ k, P (ix2 k n) = w (ix2 k ⟨0 + n.val, by omega⟩)) :
    k0_pay6 (F := Ideal) B P (ix2 i n) = queries x w (ix2 R n) :=
  (Block.pay6_apply B P i n).trans (congrArg (· * _) (sum_cols x w R _ B P i n hB hP))

/-- The keys likewise. -/
theorem of7 (P : FVec Ideal S1024x512 .bf16) (h : Fin 8) (d : Fin 64) (hP : ∀ k, P (ix2 k ⟨h.val * 64 + d.val, by omega⟩) = w (ix2 k ⟨512 + (h.val * 64 + d.val), by omega⟩)) :
    k0_pay8 (F := Ideal) B P (ix3 i h d) = heads x w 512 (by omega) (ix3 R h d) :=
  (Block.pay8_apply B P i h d).trans (sum_cols x w R _ B P i _ hB hP)

/-- The values likewise. -/
theorem of9 (P : FVec Ideal S1024x512 .bf16) (h : Fin 8) (d : Fin 64) (hP : ∀ k, P (ix2 k ⟨h.val * 64 + d.val, by omega⟩) = w (ix2 k ⟨1024 + (h.val * 64 + d.val), by omega⟩)) :
    k0_pay11 (F := Ideal) B P (ix3 i h d) = heads x w 1024 (by omega) (ix3 R h d) :=
  (Block.pay11_apply B P i h d).trans (sum_cols x w R _ B P i _ hB hP)

/-- The index queries likewise. -/
theorem of11 (P : FVec Ideal S1024x256 .bf16) (n : Fin 256) (hP : ∀ k, P (ix2 k n) = w (ix2 k ⟨1536 + n.val, by omega⟩)) :
    k0_pay29 (F := Ideal) (k0_pay5 B) P (ix2 i n) = cols x w 1536 256 (by omega) (ix2 R n) := by
  rw [pay5_eq]
  exact (Block.pay29_apply B P i n).trans (sum_cols x w R _ B P i n hB hP)

/-- The retention's values likewise. -/
theorem of17 (P : FVec Ideal S1024x1024 .bf16) (n : Fin 1024) (hP : ∀ k, P (ix2 k n) = w (ix2 k ⟨2884 + n.val, by omega⟩)) :
    k0_pay1 (F := Ideal) (k0_pay5 B) (k0_pay54 P) (constant S512x1024 .f32 0x00000000#32) (ix2 i n) = cols x w 2884 1024 (by omega) (ix2 R n) := by
  rw [pay5_eq]
  exact (Block.pay1_apply B P i n).trans (sum_cols x w R _ B P i n hB hP)

/-- The retention's gate likewise. -/
theorem of18 (P : FVec Ideal S1024x1024 .bf16) (n : Fin 1024) (hP : ∀ k, P (ix2 k n) = w (ix2 k ⟨3908 + n.val, by omega⟩)) :
    k0_pay2 (F := Ideal) (k0_pay5 B) P (ix2 i n) = cols x w 3908 1024 (by omega) (ix2 R n) := by
  rw [pay5_eq]
  exact (Block.pay2_apply B P i n).trans (sum_cols x w R _ B P i n hB hP)

/-- The attention's gate likewise. -/
theorem of19 (P : FVec Ideal S1024x1024 .bf16) (n : Fin 1024) (hP : ∀ k, P (ix2 k n) = w (ix2 k ⟨4932 + n.val, by omega⟩)) :
    k0_pay3 (F := Ideal) (k0_pay5 B) P (ix2 i n) = cols x w 4932 1024 (by omega) (ix2 R n) := by
  rw [pay5_eq]
  exact (Block.pay3_apply B P i n).trans (sum_cols x w R _ B P i n hB hP)

/-- The output gate likewise. -/
theorem of20 (P : FVec Ideal S1024x1024 .bf16) (n : Fin 1024) (hP : ∀ k, P (ix2 k n) = w (ix2 k ⟨5956 + n.val, by omega⟩)) :
    k0_pay4 (F := Ideal) (k0_pay5 B) P (ix2 i n) = cols x w 5956 1024 (by omega) (ix2 R n) := by
  rw [pay5_eq]
  exact (Block.pay4_apply B P i n).trans (sum_cols x w R _ B P i n hB hP)

/-- A row's index key and weights, before the normalisation. -/
theorem of30 (P : FVec Ideal S1024x128 .bf16) (l : Fin 128)
    (hP : ∀ k, P (ix2 k l) = if h : l.val < 68 then w (ix2 k ⟨1792 + l.val, by omega⟩) else 0) :
    (k0_pay30 (F := Ideal) (k0_pay5 B) P (ix2 i l) : EReal) = if h : l.val < 68 then col x w R ⟨1792 + l.val, by omega⟩ else 0 := by
  rw [pay5_eq]
  refine (Block.pay30_apply B P i l).trans ?_
  by_cases h : l.val < 68
  · rw [dif_pos h]
    exact sum_cols x w R _ B P i l hB fun k => (hP k).trans (dif_pos h)
  · rw [dif_neg h]
    refine Finset.sum_eq_zero fun k _ => ?_
    rw [hP k, dif_neg h]
    exact mul_zero _

/-- The normalised index key. -/
theorem of12 (P : FVec Ideal S1024x128 .bf16) (g b : FVec Ideal S1x128 .f32) (g' b' : (⟨1, ![64]⟩ : Shape).Idx → EReal) (j : Fin 64)
    (hP : ∀ l k, P (ix2 k l) = if h : l.val < 68 then w (ix2 k ⟨1792 + l.val, by omega⟩) else 0)
    (hg : ∀ n : Fin 64, g (ix2 0 ⟨n.val, by omega⟩) = g' (ix1 n)) (hb : ∀ n : Fin 64, b (ix2 0 ⟨n.val, by omega⟩) = b' (ix1 n)) :
    k0_pay34 (F := Ideal) (k0_pay30 (k0_pay5 B) P) k0_pay31 (k0_pay32 (k0_pay5 B) P) g b (ix2 i j) = idxKeys x w g' b' (ix2 R j) := by
  have e0 : (fun n : Fin 64 => (k0_pay30 (F := Ideal) (k0_pay5 B) P (ix2 i ⟨n.val, by omega⟩) : EReal))
      = fun n : Fin 64 => col x w R ⟨1792 + n.val, by omega⟩ :=
    funext fun n => (of30 x w R B i hB P ⟨n.val, by omega⟩ (hP _)).trans (dif_pos (show n.val < 68 by omega))
  have q := Block.pay34_apply (k0_pay5 (F := Ideal) B) P g b i j
  have q' := norm_congr j e0 (funext hg) (funext hb)
  have u : idxKeys x w g' b' (ix2 R j) = layerNorm (fun n : Fin 64 => col x w R ⟨1792 + n.val, by omega⟩) (fun n => g' (ix1 n)) (fun n => b' (ix1 n)) j := by
    unfold idxKeys idxKey C
    rfl
  rw [u]
  exact q.trans q'

/-- The score lanes. -/
theorem of14 (P : FVec Ideal S1024x128 .bf16) (l : Fin 128)
    (hP : ∀ k, P (ix2 k l) = if h : l.val < 68 then w (ix2 k ⟨1792 + l.val, by omega⟩) else 0) :
    k0_pay36 (F := Ideal) (k0_pay30 (k0_pay5 B) P) (ix2 i l) = scores x w (ix2 R l) := by
  have e : scores x w (ix2 R l) = (k0_pay30 (F := Ideal) (k0_pay5 B) P (ix2 i l) : EReal)
      * Ideal.ofBits .f32 0x3D800000#32 := congrArg (· * _) (of30 x w R B i hB P l hP).symm
  rw [e]
  generalize k0_pay30 (F := Ideal) (k0_pay5 B) P = K
  pointwise! [k0_pay36]

/-- A column that is rotated. -/
theorem of37 (P : FVec Ideal S1024x512 .bf16) (n : Fin 512)
    (hP : ∀ k, P (ix2 k n) = w (ix2 k (rotCol 1860 (by omega) n ⟨n.val / 64 % 2, by omega⟩))) :
    (k0_pay37 (F := Ideal) (k0_pay5 B) P (ix2 i n) : EReal) = col x w R (rotCol 1860 (by omega) n ⟨n.val / 64 % 2, by omega⟩) := by
  rw [pay5_eq]
  exact (Block.pay37_apply B P i n).trans (sum_cols x w R _ B P i n hB hP)

/-- A column that is rotated. -/
theorem of46 (P : FVec Ideal S1024x512 .bf16) (n : Fin 512)
    (hP : ∀ k, P (ix2 k n) = w (ix2 k (rotCol 2372 (by omega) n ⟨n.val / 64 % 2, by omega⟩))) :
    (k0_pay46 (F := Ideal) (k0_pay5 B) P (ix2 i n) : EReal) = col x w R (rotCol 2372 (by omega) n ⟨n.val / 64 % 2, by omega⟩) := by
  rw [pay5_eq]
  exact (Block.pay46_apply B P i n).trans (sum_cols x w R _ B P i n hB hP)

end

variable (c : Dev nD) (t : Fin cfg0.N)

/-- The loaded index columns. -/
theorem kw_part (l : Fin 128) (k : Fin 1024) : Left.part m c t 1792 128 inb_S1024x7040_S1024x128_0_1792 (ix2 k l)
    = if h : l.val < 68 then W m c (ix2 k ⟨1792 + l.val, by omega⟩) else 0 := by
  by_cases h : l.val < 68
  · rw [dif_pos h]
    exact head_part m c t inb_S1024x7040_S1024x128_0_1792 l _ rfl (by omega) k
  · rw [dif_neg h]
    refine ((part_apply m c t inb_S1024x7040_S1024x128_0_1792 k l ⟨1792 + l.val, by omega⟩ rfl).trans
      (Weights.padding m c k _ (by dsimp only; omega) (by dsimp only; omega))).trans ?_
    show (((0#32 : BitVec 32).toInt : ℝ) : EReal) = 0
    simp

variable (i : Fin 512) (R : Fin 65536) (hR : R.val = (grid0.coords t 0).val * 512 + i.val)
include hR

/-- What the body leaves of the queries, at a row. -/
theorem row6 (n : Fin 512) : (dats m 0 c).after 6 t (ix2 i n) = queries (X m c) (W m c) (ix2 R n) :=
  (congrFun (Left.left6 m c t) _).trans (of6 (X m c) (W m c) R _ i (fun k => Blocks.blk0 m c t i k R hR) _ n (head_part m c t inb_S1024x7040_S1024x512_0_0 n _ rfl (by omega)))

/-- What the body leaves of the keys, at a row. -/
theorem row7 (h : Fin 8) (d : Fin 64) : (dats m 0 c).after 7 t (ix3 i h d) = heads (X m c) (W m c) 512 (by omega) (ix3 R h d) :=
  (congrFun (Left.left7 m c t) _).trans (of7 (X m c) (W m c) R _ i (fun k => Blocks.blk0 m c t i k R hR) _ h d (head_part m c t inb_S1024x7040_S1024x512_0_512 _ _ rfl (by dsimp only; omega)))

/-- What the body leaves of the values, at a row. -/
theorem row9 (h : Fin 8) (d : Fin 64) : (dats m 0 c).after 9 t (ix3 i h d) = heads (X m c) (W m c) 1024 (by omega) (ix3 R h d) :=
  (congrFun (Left.left9 m c t) _).trans (of9 (X m c) (W m c) R _ i (fun k => Blocks.blk0 m c t i k R hR) _ h d (head_part m c t inb_S1024x7040_S1024x512_0_1024 _ _ rfl (by dsimp only; omega)))

/-- What the body leaves of the index queries, at a row. -/
theorem row11 (n : Fin 256) : (dats m 0 c).after 11 t (ix2 i n) = cols (X m c) (W m c) 1536 256 (by omega) (ix2 R n) :=
  (congrFun (Left.left11 m c t) _).trans (of11 (X m c) (W m c) R _ i (fun k => Blocks.blk0 m c t i k R hR) _ n (head_part m c t inb_S1024x7040_S1024x256_0_1536 n _ rfl (by omega)))

/-- What the body leaves of the index keys, at a row. -/
theorem row12 (j : Fin 64) : (dats m 0 c).after 12 t (ix2 i j) = idxKeys (X m c) (W m c) (m ((c : Thread nD τ).loc main_arg2)) (m ((c : Thread nD τ).loc main_arg3)) (ix2 R j) :=
  (congrFun (Left.left12 m c t) _).trans (of12 (X m c) (W m c) R _ i (fun k => Blocks.blk0 m c t i k R hR) _ _ _ _ _ j (kw_part m c t) (fun n => Blocks.blk4 m c t _ n.isLt) (fun n => Blocks.blk5 m c t _ n.isLt))

/-- What the body leaves of the score lanes, at a row. -/
theorem row14 (l : Fin 128) : (dats m 0 c).after 14 t (ix2 i l) = scores (X m c) (W m c) (ix2 R l) :=
  (congrFun (Left.left14 m c t) _).trans (of14 (X m c) (W m c) R _ i (fun k => Blocks.blk0 m c t i k R hR) _ l (kw_part m c t l))

/-- What the body leaves of the retention's values, at a row. -/
theorem row17 (n : Fin 1024) : (dats m 0 c).after 17 t (ix2 i n) = cols (X m c) (W m c) 2884 1024 (by omega) (ix2 R n) :=
  (congrFun (Left.left17 m c t) _).trans (of17 (X m c) (W m c) R _ i (fun k => Blocks.blk0 m c t i k R hR) _ n (tail_part m c t inb_S1024x7040_S1024x1024_0_2944 n _ (by show 2884 + n.val + 60 = _; omega) (by omega)))

/-- What the body leaves of the retention's gate, at a row. -/
theorem row18 (n : Fin 1024) : (dats m 0 c).after 18 t (ix2 i n) = cols (X m c) (W m c) 3908 1024 (by omega) (ix2 R n) :=
  (congrFun (Left.left18 m c t) _).trans (of18 (X m c) (W m c) R _ i (fun k => Blocks.blk0 m c t i k R hR) _ n (tail_part m c t inb_S1024x7040_S1024x1024_0_3968 n _ (by show 3908 + n.val + 60 = _; omega) (by omega)))

/-- What the body leaves of the attention's gate, at a row. -/
theorem row19 (n : Fin 1024) : (dats m 0 c).after 19 t (ix2 i n) = cols (X m c) (W m c) 4932 1024 (by omega) (ix2 R n) :=
  (congrFun (Left.left19 m c t) _).trans (of19 (X m c) (W m c) R _ i (fun k => Blocks.blk0 m c t i k R hR) _ n (tail_part m c t inb_S1024x7040_S1024x1024_0_4992 n _ (by show 4932 + n.val + 60 = _; omega) (by omega)))

/-- What the body leaves of the output gate, at a row. -/
theorem row20 (n : Fin 1024) : (dats m 0 c).after 20 t (ix2 i n) = cols (X m c) (W m c) 5956 1024 (by omega) (ix2 R n) :=
  (congrFun (Left.left20 m c t) _).trans (of20 (X m c) (W m c) R _ i (fun k => Blocks.blk0 m c t i k R hR) _ n (tail_part m c t inb_S1024x7040_S1024x1024_0_6016 n _ (by show 5956 + n.val + 60 = _; omega) (by omega)))

/-- A column of the retention's queries before the rotation. -/
theorem col15 (n : Fin 512) : (k0_pay37 (F := Ideal) (k0_pay5 (iblk m c 0 t)) (Left.part m c t 1920 512 inb_S1024x7040_S1024x512_0_1920) (ix2 i n) : EReal)
    = col (X m c) (W m c) R (rotCol 1860 (by omega) n ⟨n.val / 64 % 2, by omega⟩) := by
  refine of37 (X m c) (W m c) R _ i (fun k => Blocks.blk0 m c t i k R hR) _ n fun k => ?_
  refine (part_apply m c t inb_S1024x7040_S1024x512_0_1920 k n ⟨1920 + n.val, by omega⟩ rfl).trans
    ((Weights.queries m c k _ n rfl).trans (Weights.at_col _ k _ _ ?_))
  show 1860 + ((2 * (n.val / 128) + n.val / 32 % 2) * 64 + 32 * (n.val / 64 % 2) + n.val % 32)
    = 1860 + (2 * (n.val / 128) + n.val / 32 % 2) * 64 + 32 * (n.val / 64 % 2) + n.val % 32
  omega

/-- A row of the retention's queries. -/
theorem row15 (l : Fin 512) : (dats m 0 c).after 15 t (ix2 i l) = rots (X m c) (W m c) 1860 (by omega) (ix2 R l) := by
  have e := rot_lanes (X m c) (W m c) 1860 (by omega) R (fun n => k0_pay37 (F := Ideal) (k0_pay5 (iblk m c 0 t)) (Left.part m c t 1920 512 inb_S1024x7040_S1024x512_0_1920) (ix2 i n))
    (col15 m c t i R hR) l ⟨l.val / 128 * 128 + (l.val % 128 + 64) % 128, by omega⟩ rfl
  refine (Left.left15 m c t i l).trans ?_
  rw [Blocks.blk2 m c t i _ R hR, Blocks.blk3 m c t i _ R hR]
  have e' : l.val % 128 % 32 = l.val % 32 := by omega
  simp only [e']
  rw [Ideal.ofBits_one_f32, mul_one]
  exact e

/-- A column of the retention's keys before the rotation. -/
theorem col16 (n : Fin 512) : (k0_pay46 (F := Ideal) (k0_pay5 (iblk m c 0 t)) (Left.part m c t 2432 512 inb_S1024x7040_S1024x512_0_2432) (ix2 i n) : EReal)
    = col (X m c) (W m c) R (rotCol 2372 (by omega) n ⟨n.val / 64 % 2, by omega⟩) := by
  refine of46 (X m c) (W m c) R _ i (fun k => Blocks.blk0 m c t i k R hR) _ n fun k => ?_
  refine (part_apply m c t inb_S1024x7040_S1024x512_0_2432 k n ⟨2432 + n.val, by omega⟩ rfl).trans
    ((Weights.keys m c k _ n rfl).trans (Weights.at_col _ k _ _ ?_))
  show 2372 + ((2 * (n.val / 128) + n.val / 32 % 2) * 64 + 32 * (n.val / 64 % 2) + n.val % 32)
    = 2372 + (2 * (n.val / 128) + n.val / 32 % 2) * 64 + 32 * (n.val / 64 % 2) + n.val % 32
  omega

/-- A row of the retention's keys. -/
theorem row16 (l : Fin 512) : (dats m 0 c).after 16 t (ix2 i l) = rotKeys (X m c) (W m c) (ix2 R l) := by
  have e := rot_lanes (X m c) (W m c) 2372 (by omega) R (fun n => k0_pay46 (F := Ideal) (k0_pay5 (iblk m c 0 t)) (Left.part m c t 2432 512 inb_S1024x7040_S1024x512_0_2432) (ix2 i n))
    (col16 m c t i R hR) l ⟨l.val / 128 * 128 + (l.val % 128 + 64) % 128, by omega⟩ rfl
  refine (Left.left16 m c t i l).trans ?_
  rw [Blocks.blk2 m c t i _ R hR, Blocks.blk3 m c t i _ R hR]
  have e' : l.val % 128 % 32 = l.val % 32 := by omega
  simp only [e']

  exact (congrArg (· * _) e)

end Cert.ProjIdeal.Rows

end
-- ==== Proof.Proj.Array.lean ====
/-
  What the projection kernel's result arrays hold after the run, in terms of its arguments.
-/
module

public import Idealize.ShloMosaic.Lib.Pipeline.ValueKit
public import proofs.«01_k».proof.Proof.Gen.ProjIdeal.Value
public import proofs.«01_k».proof.Proof.Proj.Rows

@[expose] public section

set_option maxRecDepth 16384

noncomputable section

namespace Cert.ProjIdeal.Array

open Cert.ProjIdeal Cert.ProjIdeal.Rows Cert.ProjIdeal.Gen Cert.ProjRow Idealize.ShloMosaic Idealize.ShloMosaic.TcCoe Idealize.SL.Sem

variable (m : (ℓ : Loc nD τ sig) → Buf (Elt Ideal) ℓ) (ρ : Dev nD → PrngReg)

/-- Each output window's block index at a grid point. -/
theorem idx : ∀ t : Fin grid0.N, win0_6.index t = ![(grid0.coords t 0).val, 0] ∧ win0_7.index t = ![(grid0.coords t 0).val, 0, 0]
    ∧ win0_9.index t = ![(grid0.coords t 0).val, 0, 0] ∧ win0_11.index t = ![(grid0.coords t 0).val, 0]
    ∧ win0_12.index t = ![(grid0.coords t 0).val, 0] ∧ win0_14.index t = ![(grid0.coords t 0).val, 0]
    ∧ win0_15.index t = ![(grid0.coords t 0).val, 0] ∧ win0_16.index t = ![(grid0.coords t 0).val, 0]
    ∧ win0_17.index t = ![(grid0.coords t 0).val, 0] ∧ win0_18.index t = ![(grid0.coords t 0).val, 0]
    ∧ win0_19.index t = ![(grid0.coords t 0).val, 0] ∧ win0_20.index t = ![(grid0.coords t 0).val, 0] := by
  decide +kernel

/-- The attention's queries. -/
theorem final6 (c : Dev nD) : (dats m 0 c).arrAt 6 cfg0.N = (queries (X m c) (W m c) : FVec Ideal S65536x512 .bf16) := by
  refine (dats m 0 c).arrAt_eq_of_covers 6 _ (by decide +kernel) fun t hf y => ?_
  have h := (idx t).1
  have hY : ∀ y : S512x512.Idx, ∃ R : Fin 65536, R.val = (grid0.coords t 0).val * 512 + (y 0).val ∧
      (((cfg0.win 6).blk t).view.emb y : S65536x512.Idx) = ix2 R (y 1) := by
    intro y
    refine ⟨(((cfg0.win 6).blk t).view.emb y : S65536x512.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row6 m c t _ R hR _

/-- The attention's keys. -/
theorem final7 (c : Dev nD) : (dats m 0 c).arrAt 7 cfg0.N = (heads (X m c) (W m c) 512 (by omega) : FVec Ideal S65536x8x64 .f32) := by
  refine (dats m 0 c).arrAt_eq_of_covers 7 _ (by decide +kernel) fun t hf y => ?_
  have h := (idx t).2.1
  have hY : ∀ y : S512x8x64.Idx, ∃ R : Fin 65536, R.val = (grid0.coords t 0).val * 512 + (y 0).val ∧
      (((cfg0.win 7).blk t).view.emb y : S65536x8x64.Idx) = ix3 R (y 1) (y 2) := by
    intro y
    refine ⟨(((cfg0.win 7).blk t).view.emb y : S65536x8x64.Idx) 0, by blk_simp [h], funext fun a => ?_⟩
    match a with
    | ⟨0, _⟩ => rfl
    | ⟨1, _⟩ => exact Fin.ext (by blk_simp [h]; rfl)
    | ⟨2, _⟩ => exact Fin.ext (by blk_simp [h]; rfl)
  obtain ⟨R, hR, e⟩ := hY y
  rw [e]
  idx_vars y
  exact row7 m c t _ R hR _ _

/-- The attention's values. -/
theorem final9 (c : Dev nD) : (dats m 0 c).arrAt 9 cfg0.N = (heads (X m c) (W m c) 1024 (by omega) : FVec Ideal S65536x8x64 .f32) := by
  refine (dats m 0 c).arrAt_eq_of_covers 9 _ (by decide +kernel) fun t hf y => ?_
  have h := (idx t).2.2.1
  have hY : ∀ y : S512x8x64.Idx, ∃ R : Fin 65536, R.val = (grid0.coords t 0).val * 512 + (y 0).val ∧
      (((cfg0.win 9).blk t).view.emb y : S65536x8x64.Idx) = ix3 R (y 1) (y 2) := by
    intro y
    refine ⟨(((cfg0.win 9).blk t).view.emb y : S65536x8x64.Idx) 0, by blk_simp [h], funext fun a => ?_⟩
    match a with
    | ⟨0, _⟩ => rfl
    | ⟨1, _⟩ => exact Fin.ext (by blk_simp [h]; rfl)
    | ⟨2, _⟩ => exact Fin.ext (by blk_simp [h]; rfl)
  obtain ⟨R, hR, e⟩ := hY y
  rw [e]
  idx_vars y
  exact row9 m c t _ R hR _ _

/-- The index queries. -/
theorem final11 (c : Dev nD) : (dats m 0 c).arrAt 11 cfg0.N = (cols (X m c) (W m c) 1536 256 (by omega) : FVec Ideal S65536x256 .bf16) := by
  refine (dats m 0 c).arrAt_eq_of_covers 11 _ (by decide +kernel) fun t hf y => ?_
  have h := (idx t).2.2.2.1
  have hY : ∀ y : S512x256.Idx, ∃ R : Fin 65536, R.val = (grid0.coords t 0).val * 512 + (y 0).val ∧
      (((cfg0.win 11).blk t).view.emb y : S65536x256.Idx) = ix2 R (y 1) := by
    intro y
    refine ⟨(((cfg0.win 11).blk t).view.emb y : S65536x256.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row11 m c t _ R hR _

/-- The index keys. -/
theorem final12 (c : Dev nD) : (dats m 0 c).arrAt 12 cfg0.N = (idxKeys (X m c) (W m c) (m ((c : Thread nD τ).loc main_arg2)) (m ((c : Thread nD τ).loc main_arg3)) : FVec Ideal S65536x64 .f32) := by
  refine (dats m 0 c).arrAt_eq_of_covers 12 _ (by decide +kernel) fun t hf y => ?_
  have h := (idx t).2.2.2.2.1
  have hY : ∀ y : S512x64.Idx, ∃ R : Fin 65536, R.val = (grid0.coords t 0).val * 512 + (y 0).val ∧
      (((cfg0.win 12).blk t).view.emb y : S65536x64.Idx) = ix2 R (y 1) := by
    intro y
    refine ⟨(((cfg0.win 12).blk t).view.emb y : S65536x64.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row12 m c t _ R hR _

/-- The score lanes. -/
theorem final14 (c : Dev nD) : (dats m 0 c).arrAt 14 cfg0.N = (scores (X m c) (W m c) : FVec Ideal S65536x128 .f32) := by
  refine (dats m 0 c).arrAt_eq_of_covers 14 _ (by decide +kernel) fun t hf y => ?_
  have h := (idx t).2.2.2.2.2.1
  have hY : ∀ y : S512x128.Idx, ∃ R : Fin 65536, R.val = (grid0.coords t 0).val * 512 + (y 0).val ∧
      (((cfg0.win 14).blk t).view.emb y : S65536x128.Idx) = ix2 R (y 1) := by
    intro y
    refine ⟨(((cfg0.win 14).blk t).view.emb y : S65536x128.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row14 m c t _ R hR _

/-- The retention's queries. -/
theorem final15 (c : Dev nD) : (dats m 0 c).arrAt 15 cfg0.N = (rots (X m c) (W m c) 1860 (by omega) : FVec Ideal S65536x512 .bf16) := by
  refine (dats m 0 c).arrAt_eq_of_covers 15 _ (by decide +kernel) fun t hf y => ?_
  have h := (idx t).2.2.2.2.2.2.1
  have hY : ∀ y : S512x512.Idx, ∃ R : Fin 65536, R.val = (grid0.coords t 0).val * 512 + (y 0).val ∧
      (((cfg0.win 15).blk t).view.emb y : S65536x512.Idx) = ix2 R (y 1) := by
    intro y
    refine ⟨(((cfg0.win 15).blk t).view.emb y : S65536x512.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row15 m c t _ R hR _

/-- The retention's keys. -/
theorem final16 (c : Dev nD) : (dats m 0 c).arrAt 16 cfg0.N = (rotKeys (X m c) (W m c) : FVec Ideal S65536x512 .bf16) := by
  refine (dats m 0 c).arrAt_eq_of_covers 16 _ (by decide +kernel) fun t hf y => ?_
  have h := (idx t).2.2.2.2.2.2.2.1
  have hY : ∀ y : S512x512.Idx, ∃ R : Fin 65536, R.val = (grid0.coords t 0).val * 512 + (y 0).val ∧
      (((cfg0.win 16).blk t).view.emb y : S65536x512.Idx) = ix2 R (y 1) := by
    intro y
    refine ⟨(((cfg0.win 16).blk t).view.emb y : S65536x512.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row16 m c t _ R hR _

/-- The retention's values. -/
theorem final17 (c : Dev nD) : (dats m 0 c).arrAt 17 cfg0.N = (cols (X m c) (W m c) 2884 1024 (by omega) : FVec Ideal S65536x1024 .bf16) := by
  refine (dats m 0 c).arrAt_eq_of_covers 17 _ (by decide +kernel) fun t hf y => ?_
  have h := (idx t).2.2.2.2.2.2.2.2.1
  have hY : ∀ y : S512x1024.Idx, ∃ R : Fin 65536, R.val = (grid0.coords t 0).val * 512 + (y 0).val ∧
      (((cfg0.win 17).blk t).view.emb y : S65536x1024.Idx) = ix2 R (y 1) := by
    intro y
    refine ⟨(((cfg0.win 17).blk t).view.emb y : S65536x1024.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row17 m c t _ R hR _

/-- The retention's gate. -/
theorem final18 (c : Dev nD) : (dats m 0 c).arrAt 18 cfg0.N = (cols (X m c) (W m c) 3908 1024 (by omega) : FVec Ideal S65536x1024 .bf16) := by
  refine (dats m 0 c).arrAt_eq_of_covers 18 _ (by decide +kernel) fun t hf y => ?_
  have h := (idx t).2.2.2.2.2.2.2.2.2.1
  have hY : ∀ y : S512x1024.Idx, ∃ R : Fin 65536, R.val = (grid0.coords t 0).val * 512 + (y 0).val ∧
      (((cfg0.win 18).blk t).view.emb y : S65536x1024.Idx) = ix2 R (y 1) := by
    intro y
    refine ⟨(((cfg0.win 18).blk t).view.emb y : S65536x1024.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row18 m c t _ R hR _

/-- The attention's gate. -/
theorem final19 (c : Dev nD) : (dats m 0 c).arrAt 19 cfg0.N = (cols (X m c) (W m c) 4932 1024 (by omega) : FVec Ideal S65536x1024 .bf16) := by
  refine (dats m 0 c).arrAt_eq_of_covers 19 _ (by decide +kernel) fun t hf y => ?_
  have h := (idx t).2.2.2.2.2.2.2.2.2.2.1
  have hY : ∀ y : S512x1024.Idx, ∃ R : Fin 65536, R.val = (grid0.coords t 0).val * 512 + (y 0).val ∧
      (((cfg0.win 19).blk t).view.emb y : S65536x1024.Idx) = ix2 R (y 1) := by
    intro y
    refine ⟨(((cfg0.win 19).blk t).view.emb y : S65536x1024.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row19 m c t _ R hR _

/-- The output gate. -/
theorem final20 (c : Dev nD) : (dats m 0 c).arrAt 20 cfg0.N = (cols (X m c) (W m c) 5956 1024 (by omega) : FVec Ideal S65536x1024 .bf16) := by
  refine (dats m 0 c).arrAt_eq_of_covers 20 _ (by decide +kernel) fun t hf y => ?_
  have h := (idx t).2.2.2.2.2.2.2.2.2.2.2
  have hY : ∀ y : S512x1024.Idx, ∃ R : Fin 65536, R.val = (grid0.coords t 0).val * 512 + (y 0).val ∧
      (((cfg0.win 20).blk t).view.emb y : S65536x1024.Idx) = ix2 R (y 1) := by
    intro y
    refine ⟨(((cfg0.win 20).blk t).view.emb y : S65536x1024.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row20 m c t _ R hR _

end Cert.ProjIdeal.Array

end
-- ==== Proof.Proj.Reference.lean ====
/-
  What the projection reference computes, row by row: the functions of Row of its arguments.
-/
module

public import proofs.«01_k».proof.Proof.Gen.ProjRefIdeal.Run
public import proofs.«01_k».proof.Proof.Proj.Row
public import Idealize.ShloMosaic.Lib.Claim
public import Idealize.ShloMosaic.Lib.Tactic.CleanTypes

@[expose] public section

set_option maxRecDepth 16384

noncomputable section

namespace Cert.ProjRefIdeal.Rows

open Cert.ProjRefIdeal Cert.ProjRefIdeal.Gen Cert.ProjRefIdeal.Value Cert.ProjRow Idealize.ShloMosaic Idealize.ShloMosaic.TcCoe Idealize.ShloMosaic.StableHlo Idealize.SL.Sem

variable (m : (ℓ : Loc nD τ sig) → Buf (Elt Ideal) ℓ) (c : Dev nD)

/-- The activations. -/
abbrev X : FVec Ideal S8x8192x1024 .f32 := m ((c.tc : Thread nD τ).loc main_arg0)
/-- The input projection. -/
abbrev W : FVec Ideal S1024x6980 .f32 := m ((c.tc : Thread nD τ).loc main_arg1)

/-- The product that every result is taken from. -/
def P : FVec Ideal S8x8192x6980 .f32 := Host.dotGeneral (F := Ideal) dot_S8x8192x1024_S1024x6980_S8x8192x6980_2_0_01_1_n_n none (X m c) (W m c)

/-- The product at an index. -/
theorem P_apply (b : Fin 8) (s : Fin 8192) (j : Fin 6980) : P m c (ix3 b s j) = ∑ k : Fin 1024, X m c (ix3 b s k) * W m c (ix2 k j) := by
  pointwise! [P]

/-- The product at a row. -/
theorem P_row (R : Fin 65536) (j : Fin 6980) : P m c (ix3 (seq R) (pos R) j) = col (X m c) (W m c) R j := P_apply m c _ _ j

/-- The attention's keys. -/
theorem out7 : (shapeCast _ (extractStridedSlice S8x8192x512 ![0, 0, 512] (P m c) slices_S8x8192x6980_S8x8192x512_0_0_512) shapeCasts_S8x8192x512_S65536x8x64 : FVec Ideal S65536x8x64 .f32) = heads (X m c) (W m c) 512 (by omega) := by
  funext y
  idx_vars y
  refine (?_ : _ = P m c (ix3 (seq y0) (pos y0) ⟨512 + (y1.val * 64 + y2.val), by omega⟩)).trans (P_row m c y0 _)
  generalize P m c = Q
  pointwise!

/-- The attention's values. -/
theorem out9 : (shapeCast _ (extractStridedSlice S8x8192x512 ![0, 0, 1024] (P m c) slices_S8x8192x6980_S8x8192x512_0_0_1024) shapeCasts_S8x8192x512_S65536x8x64 : FVec Ideal S65536x8x64 .f32) = heads (X m c) (W m c) 1024 (by omega) := by
  funext y
  idx_vars y
  refine (?_ : _ = P m c (ix3 (seq y0) (pos y0) ⟨1024 + (y1.val * 64 + y2.val), by omega⟩)).trans (P_row m c y0 _)
  generalize P m c = Q
  pointwise!

/-- The attention's queries. -/
theorem out6 : (truncf .bf16 (shapeCast _ (mulf (extractStridedSlice S8x8192x512 ![0, 0, 0] (P m c) slices_S8x8192x6980_S8x8192x512_0_0_0) (broadcastInDim S8x8192x512 ![] bcast_S_S8x8192x512 (constant S_ .f32 0x3E38AA3B#32))) shapeCasts_S8x8192x512_S65536x512) bitsLt_bf16_f32 : FVec Ideal S65536x512 .bf16) = queries (X m c) (W m c) := by
  funext y
  idx_vars y
  refine (?_ : _ = P m c (ix3 (seq y0) (pos y0) ⟨0 + y1.val, by omega⟩) * Ideal.ofBits .f32 0x3E38AA3B#32).trans (congrArg (· * _) (P_row m c y0 _))
  generalize P m c = Q
  pointwise!

/-- The index queries. -/
theorem out11 : (truncf .bf16 (shapeCast _ (extractStridedSlice S8x8192x256 ![0, 0, 1536] (P m c) slices_S8x8192x6980_S8x8192x256_0_0_1536) shapeCasts_S8x8192x256_S65536x256) bitsLt_bf16_f32 : FVec Ideal S65536x256 .bf16) = cols (X m c) (W m c) 1536 256 (by omega) := by
  funext y
  idx_vars y
  refine (?_ : _ = P m c (ix3 (seq y0) (pos y0) ⟨1536 + y1.val, by omega⟩)).trans (P_row m c y0 _)
  generalize P m c = Q
  pointwise!

/-- The retention's values. -/
theorem out17 : (truncf .bf16 (shapeCast _ (extractStridedSlice S8x8192x1024 ![0, 0, 2884] (P m c) slices_S8x8192x6980_S8x8192x1024_0_0_2884) shapeCasts_S8x8192x1024_S65536x1024) bitsLt_bf16_f32 : FVec Ideal S65536x1024 .bf16) = cols (X m c) (W m c) 2884 1024 (by omega) := by
  funext y
  idx_vars y
  refine (?_ : _ = P m c (ix3 (seq y0) (pos y0) ⟨2884 + y1.val, by omega⟩)).trans (P_row m c y0 _)
  generalize P m c = Q
  pointwise!

/-- The retention's gate. -/
theorem out18 : (truncf .bf16 (shapeCast _ (extractStridedSlice S8x8192x1024 ![0, 0, 3908] (P m c) slices_S8x8192x6980_S8x8192x1024_0_0_3908) shapeCasts_S8x8192x1024_S65536x1024) bitsLt_bf16_f32 : FVec Ideal S65536x1024 .bf16) = cols (X m c) (W m c) 3908 1024 (by omega) := by
  funext y
  idx_vars y
  refine (?_ : _ = P m c (ix3 (seq y0) (pos y0) ⟨3908 + y1.val, by omega⟩)).trans (P_row m c y0 _)
  generalize P m c = Q
  pointwise!

/-- The attention's gate. -/
theorem out19 : (truncf .bf16 (shapeCast _ (extractStridedSlice S8x8192x1024 ![0, 0, 4932] (P m c) slices_S8x8192x6980_S8x8192x1024_0_0_4932) shapeCasts_S8x8192x1024_S65536x1024) bitsLt_bf16_f32 : FVec Ideal S65536x1024 .bf16) = cols (X m c) (W m c) 4932 1024 (by omega) := by
  funext y
  idx_vars y
  refine (?_ : _ = P m c (ix3 (seq y0) (pos y0) ⟨4932 + y1.val, by omega⟩)).trans (P_row m c y0 _)
  generalize P m c = Q
  pointwise!

/-- The output gate. -/
theorem out20 : (truncf .bf16 (shapeCast _ (extractStridedSlice S8x8192x1024 ![0, 0, 5956] (P m c) slices_S8x8192x6980_S8x8192x1024_0_0_5956) shapeCasts_S8x8192x1024_S65536x1024) bitsLt_bf16_f32 : FVec Ideal S65536x1024 .bf16) = cols (X m c) (W m c) 5956 1024 (by omega) := by
  funext y
  idx_vars y
  refine (?_ : _ = P m c (ix3 (seq y0) (pos y0) ⟨5956 + y1.val, by omega⟩)).trans (P_row m c y0 _)
  generalize P m c = Q
  pointwise!

/-- The raw index keys. -/
def raw : FVec Ideal S8x8192x64 .f32 := extractStridedSlice S8x8192x64 ![0, 0, 1792] (P m c) slices_S8x8192x6980_S8x8192x64_0_0_1792

/-- Their columns. -/
theorem raw_apply (R : Fin 65536) (n : Fin 64) : raw m c (ix3 (seq R) (pos R) n) = col (X m c) (W m c) R ⟨1792 + n.val, by omega⟩ := by
  refine (?_ : _ = P m c (ix3 (seq R) (pos R) ⟨1792 + n.val, by omega⟩)).trans (P_row m c R _)
  unfold raw
  generalize P m c = Q
  pointwise!

/-- The mean of the last axis. -/
def mu (v : FVec Ideal S8x8192x64 .f32) : FVec Ideal S8x8192x1 .f32 :=
  (Host.divf (broadcastInDim S8x8192x1 ![0, 1] bcast_S8x8192_S8x8192x1_0_1 (Host.reduceAdd v (constant S_ .f32 0x00000000#32) reducesTo_S8x8192x64_S8x8192_d2 h_S_)) (broadcastInDim S8x8192x1 ![] bcast_S_S8x8192x1 (constant S_ .f32 0x42800000#32)))

/-- The mean at an index. -/
theorem mu_apply (v : FVec Ideal S8x8192x64 .f32) (b : Fin 8) (s : Fin 8192) : mu v (ix3 b s 0) = mean fun n => v (ix3 b s n) := by
  pointwise! [mu, mean]

/-- The deviation from the mean. -/
def ctr (v : FVec Ideal S8x8192x64 .f32) : FVec Ideal S8x8192x64 .f32 :=
  subf v (broadcastInDim S8x8192x64 ![0, 1, 2] bcast_S8x8192x1_S8x8192x64_0_1_2 (mu v))

/-- The deviation at an index. -/
theorem ctr_apply (v : FVec Ideal S8x8192x64 .f32) (b : Fin 8) (s : Fin 8192) (n : Fin 64) :
    ctr v (ix3 b s n) = v (ix3 b s n) - mean fun n => v (ix3 b s n) := by
  rw [← mu_apply]
  pointwise! [ctr]

/-- The layer normalisation. -/
def norm (v : FVec Ideal S8x8192x64 .f32) (g b : FVec Ideal S64 .f32) : FVec Ideal S65536x64 .f32 :=
  shapeCast _ (addf (mulf (mulf (ctr v) (broadcastInDim S8x8192x64 ![0, 1, 2] bcast_S8x8192x1_S8x8192x64_0_1_2 (Host.rsqrt (addf (mu (mulf (ctr v) (ctr v))) (broadcastInDim S8x8192x1 ![] bcast_S_S8x8192x1 (constant S_ .f32 0x3727C5AC#32)))))) (broadcastInDim S8x8192x64 ![0, 1, 2] bcast_S1x1x64_S8x8192x64_0_1_2 (broadcastInDim S1x1x64 ![2] bcast_S64_S1x1x64_2 g))) (broadcastInDim S8x8192x64 ![0, 1, 2] bcast_S1x1x64_S8x8192x64_0_1_2 (broadcastInDim S1x1x64 ![2] bcast_S64_S1x1x64_2 b))) shapeCasts_S8x8192x64_S65536x64

/-- The layer normalisation at an index. -/
theorem norm_apply (v : FVec Ideal S8x8192x64 .f32) (g b : FVec Ideal S64 .f32) (R : Fin 65536) (j : Fin 64) :
    norm v g b (ix2 R j) = layerNorm (fun n => v (ix3 (seq R) (pos R) n)) (fun n => g (ix1 n)) (fun n => b (ix1 n)) j := by
  have e : norm v g b (ix2 R j) = ctr v (ix3 (seq R) (pos R) j) * Ideal.rsqrt (mu (mulf (ctr v) (ctr v)) (ix3 (seq R) (pos R) 0) + Ideal.ofBits .f32 0x3727C5AC#32)
      * g (ix1 j) + b (ix1 j) := by
    unfold norm
    generalize mu (mulf (ctr v) (ctr v)) = M
    generalize ctr v = D
    pointwise!
  have d : mu (mulf (ctr v) (ctr v)) (ix3 (seq R) (pos R) 0)
      = mean fun n => (v (ix3 (seq R) (pos R) n) - mean fun n => v (ix3 (seq R) (pos R) n)) * (v (ix3 (seq R) (pos R) n) - mean fun n => v (ix3 (seq R) (pos R) n)) := by
    rw [mu_apply]
    refine congrArg mean (funext fun n => ?_)
    rw [← ctr_apply]
    rfl
  rw [e, d, ctr_apply]
  rfl

/-- The index keys. -/
theorem out12 : norm (raw m c) (m ((c.tc : Thread nD τ).loc main_arg2)) (m ((c.tc : Thread nD τ).loc main_arg3))
    = idxKeys (X m c) (W m c) (m ((c.tc : Thread nD τ).loc main_arg2)) (m ((c.tc : Thread nD τ).loc main_arg3)) := by
  funext y
  idx_vars y
  refine (norm_apply _ _ _ y0 y1).trans ?_
  rw [show (fun n => raw m c (ix3 (seq y0) (pos y0) n)) = fun n : Fin 64 => col (X m c) (W m c) y0 (C (1792 + n.val) (by omega)) from funext fun n => raw_apply m c y0 n]
  rfl

/-- The integer zero is the real zero. -/
theorem zero_word : FloatOps.sitofp (F := Ideal) .f32 0#32 = (0 : EReal) := by
  show (((0#32 : BitVec 32).toInt : ℝ) : EReal) = 0
  simp

/-- The score lanes. -/
theorem out14 : (shapeCast _ (mulf (pad S8x8192x128 ![0, 0, 0] ![0, 0, 60] ![0, 0, 0] (concatenate S8x8192x68 2 [⟨S8x8192x64, (extractStridedSlice S8x8192x64 ![0, 0, 1792] (P m c) slices_S8x8192x6980_S8x8192x64_0_0_1792)⟩, ⟨S8x8192x4, (extractStridedSlice S8x8192x4 ![0, 0, 1856] (P m c) slices_S8x8192x6980_S8x8192x4_0_0_1856)⟩] concatenates_S8x8192x64_S8x8192x4_S8x8192x68_d2) (sitofp .f32 (constantI S_ 32 0#32)) pads_S8x8192x68_S8x8192x128_000_000_0600 h_S_) (broadcastInDim S8x8192x128 ![] bcast_S_S8x8192x128 (constant S_ .f32 0x3D800000#32))) shapeCasts_S8x8192x128_S65536x128 : FVec Ideal S65536x128 .f32) = scores (X m c) (W m c) := by
  funext y
  idx_vars y
  have e : scores (X m c) (W m c) (ix2 y0 y1) = (if h : y1.val < 68 then P m c (ix3 (seq y0) (pos y0) ⟨1792 + y1.val, by omega⟩) else 0) * Ideal.ofBits .f32 0x3D800000#32 := by
    show score (X m c) (W m c) y0 y1 = _
    unfold score
    refine congrArg (· * Ideal.ofBits .f32 0x3D800000#32) ?_
    by_cases h : y1.val < 68
    · rw [dif_pos h, dif_pos h]
      exact (P_row m c y0 _).symm
    · rw [dif_neg h, dif_neg h]
  rw [e]
  generalize P m c = Q
  pointwise
  refine congrArg (· * Ideal.ofBits .f32 0x3D800000#32) ?_
  have a1 : y0.val / 8192 < 8 := by omega
  have a2 : y0.val % 8192 < 8192 := by omega
  by_cases h : y1.val < 68
  · simp only [a1, a2, h, and_self, ↓reduceDIte]
    by_cases h' : y1.val < 64
    · simp only [h', ↓reduceDIte]
    · have e : (⟨1856 + (y1.val - 64), by omega⟩ : Fin 6980) = ⟨1792 + y1.val, by omega⟩ := Fin.ext (by dsimp only; omega)
      simp only [h', ↓reduceDIte, e]
  · simp only [a1, a2, h, and_false, ↓reduceDIte, zero_word]

end Cert.ProjRefIdeal.Rows

end
-- ==== Proof.Proj.Rotation.lean ====
/-
  The projection reference's rotated queries and keys, row by row.
-/
module

public import proofs.«01_k».proof.Proof.Proj.Reference
public import Idealize.ShloMosaic.Lib.Claim
public import Idealize.ShloMosaic.Lib.Tactic.CleanTypes

@[expose] public section

set_option maxRecDepth 16384

noncomputable section

namespace Cert.ProjRefIdeal.Rows

open Cert.ProjRefIdeal Cert.ProjRefIdeal.Gen Cert.ProjRefIdeal.Value Cert.ProjRow Idealize.ShloMosaic Idealize.ShloMosaic.TcCoe Idealize.ShloMosaic.StableHlo Idealize.SL.Sem

variable (m : (ℓ : Loc nD τ sig) → Buf (Elt Ideal) ℓ) (c : Dev nD)

/-- The angles. -/
def angles : FVec Ideal S8192x32 .f32 :=
  (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))))))

/-- An angle. -/
theorem angles_apply (s : Fin 8192) (k : Fin 32) : angles (ix2 s k) = angleN s k.val := by
  pointwise! [angles, angleN]

/-- The rotation of the heads' halves. -/
def turned (v : FVec Ideal S8x8192x8x64 .f32) : FVec Ideal S8x8192x8x64 .f32 :=
  (concatenate S8x8192x8x64 3 [⟨S8x8192x8x32, (subf (mulf (extractStridedSlice S8x8192x8x32 ![0, 0, 0, 0] v slices_S8x8192x8x64_S8x8192x8x32_0_0_0_0) (broadcastInDim S8x8192x8x32 ![0, 1, 2, 3] bcast_S1x8192x1x32_S8x8192x8x32_0_1_2_3 (broadcastInDim S1x8192x1x32 ![1, 3] bcast_S8192x32_S1x8192x1x32_1_3 (Host.cos angles)))) (mulf (extractStridedSlice S8x8192x8x32 ![0, 0, 0, 32] v slices_S8x8192x8x64_S8x8192x8x32_0_0_0_32) (broadcastInDim S8x8192x8x32 ![0, 1, 2, 3] bcast_S1x8192x1x32_S8x8192x8x32_0_1_2_3 (broadcastInDim S1x8192x1x32 ![1, 3] bcast_S8192x32_S1x8192x1x32_1_3 (Host.sin angles)))))⟩, ⟨S8x8192x8x32, (addf (mulf (extractStridedSlice S8x8192x8x32 ![0, 0, 0, 0] v slices_S8x8192x8x64_S8x8192x8x32_0_0_0_0) (broadcastInDim S8x8192x8x32 ![0, 1, 2, 3] bcast_S1x8192x1x32_S8x8192x8x32_0_1_2_3 (broadcastInDim S1x8192x1x32 ![1, 3] bcast_S8192x32_S1x8192x1x32_1_3 (Host.sin angles)))) (mulf (extractStridedSlice S8x8192x8x32 ![0, 0, 0, 32] v slices_S8x8192x8x64_S8x8192x8x32_0_0_0_32) (broadcastInDim S8x8192x8x32 ![0, 1, 2, 3] bcast_S1x8192x1x32_S8x8192x8x32_0_1_2_3 (broadcastInDim S1x8192x1x32 ![1, 3] bcast_S8192x32_S1x8192x1x32_1_3 (Host.cos angles)))))⟩] concatenates_S8x8192x8x32_S8x8192x8x32_S8x8192x8x64_d3)

/-- The rotation at an index. -/
theorem turned_apply (v : FVec Ideal S8x8192x8x64 .f32) (b : Fin 8) (s : Fin 8192) (h : Fin 8) (d : Fin 64) :
    turned v (ix4 b s h d) = if hd : d.val < 32 then
        v (ix4 b s h ⟨d.val, by omega⟩) * Ideal.cos (angles (ix2 s ⟨d.val, hd⟩)) - v (ix4 b s h ⟨32 + d.val, by omega⟩) * Ideal.sin (angles (ix2 s ⟨d.val, hd⟩))
      else v (ix4 b s h ⟨d.val - 32, by omega⟩) * Ideal.sin (angles (ix2 s ⟨d.val - 32, by omega⟩)) + v (ix4 b s h ⟨d.val, by omega⟩) * Ideal.cos (angles (ix2 s ⟨d.val - 32, by omega⟩)) := by
  unfold turned
  generalize angles = A
  pointwise
  by_cases hd : d.val < 32
  · rw [dif_pos hd, dif_pos hd]
  · rw [dif_neg hd, dif_neg hd]
    have e : (⟨32 + (d.val - 32), by omega⟩ : Fin 64) = d := Fin.ext (by dsimp only; omega)
    rw [e]

/-- The heads laid out by pairs, their halves exchanged. -/
def lanes (v : FVec Ideal S8x8192x8x64 .f32) : FVec Ideal S65536x512 .bf16 :=
  truncf .bf16 (shapeCast _ (shapeCast _ (transpose S8x8192x4x2x2x32 [0, 1, 2, 4, 3, 5] (shapeCast _ v shapeCasts_S8x8192x8x64_S8x8192x4x2x2x32) transposes_S8x8192x4x2x2x32_S8x8192x4x2x2x32_0_1_2_4_3_5) shapeCasts_S8x8192x4x2x2x32_S8x8192x512) shapeCasts_S8x8192x512_S65536x512) bitsLt_bf16_f32

/-- The layout at an index. -/
theorem lanes_apply (v : FVec Ideal S8x8192x8x64 .f32) (R : Fin 65536) (l : Fin 512) :
    lanes v (ix2 R l) = v (ix4 (seq R) (pos R) ⟨2 * (l.val / 128) + l.val / 32 % 2, by omega⟩ ⟨32 * (l.val / 64 % 2) + l.val % 32, by omega⟩) := by
  unfold lanes
  pointwise
  have e : (⟨l.val / 128 * 2 + l.val / 32 % 2, by omega⟩ : Fin 8) = ⟨2 * (l.val / 128) + l.val / 32 % 2, by omega⟩ := Fin.ext (by dsimp only; omega)
  have e' : (⟨l.val / 64 % 2 * 32 + l.val % 32, by omega⟩ : Fin 64) = ⟨32 * (l.val / 64 % 2) + l.val % 32, by omega⟩ := Fin.ext (by dsimp only; omega)
  rw [e, e']

/-- The rotation of columns whose heads hold a row's columns from `off`. -/
theorem rot_apply (off : ℕ) (hoff : off + 512 ≤ 6980) (v : FVec Ideal S8x8192x8x64 .f32) (R : Fin 65536) (l : Fin 512)
    (hv : ∀ (h : Fin 8) (d : Fin 64), v (ix4 (seq R) (pos R) h d) = col (X m c) (W m c) R ⟨off + (h.val * 64 + d.val), by omega⟩) :
    turned v (ix4 (seq R) (pos R) ⟨2 * (l.val / 128) + l.val / 32 % 2, by omega⟩ ⟨32 * (l.val / 64 % 2) + l.val % 32, by omega⟩)
      = rot (X m c) (W m c) off hoff R l := by
  rw [turned_apply]
  unfold rot
  by_cases h : l.val / 64 % 2 = 0
  · have p0 : (⟨off + ((2 * (l.val / 128) + l.val / 32 % 2) * 64 + (32 * (l.val / 64 % 2) + l.val % 32)), by omega⟩ : Fin 6980) = rotCol off hoff l 0 := by
      refine Fin.ext ?_
      show off + ((2 * (l.val / 128) + l.val / 32 % 2) * 64 + (32 * (l.val / 64 % 2) + l.val % 32)) = off + (2 * (l.val / 128) + l.val / 32 % 2) * 64 + 32 * 0 + l.val % 32
      omega
    have p1 : (⟨off + ((2 * (l.val / 128) + l.val / 32 % 2) * 64 + (32 + (32 * (l.val / 64 % 2) + l.val % 32))), by omega⟩ : Fin 6980) = rotCol off hoff l 1 := by
      refine Fin.ext ?_
      show off + ((2 * (l.val / 128) + l.val / 32 % 2) * 64 + (32 + (32 * (l.val / 64 % 2) + l.val % 32))) = off + (2 * (l.val / 128) + l.val / 32 % 2) * 64 + 32 * 1 + l.val % 32
      omega
    have p2 : (32 * (l.val / 64 % 2) + l.val % 32) = l.val % 32 := by omega
    rw [dif_pos (show 32 * (l.val / 64 % 2) + l.val % 32 < 32 by omega), if_pos h, hv, hv, angles_apply]
    rw [p0, p1]
    simp only [p2]
  · have p0 : (⟨off + ((2 * (l.val / 128) + l.val / 32 % 2) * 64 + (32 * (l.val / 64 % 2) + l.val % 32 - 32)), by omega⟩ : Fin 6980) = rotCol off hoff l 0 := by
      refine Fin.ext ?_
      show off + ((2 * (l.val / 128) + l.val / 32 % 2) * 64 + (32 * (l.val / 64 % 2) + l.val % 32 - 32)) = off + (2 * (l.val / 128) + l.val / 32 % 2) * 64 + 32 * 0 + l.val % 32
      omega
    have p1 : (⟨off + ((2 * (l.val / 128) + l.val / 32 % 2) * 64 + (32 * (l.val / 64 % 2) + l.val % 32)), by omega⟩ : Fin 6980) = rotCol off hoff l 1 := by
      refine Fin.ext ?_
      show off + ((2 * (l.val / 128) + l.val / 32 % 2) * 64 + (32 * (l.val / 64 % 2) + l.val % 32)) = off + (2 * (l.val / 128) + l.val / 32 % 2) * 64 + 32 * 1 + l.val % 32
      omega
    have p2 : (32 * (l.val / 64 % 2) + l.val % 32 - 32) = l.val % 32 := by omega
    rw [dif_neg (show ¬ 32 * (l.val / 64 % 2) + l.val % 32 < 32 by omega), if_neg h, hv, hv, angles_apply]
    rw [p0, p1]
    simp only [p2]

/-- The heads of the retention's queries. -/
def headsQ : FVec Ideal S8x8192x8x64 .f32 := shapeCast _ (extractStridedSlice S8x8192x512 ![0, 0, 1860] (P m c) slices_S8x8192x6980_S8x8192x512_0_0_1860) shapeCasts_S8x8192x512_S8x8192x8x64
/-- The heads of the retention's keys. -/
def headsK : FVec Ideal S8x8192x8x64 .f32 := shapeCast _ (extractStridedSlice S8x8192x512 ![0, 0, 2372] (P m c) slices_S8x8192x6980_S8x8192x512_0_0_2372) shapeCasts_S8x8192x512_S8x8192x8x64

/-- The queries' heads at an index. -/
theorem headsQ_apply (R : Fin 65536) (h : Fin 8) (d : Fin 64) : headsQ m c (ix4 (seq R) (pos R) h d) = col (X m c) (W m c) R ⟨1860 + (h.val * 64 + d.val), by omega⟩ := by
  refine (?_ : _ = P m c (ix3 (seq R) (pos R) ⟨1860 + (h.val * 64 + d.val), by omega⟩)).trans (P_row m c R _)
  unfold headsQ
  generalize P m c = Q
  pointwise!

/-- The keys' heads at an index. -/
theorem headsK_apply (R : Fin 65536) (h : Fin 8) (d : Fin 64) : headsK m c (ix4 (seq R) (pos R) h d) = col (X m c) (W m c) R ⟨2372 + (h.val * 64 + d.val), by omega⟩ := by
  refine (?_ : _ = P m c (ix3 (seq R) (pos R) ⟨2372 + (h.val * 64 + d.val), by omega⟩)).trans (P_row m c R _)
  unfold headsK
  generalize P m c = Q
  pointwise!

/-- The retention's queries. -/
theorem out15 : lanes (turned (headsQ m c)) = rots (X m c) (W m c) 1860 (by omega) := by
  funext y
  idx_vars y
  rw [lanes_apply]
  exact rot_apply m c 1860 (by omega) _ y0 y1 (headsQ_apply m c y0)

/-- The retention's keys. -/
theorem out16 : lanes (mulf (turned (headsK m c)) (broadcastInDim S8x8192x8x64 ![] bcast_S_S8x8192x8x64 (constant S_ .f32 0x3E000000#32))) = rotKeys (X m c) (W m c) := by
  funext y
  idx_vars y
  rw [lanes_apply]
  exact congrArg (· * Ideal.ofBits .f32 0x3E000000#32) (rot_apply m c 2372 (by omega) _ y0 y1 (headsK_apply m c y0))

/-- The reference's composed terms are these functions of its arguments. -/
theorem res15 : (res_out6 m c : FVec Ideal S65536x512 .bf16) = rots (X m c) (W m c) 1860 (by omega) := by
  refine Eq.trans ?_ (out15 m c)
  unfold res_out6 res_main_v118 lanes turned headsQ angles P
  rfl

/-- The same for the keys. -/
theorem res16 : (res_out7 m c : FVec Ideal S65536x512 .bf16) = rotKeys (X m c) (W m c) := by
  refine Eq.trans ?_ (out16 m c)
  unfold res_out7 res_main_v123 lanes turned headsK angles P
  rfl

end Cert.ProjRefIdeal.Rows

end
-- ==== Proof.Proj.Claims.lean ====
/-
  The claims about the projection: its frames, and that kernel and reference return the same twelve arrays.
-/
module

public import proofs.«01_k».proof.Defs
public import proofs.«01_k».proof.Proof.Gen.Proj.Frame
public import proofs.«01_k».proof.Proof.Proj.Array
public import proofs.«01_k».proof.Proof.Proj.Rotation

@[expose] public section

set_option maxRecDepth 16384

noncomputable section

namespace Cert.Proof.ProjClaims

open Idealize.ShloMosaic Idealize.SL.Sem

/-- The kernel runs safely, terminates and leaves its arguments and counters as they were, over bits. -/
theorem frameP : Cert.quiescent_Proj := fun m ρ _ => Cert.Proj.Gen.frame m ρ
/-- The same over the extended reals. -/
theorem framePI : Cert.quiescent_ProjIdeal := fun m ρ _ => Cert.ProjIdeal.Gen.frame m ρ
/-- The reference runs, terminates and leaves its arguments as they were. -/
theorem frameRI : Cert.quiescent_ProjRefIdeal := fun m ρ _ =>
  (θ_run Cert.ProjRefIdeal.defs _ _).mono (fun r h => ⟨fun c => (h c).2.2.2.2.2.2.2.2.2.2.2.2, sem_eq_zero_of_no_sems (by decide) r.2⟩)
    (Cert.ProjRefIdeal.Value.run (F := Ideal) m ρ)
/-- The program over the extended reals is the program over bits, operation by operation. -/
theorem preserves : Cert.preserves_Proj_ProjIdeal := trivial

set_option maxHeartbeats 2000000 in
open Cert.ProjRow in
/-- Over the extended reals the projection kernel returns exactly the twelve arrays that its reference returns. -/
theorem algebraic : Cert.algebraic_ProjIdeal_ProjRefIdeal := by
  intro m ρ m' ρ' _ hagree
  let X := Cert.ProjIdeal.Rows.X m
  let W := Cert.ProjIdeal.Rows.W m
  let G := fun c : Dev Cert.ProjIdeal.nD => m ((c.tc : Thread Cert.ProjIdeal.nD Cert.ProjIdeal.τ).loc Cert.ProjIdeal.main_arg2)
  let B := fun c : Dev Cert.ProjIdeal.nD => m ((c.tc : Thread Cert.ProjIdeal.nD Cert.ProjIdeal.τ).loc Cert.ProjIdeal.main_arg3)
  refine ⟨fun c => heads (X c) (W c) 512 (by omega), fun c => heads (X c) (W c) 1024 (by omega), fun c => idxKeys (X c) (W c) (G c) (B c),
    fun c => queries (X c) (W c), fun c => cols (X c) (W c) 1536 256 (by omega), fun c => scores (X c) (W c),
    fun c => rots (X c) (W c) 1860 (by omega), fun c => rotKeys (X c) (W c), fun c => cols (X c) (W c) 2884 1024 (by omega),
    fun c => cols (X c) (W c) 3908 1024 (by omega), fun c => cols (X c) (W c) 4932 1024 (by omega), fun c => cols (X c) (W c) 5956 1024 (by omega), ?_, ?_⟩
  · refine (θ_run Cert.ProjIdeal.defs _ _).mono (fun _ h c => ?_) (Cert.ProjIdeal.Value.run_blocks (F := Ideal) m ρ)
    obtain ⟨h6, h7, _, h9, _, h11, h12, _, h14, h15, h16, h17, h18, h19, h20, hk⟩ := h c
    exact ⟨h7.trans (Cert.ProjIdeal.Array.final7 m c), h9.trans (Cert.ProjIdeal.Array.final9 m c), h12.trans (Cert.ProjIdeal.Array.final12 m c),
      h6.trans (Cert.ProjIdeal.Array.final6 m c), h11.trans (Cert.ProjIdeal.Array.final11 m c), h14.trans (Cert.ProjIdeal.Array.final14 m c),
      h15.trans (Cert.ProjIdeal.Array.final15 m c), h16.trans (Cert.ProjIdeal.Array.final16 m c), h17.trans (Cert.ProjIdeal.Array.final17 m c),
      h18.trans (Cert.ProjIdeal.Array.final18 m c), h19.trans (Cert.ProjIdeal.Array.final19 m c), h20.trans (Cert.ProjIdeal.Array.final20 m c), hk⟩
  refine (θ_run Cert.ProjRefIdeal.defs _ _).mono (fun _ h c => ?_) (Cert.ProjRefIdeal.Value.run (F := Ideal) m' ρ')
  obtain ⟨a0, a1, a2, a3⟩ := hagree c
  have ex : X c = Cert.ProjRefIdeal.Rows.X m' c := a0.symm
  have ew : W c = Cert.ProjRefIdeal.Rows.W m' c := a1.symm
  have eg : G c = m' ((c.tc : Thread Cert.ProjRefIdeal.nD Cert.ProjRefIdeal.τ).loc Cert.ProjRefIdeal.main_arg2) := a2.symm
  have eb : B c = m' ((c.tc : Thread Cert.ProjRefIdeal.nD Cert.ProjRefIdeal.τ).loc Cert.ProjRefIdeal.main_arg3) := a3.symm
  obtain ⟨h7, h9, h12, h6, h11, h14, h15, h16, h17, h18, h19, h20, hk⟩ := h c
  beta_reduce
  rw [ex, ew, eg, eb]
  exact ⟨h7.trans (Cert.ProjRefIdeal.Rows.out7 m' c), h9.trans (Cert.ProjRefIdeal.Rows.out9 m' c), h12.trans (Cert.ProjRefIdeal.Rows.out12 m' c),
    h6.trans (Cert.ProjRefIdeal.Rows.out6 m' c), h11.trans (Cert.ProjRefIdeal.Rows.out11 m' c), h14.trans (Cert.ProjRefIdeal.Rows.out14 m' c),
    h15.trans (Cert.ProjRefIdeal.Rows.res15 m' c), h16.trans (Cert.ProjRefIdeal.Rows.res16 m' c), h17.trans (Cert.ProjRefIdeal.Rows.out17 m' c),
    h18.trans (Cert.ProjRefIdeal.Rows.out18 m' c), h19.trans (Cert.ProjRefIdeal.Rows.out19 m' c), h20.trans (Cert.ProjRefIdeal.Rows.out20 m' c), hk⟩

end Cert.Proof.ProjClaims

end
-- ==== Proof.FinishSample.Block.lean ====
/-
  What one grid point of the finishing kernel's call for the sample computes from its blocks, row by row.
-/
module

public import proofs.«01_k».proof.Proof.Gen.FinishSampleIdeal.Value
public import proofs.«01_k».proof.Proof.Finish.Row

@[expose] public section

set_option maxRecDepth 16384

noncomputable section

namespace Cert.FinishSampleIdeal.Block

open Cert.FinishSampleIdeal Cert.FinishSampleIdeal.Gen Cert.FinishRow Idealize.ShloMosaic Idealize.ShloMosaic.TcCoe Idealize.SL.Sem

/-- The first payload at an index: the merge of the two branches of that row. -/
theorem pay2_apply (v0 : Vec Ideal S256x1024 .f32) (v2 : Vec Ideal S256x1024 .bf16) (v6 : Vec Ideal S256x512 .bf16) (v8 : Vec Ideal S512x1024 .bf16)
    (v12 : Vec Ideal S256x1024 .bf16) (v16 : Vec Ideal S256x1024 .bf16) (v18 : Vec Ideal S1024x1024 .bf16) (v26 : Vec Ideal S1024x1024 .bf16)
    (i : Fin 256) (j : Fin 1024) :
    k0_pay2 (F := Ideal) v0 v2 v6 v8 v12 v16 v18 v26 (ix2 i j)
      = merged (fun n => v0 (ix2 i n)) (fun n => v2 (ix2 i n)) (fun n => v12 (ix2 i n)) (fun n => v6 (ix2 i n)) (fun n => v16 (ix2 i n))
          (fun k n => v8 (ix2 k n)) (fun k n => v18 (ix2 k n)) (fun k n => v26 (ix2 k n)) j := by
  pointwise! [k0_pay2, merged, lin]

/-- Layer normalisation followed by the feed-forward step, at an index. -/
theorem pay5_apply (v29 : FVec Ideal S256x1024 .f32) (v31 v33 : FVec Ideal S1x1024 .f32) (v55 v60 : Vec Ideal S1024x2816 .bf16) (v67 : Vec Ideal S2816x1024 .bf16)
    (i : Fin 256) (j : Fin 1024) :
    k0_pay5 (F := Ideal) v29 v31 v33 v55 v60 v67 (ix2 i j)
      = feed (layerNorm (fun n => v29 (ix2 i n)) (fun n => v31 (ix2 0 n)) (fun n => v33 (ix2 0 n)))
          (fun k n => v55 (ix2 k n)) (fun k n => v60 (ix2 k n)) (fun k n => v67 (ix2 k n)) j := by
  pointwise! [k0_pay5, feed, layerNorm, mean, lin]

/-- The last layer normalisation, at an index. -/
theorem pay1_apply (v70 : FVec Ideal S256x1024 .f32) (v72 v74 : FVec Ideal S1x1024 .f32) (i : Fin 256) (j : Fin 1024) :
    k0_pay1 (F := Ideal) v70 v72 v74 (ix2 i j)
      = layerNorm (fun n => v70 (ix2 i n)) (fun n => v72 (ix2 0 n)) (fun n => v74 (ix2 0 n)) j := by
  pointwise! [k0_pay1, layerNorm, mean]

end Cert.FinishSampleIdeal.Block

end
-- ==== Proof.FinishSample.Row.lean ====
/-
  The finishing step of the sample: the step of one token, at each of its rows.
-/
module

public import proofs.«01_k».proof.Proof.Finish.Row

@[expose] public section

noncomputable section

namespace Cert.FinishSampleRow

open Cert.FinishRow Idealize.ShloMosaic

/-- The whole result: row `y 0` of the 256 is token `(y 0) % 32` of sequence `(y 0) / 32`. -/
def result (x : (⟨3, ![8, 32, 1024]⟩ : Shape).Idx → EReal) (a : (⟨3, ![8, 32, 512]⟩ : Shape).Idx → EReal)
    (r ga gr : (⟨3, ![8, 32, 1024]⟩ : Shape).Idx → EReal) (wa : (⟨2, ![512, 1024]⟩ : Shape).Idx → EReal)
    (wr wo : (⟨2, ![1024, 1024]⟩ : Shape).Idx → EReal) (g₁ b₁ : (⟨1, ![1024]⟩ : Shape).Idx → EReal)
    (wg wu : (⟨2, ![1024, 2816]⟩ : Shape).Idx → EReal) (wd : (⟨2, ![2816, 1024]⟩ : Shape).Idx → EReal)
    (g₂ b₂ : (⟨1, ![1024]⟩ : Shape).Idx → EReal) (R : Fin 256) (j : Fin 1024) : EReal :=
  have b : Fin 8 := ⟨R.val / 32, by have := R.isLt; omega⟩
  have s : Fin 32 := ⟨R.val % 32, by omega⟩
  finish (fun n => x (ix3 b s n)) (fun n => ga (ix3 b s n)) (fun n => gr (ix3 b s n)) (fun n => a (ix3 b s n)) (fun n => r (ix3 b s n))
    (fun k n => wa (ix2 k n)) (fun k n => wr (ix2 k n)) (fun k n => wo (ix2 k n)) (fun n => g₁ (ix1 n)) (fun n => b₁ (ix1 n))
    (fun k n => wg (ix2 k n)) (fun k n => wu (ix2 k n)) (fun k n => wd (ix2 k n)) (fun n => g₂ (ix1 n)) (fun n => b₂ (ix1 n)) j

end Cert.FinishSampleRow

end
-- ==== Proof.FinishSample.Array.lean ====
/-
  What the finishing kernel's result array holds after the run: `FinishRow.result` of the argument arrays.
-/
module

public import Idealize.ShloMosaic.Lib.Pipeline.ValueKit
public import proofs.«01_k».proof.Proof.FinishSample.Block
public import proofs.«01_k».proof.Proof.FinishSample.Row

@[expose] public section

set_option maxRecDepth 16384

noncomputable section

namespace Cert.FinishSampleIdeal.Array

open Cert.FinishSampleIdeal Cert.FinishSampleIdeal.Gen Cert.FinishRow Cert.FinishSampleRow Idealize.ShloMosaic Idealize.ShloMosaic.TcCoe Idealize.SL.Sem

variable (m : (ℓ : Loc nD τ sig) → Buf (Elt Ideal) ℓ) (ρ : Dev nD → PrngReg)

/-- Each window's block index at a grid point: the row windows move with the point, the others stay. -/
theorem idx : ∀ t : Fin grid0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![(grid0.coords t 0).val, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![(grid0.coords t 0).val, 0] := by
  decide +kernel

/-- What the result array is shown to hold. -/
abbrev out (c : Dev nD) : FVec Ideal S256x1024 .f32 := fun y =>
  Cert.FinishSampleRow.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (y 0) (y 1)

/-- Window 0's block at point `t`: rows of argument 0. -/
theorem blk0 (c : Dev nD) (t : Fin cfg0.N) (i : Fin 256) (n : Fin 1024) (R : Fin 256) (hR : R.val = (grid0.coords t 0).val * 256 + i.val) :
    iblk m c 0 t (ix2 i n) = m ((c : Thread nD τ).loc main_arg0) (ix3 (⟨R.val / 32, by have := R.isLt; omega⟩ : Fin 8) (⟨R.val % 32, by omega⟩ : Fin 32) n) := by
  obtain ⟨h0, h1, h2, h3, h4, -⟩ := idx t
  blk_ext! [iblk, h0, hR]

/-- Window 1's block at point `t`: rows of argument 1. -/
theorem blk1 (c : Dev nD) (t : Fin cfg0.N) (i : Fin 256) (n : Fin 512) (R : Fin 256) (hR : R.val = (grid0.coords t 0).val * 256 + i.val) :
    iblk m c 1 t (ix2 i n) = m ((c : Thread nD τ).loc main_arg1) (ix3 (⟨R.val / 32, by have := R.isLt; omega⟩ : Fin 8) (⟨R.val % 32, by omega⟩ : Fin 32) n) := by
  obtain ⟨h0, h1, h2, h3, h4, -⟩ := idx t
  blk_ext! [iblk, h1, hR]

/-- Window 2's block at point `t`: rows of argument 2. -/
theorem blk2 (c : Dev nD) (t : Fin cfg0.N) (i : Fin 256) (n : Fin 1024) (R : Fin 256) (hR : R.val = (grid0.coords t 0).val * 256 + i.val) :
    iblk m c 2 t (ix2 i n) = m ((c : Thread nD τ).loc main_arg2) (ix3 (⟨R.val / 32, by have := R.isLt; omega⟩ : Fin 8) (⟨R.val % 32, by omega⟩ : Fin 32) n) := by
  obtain ⟨h0, h1, h2, h3, h4, -⟩ := idx t
  blk_ext! [iblk, h2, hR]

/-- Window 3's block at point `t`: rows of argument 3. -/
theorem blk3 (c : Dev nD) (t : Fin cfg0.N) (i : Fin 256) (n : Fin 1024) (R : Fin 256) (hR : R.val = (grid0.coords t 0).val * 256 + i.val) :
    iblk m c 3 t (ix2 i n) = m ((c : Thread nD τ).loc main_arg3) (ix3 (⟨R.val / 32, by have := R.isLt; omega⟩ : Fin 8) (⟨R.val % 32, by omega⟩ : Fin 32) n) := by
  obtain ⟨h0, h1, h2, h3, h4, -⟩ := idx t
  blk_ext! [iblk, h3, hR]

/-- Window 4's block at point `t`: rows of argument 4. -/
theorem blk4 (c : Dev nD) (t : Fin cfg0.N) (i : Fin 256) (n : Fin 1024) (R : Fin 256) (hR : R.val = (grid0.coords t 0).val * 256 + i.val) :
    iblk m c 4 t (ix2 i n) = m ((c : Thread nD τ).loc main_arg4) (ix3 (⟨R.val / 32, by have := R.isLt; omega⟩ : Fin 8) (⟨R.val % 32, by omega⟩ : Fin 32) n) := by
  obtain ⟨h0, h1, h2, h3, h4, -⟩ := idx t
  blk_ext! [iblk, h4, hR]

/-- Window 5's block: argument 5, whole. -/
theorem blk5 (c : Dev nD) (t : Fin cfg0.N) (k : Fin 512) (n : Fin 1024) :
    iblk m c 5 t (ix2 k n) = m ((c : Thread nD τ).loc main_arg5) (ix2 k n) := by
  have h := (idx t).2.2.2.2.2.1
  blk_ext [iblk, V, h]

/-- Window 6's block: argument 6, whole. -/
theorem blk6 (c : Dev nD) (t : Fin cfg0.N) (k : Fin 1024) (n : Fin 1024) :
    iblk m c 6 t (ix2 k n) = m ((c : Thread nD τ).loc main_arg6) (ix2 k n) := by
  have h := (idx t).2.2.2.2.2.2.1
  blk_ext [iblk, V, h]

/-- Window 7's block: argument 7, whole. -/
theorem blk7 (c : Dev nD) (t : Fin cfg0.N) (k : Fin 1024) (n : Fin 1024) :
    iblk m c 7 t (ix2 k n) = m ((c : Thread nD τ).loc main_arg7) (ix2 k n) := by
  have h := (idx t).2.2.2.2.2.2.2.1
  blk_ext [iblk, V, h]

/-- Window 10's block: argument 10, whole. -/
theorem blk10 (c : Dev nD) (t : Fin cfg0.N) (k : Fin 1024) (n : Fin 2816) :
    iblk m c 10 t (ix2 k n) = m ((c : Thread nD τ).loc main_arg10) (ix2 k n) := by
  have h := (idx t).2.2.2.2.2.2.2.2.2.2.1
  blk_ext [iblk, V, h]

/-- Window 11's block: argument 11, whole. -/
theorem blk11 (c : Dev nD) (t : Fin cfg0.N) (k : Fin 1024) (n : Fin 2816) :
    iblk m c 11 t (ix2 k n) = m ((c : Thread nD τ).loc main_arg11) (ix2 k n) := by
  have h := (idx t).2.2.2.2.2.2.2.2.2.2.2.1
  blk_ext [iblk, V, h]

/-- Window 12's block: argument 12, whole. -/
theorem blk12 (c : Dev nD) (t : Fin cfg0.N) (k : Fin 2816) (n : Fin 1024) :
    iblk m c 12 t (ix2 k n) = m ((c : Thread nD τ).loc main_arg12) (ix2 k n) := by
  have h := (idx t).2.2.2.2.2.2.2.2.2.2.2.2.1
  blk_ext [iblk, V, h]

/-- Window 8's block: argument 8 as one row. -/
theorem blk8 (c : Dev nD) (t : Fin cfg0.N) (n : Fin 1024) :
    iblk m c 8 t (ix2 0 n) = m ((c : Thread nD τ).loc main_arg8) (ix1 n) := by
  have h := (idx t).2.2.2.2.2.2.2.2.1
  blk_ext! [iblk, h]

/-- Window 9's block: argument 9 as one row. -/
theorem blk9 (c : Dev nD) (t : Fin cfg0.N) (n : Fin 1024) :
    iblk m c 9 t (ix2 0 n) = m ((c : Thread nD τ).loc main_arg9) (ix1 n) := by
  have h := (idx t).2.2.2.2.2.2.2.2.2.1
  blk_ext! [iblk, h]

/-- Window 13's block: argument 13 as one row. -/
theorem blk13 (c : Dev nD) (t : Fin cfg0.N) (n : Fin 1024) :
    iblk m c 13 t (ix2 0 n) = m ((c : Thread nD τ).loc main_arg13) (ix1 n) := by
  have h := (idx t).2.2.2.2.2.2.2.2.2.2.2.2.2.1
  blk_ext! [iblk, h]

/-- Window 14's block: argument 14 as one row. -/
theorem blk14 (c : Dev nD) (t : Fin cfg0.N) (n : Fin 1024) :
    iblk m c 14 t (ix2 0 n) = m ((c : Thread nD τ).loc main_arg14) (ix1 n) := by
  have h := (idx t).2.2.2.2.2.2.2.2.2.2.2.2.2.2.1
  blk_ext! [iblk, h]

/-- The result array after the run. -/
theorem final (c : Dev nD) : (dats m 0 c).arrAt 15 cfg0.N = out m c := by
  refine (dats m 0 c).arrAt_eq_of_covers 15 _ (by decide +kernel) fun t hf y => ?_
  have h15 := (idx t).2.2.2.2.2.2.2.2.2.2.2.2.2.2.2
  have hR : ∀ y : S256x1024.Idx, ((((cfg0.win 15).blk t).view.emb y : S256x1024.Idx) 0).val = (grid0.coords t 0).val * 256 + (y 0).val := by
    intro y; blk_simp [h15]
  have hj : ∀ y : S256x1024.Idx, ((((cfg0.win 15).blk t).view.emb y : S256x1024.Idx) 1).val = (y 1).val := by
    intro y; blk_simp [h15]
  replace hR := hR y
  replace hj := hj y
  generalize (((cfg0.win 15).blk t).view.emb y : S256x1024.Idx) = Y at hR hj ⊢
  blk_simp
  rw [after0_15]
  frame_out
  idx_vars y
  rw [Block.pay1_apply]
  simp only [Block.pay5_apply, Block.pay2_apply]
  pointwise [k0_pay3, k0_pay4, k0_pay6, k0_pay7]
  replace hj : Y 1 = y1 := Fin.ext hj
  unfold out Cert.FinishSampleRow.result finish
  rw [hj]
  simp only [blk0 m c t y0 _ _ hR, blk1 m c t y0 _ _ hR, blk2 m c t y0 _ _ hR, blk3 m c t y0 _ _ hR, blk4 m c t y0 _ _ hR,
    blk5, blk6, blk7, blk8, blk9, blk10, blk11, blk12, blk13, blk14]

end Cert.FinishSampleIdeal.Array

end
-- ==== Proof.FinishSample.Reference.lean ====
/-
  What the finishing reference of the sample computes, token by token: `FinishSampleRow.result` of its arguments.
-/
module

public import proofs.«01_k».proof.Proof.Gen.FinishSampleRefIdeal.Run
public import proofs.«01_k».proof.Proof.FinishSample.Row
public import Idealize.ShloMosaic.Lib.Claim
public import Idealize.ShloMosaic.Lib.Tactic.CleanTypes

@[expose] public section

set_option maxRecDepth 16384

noncomputable section

namespace Cert.FinishSampleRefIdeal.Rows

open Cert.FinishSampleRefIdeal Cert.FinishSampleRefIdeal.Value Cert.FinishRow Idealize.ShloMosaic Idealize.ShloMosaic.TcCoe Idealize.ShloMosaic.StableHlo Idealize.SL.Sem

/-- Argument 0 of the reference, from its buffer. -/
abbrev x0 (V0 : Valuation τ sig (Elt Ideal)) : FVec Ideal S8x32x1024 .f32 := V0 (Proc.devRef .tc main_arg0)
/-- Argument 1 of the reference, from its buffer. -/
abbrev x1 (V0 : Valuation τ sig (Elt Ideal)) : FVec Ideal S8x32x512 .bf16 := V0 (Proc.devRef .tc main_arg1)
/-- Argument 2 of the reference, from its buffer. -/
abbrev x2 (V0 : Valuation τ sig (Elt Ideal)) : FVec Ideal S8x32x1024 .bf16 := V0 (Proc.devRef .tc main_arg2)
/-- Argument 3 of the reference, from its buffer. -/
abbrev x3 (V0 : Valuation τ sig (Elt Ideal)) : FVec Ideal S8x32x1024 .bf16 := V0 (Proc.devRef .tc main_arg3)
/-- Argument 4 of the reference, from its buffer. -/
abbrev x4 (V0 : Valuation τ sig (Elt Ideal)) : FVec Ideal S8x32x1024 .bf16 := V0 (Proc.devRef .tc main_arg4)
/-- Argument 5 of the reference, from its buffer. -/
abbrev x5 (V0 : Valuation τ sig (Elt Ideal)) : FVec Ideal S512x1024 .f32 := V0 (Proc.devRef .tc main_arg5)
/-- Argument 6 of the reference, from its buffer. -/
abbrev x6 (V0 : Valuation τ sig (Elt Ideal)) : FVec Ideal S1024x1024 .f32 := V0 (Proc.devRef .tc main_arg6)
/-- Argument 7 of the reference, from its buffer. -/
abbrev x7 (V0 : Valuation τ sig (Elt Ideal)) : FVec Ideal S1024x1024 .f32 := V0 (Proc.devRef .tc main_arg7)
/-- Argument 8 of the reference, from its buffer. -/
abbrev x8 (V0 : Valuation τ sig (Elt Ideal)) : FVec Ideal S1024 .f32 := V0 (Proc.devRef .tc main_arg8)
/-- Argument 9 of the reference, from its buffer. -/
abbrev x9 (V0 : Valuation τ sig (Elt Ideal)) : FVec Ideal S1024 .f32 := V0 (Proc.devRef .tc main_arg9)
/-- Argument 10 of the reference, from its buffer. -/
abbrev x10 (V0 : Valuation τ sig (Elt Ideal)) : FVec Ideal S1024x2816 .f32 := V0 (Proc.devRef .tc main_arg10)
/-- Argument 11 of the reference, from its buffer. -/
abbrev x11 (V0 : Valuation τ sig (Elt Ideal)) : FVec Ideal S1024x2816 .f32 := V0 (Proc.devRef .tc main_arg11)
/-- Argument 12 of the reference, from its buffer. -/
abbrev x12 (V0 : Valuation τ sig (Elt Ideal)) : FVec Ideal S2816x1024 .f32 := V0 (Proc.devRef .tc main_arg12)
/-- Argument 13 of the reference, from its buffer. -/
abbrev x13 (V0 : Valuation τ sig (Elt Ideal)) : FVec Ideal S1024 .f32 := V0 (Proc.devRef .tc main_arg13)
/-- Argument 14 of the reference, from its buffer. -/
abbrev x14 (V0 : Valuation τ sig (Elt Ideal)) : FVec Ideal S1024 .f32 := V0 (Proc.devRef .tc main_arg14)

variable (V0 : Valuation τ sig (Elt Ideal))

/-- The merge of the two branches, at an index. -/
theorem v24_apply (b : Fin 8) (s : Fin 32) (j : Fin 1024) :
    (res_main_v24 V0 : FVec Ideal S8x32x1024 .f32) (ix3 b s j)
      = merged (fun n => x0 V0 (ix3 b s n)) (fun n => x3 V0 (ix3 b s n)) (fun n => x4 V0 (ix3 b s n)) (fun n => x1 V0 (ix3 b s n)) (fun n => x2 V0 (ix3 b s n)) (fun k n => x5 V0 (ix2 k n)) (fun k n => x6 V0 (ix2 k n)) (fun k n => x7 V0 (ix2 k n)) j := by
  unfold res_main_v24
  clean_types
  pointwise! [merged, lin]

/-- The first layer normalisation, at an index, over the merge. -/
theorem v48_apply (b : Fin 8) (s : Fin 32) (j : Fin 1024) :
    (res_main_v48 V0 : FVec Ideal S8x32x1024 .f32) (ix3 b s j)
      = layerNorm (fun n => (res_main_v24 V0 : FVec Ideal S8x32x1024 .f32) (ix3 b s n)) (fun n => x8 V0 (ix1 n)) (fun n => x9 V0 (ix1 n)) j := by
  unfold res_main_v48 res_main_v30 res_main_v28
  clean_types
  pointwise! [layerNorm, mean]

/-- The feed-forward step, at an index, over the normalised row. -/
theorem v56_apply (b : Fin 8) (s : Fin 32) (j : Fin 1024) :
    (res_main_v56 V0 : FVec Ideal S8x32x1024 .f32) (ix3 b s j)
      = feed (fun n => (res_main_v48 V0 : FVec Ideal S8x32x1024 .f32) (ix3 b s n)) (fun k n => x10 V0 (ix2 k n)) (fun k n => x11 V0 (ix2 k n)) (fun k n => x12 V0 (ix2 k n)) j := by
  unfold res_main_v56 res_main_v49
  clean_types
  pointwise! [feed, lin]

/-- What the reference's result array holds, as a function of the arguments. -/
abbrev out (m : (ℓ : Loc nD τ sig) → Buf (Elt Ideal) ℓ) (c : Dev nD) : FVec Ideal S256x1024 .f32 := fun y =>
  Cert.FinishSampleRow.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (y 0) (y 1)

/-- The run of the reference: its result is `FinishSampleRow.result` of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v81) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun _ h c => ⟨(h c).1.trans ?_, (h c).2⟩) (Value.run (F := Ideal) m ρ)
  have e : ∀ b s, (fun n => (res_main_v24 (launchContents m c) : FVec Ideal S8x32x1024 .f32) (ix3 b s n)) = _ :=
    fun b s => funext fun n => v24_apply (launchContents m c) b s n
  have e' : ∀ b s, (fun n => (res_main_v48 (launchContents m c) : FVec Ideal S8x32x1024 .f32) (ix3 b s n)) = _ :=
    fun b s => funext fun n => (v48_apply (launchContents m c) b s n).trans (by rw [e])
  have e'' : ∀ b s n, (res_main_v56 (launchContents m c) : FVec Ideal S8x32x1024 .f32) (ix3 b s n) = _ :=
    fun b s n => (v56_apply (launchContents m c) b s n).trans (by rw [e'])
  funext y
  unfold res_main_v62 res_main_v60
  unfold out Cert.FinishSampleRow.result finish
  clean_types
  idx_vars y
  pointwise [layerNorm, mean]
  simp only [e'']

end Cert.FinishSampleRefIdeal.Rows

end
-- ==== Proof.FinishSample.Claims.lean ====
/-
  The claims about the finishing step of the sample: its frames, and that kernel and reference return the same array.
-/
module

public import proofs.«01_k».proof.Defs
public import proofs.«01_k».proof.Proof.Gen.FinishSample.Frame
public import proofs.«01_k».proof.Proof.FinishSample.Array
public import proofs.«01_k».proof.Proof.FinishSample.Reference

@[expose] public section

set_option maxRecDepth 16384

noncomputable section

namespace Cert.Proof.FinishSampleClaims

open Idealize.ShloMosaic Idealize.SL.Sem

/-- The kernel runs safely, terminates and leaves its arguments and counters as they were, over bits. -/
theorem frameP : Cert.quiescent_FinishSample := fun m ρ _ => Cert.FinishSample.Gen.frame m ρ
/-- The same over the extended reals. -/
theorem framePI : Cert.quiescent_FinishSampleIdeal := fun m ρ _ => Cert.FinishSampleIdeal.Gen.frame m ρ
/-- The reference runs, terminates and leaves its arguments as they were. -/
theorem frameRI : Cert.quiescent_FinishSampleRefIdeal := fun m ρ _ =>
  (θ_run Cert.FinishSampleRefIdeal.defs _ _).mono (fun r h => ⟨fun c => (h c).2, sem_eq_zero_of_no_sems (by decide) r.2⟩)
    (Cert.FinishSampleRefIdeal.Value.run (F := Ideal) m ρ)
/-- The program over the extended reals is the program over bits, operation by operation. -/
theorem preserves : Cert.preserves_FinishSample_FinishSampleIdeal := trivial

/-- Over the extended reals the finishing kernel, called for the sample, returns exactly what its reference returns. -/
theorem algebraic : Cert.algebraic_FinishSampleIdeal_FinishSampleRefIdeal := by
  intro m ρ m' ρ' _ hagree
  refine ⟨fun c => Cert.FinishSampleIdeal.Array.out m c, ?_, ?_⟩
  · exact (θ_run Cert.FinishSampleIdeal.defs _ _).mono (fun _ h c => ⟨(h c).1.trans (Cert.FinishSampleIdeal.Array.final m c), (h c).2⟩)
      (Cert.FinishSampleIdeal.Value.run_blocks (F := Ideal) m ρ)
  refine (θ_run Cert.FinishSampleRefIdeal.defs _ _).mono (fun _ h c => ⟨(h c).1.trans ?_, (h c).2⟩) (Cert.FinishSampleRefIdeal.Rows.run m' ρ')
  obtain ⟨h0, h1, h2, h3, h4, h5, h6, h7, h8, h9, h10, h11, h12, h13, h14⟩ := hagree c
  unfold Cert.FinishSampleRefIdeal.Rows.out Cert.FinishSampleIdeal.Array.out
  rw [h0, h1, h2, h3, h4, h5, h6, h7, h8, h9, h10, h11, h12, h13, h14]

end Cert.Proof.FinishSampleClaims

end
-- ==== Proof.ProjSample.Run.lean ====
/-
  The run of the sample's projection kernel: the three results it returns are the arrays its output windows leave, and its arguments are as launched.
-/
module

public import proofs.«01_k».proof.Proof.Gen.ProjSampleIdeal.Frame
public import Idealize.ShloMosaic.Lib.Pipeline.Value

@[expose] public section

noncomputable section

namespace Cert.ProjSampleIdeal.Runs

open Cert.ProjSampleIdeal Cert.ProjSampleIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- After the run the keys, values and index keys are what output windows 7, 9 and 12 leave, and the four arguments are unchanged. -/
theorem results : θ_run defs (onTc (τ := τ) (main (F := F))) ⟨m, fun _ => 0, ρ⟩ fun r => ∀ c : Dev nD,
    (r.2.mem ((c : Thread nD τ).loc main_v60_1) = (dats m 0 c).arrAt 7 cfg0.N
      ∧ r.2.mem ((c : Thread nD τ).loc main_v60_3) = (dats m 0 c).arrAt 9 cfg0.N
      ∧ r.2.mem ((c : Thread nD τ).loc main_v60_6) = (dats m 0 c).arrAt 12 cfg0.N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) := by
  refine (θ_run defs _ _).mono (fun r h c => ?_) (run_main m ρ)
  have outs := (h c).1
  have rest := (h c).2
  exact ⟨⟨outs 7, outs 9, outs 12⟩,
    (rest main_arg0 (Pipeline.mem_restRefs_of main_arg0 (by decide) (by decide))).trans (V_main_arg0 m c),
    (rest main_arg1 (Pipeline.mem_restRefs_of main_arg1 (by decide) (by decide))).trans (V_main_arg1 m c),
    (rest main_arg2 (Pipeline.mem_restRefs_of main_arg2 (by decide) (by decide))).trans (V_main_arg2 m c),
    (rest main_arg3 (Pipeline.mem_restRefs_of main_arg3 (by decide) (by decide))).trans (V_main_arg3 m c)⟩

end Cert.ProjSampleIdeal.Runs

end
-- ==== Proof.ProjSample.Row.lean ====
/-
  What the projection of the sample computes for one token, written once for the kernel and its reference.

  A row `R` of the 256 is token `R % 32` of sequence `R / 32`; `col` is the product of its activations with one
  column of the input projection.
-/
module

public import proofs.«01_k».proof.Proof.Proj.Row

@[expose] public section

noncomputable section

namespace Cert.ProjSampleRow

open Idealize.ShloMosaic
open Cert.ProjRow (C mean layerNorm)

variable (x : (⟨3, ![8, 32, 1024]⟩ : Shape).Idx → EReal) (w : (⟨2, ![1024, 6980]⟩ : Shape).Idx → EReal)

/-- The sequence of a row. -/
abbrev seq (R : Fin 256) : Fin 8 := ⟨R.val / 32, by have := R.isLt; omega⟩
/-- The position of a row in its sequence. -/
abbrev pos (R : Fin 256) : Fin 32 := ⟨R.val % 32, by omega⟩

/-- Row `R` of the activations times column `n` of the projection. -/
def col (R : Fin 256) (n : Fin 6980) : EReal := ∑ k : Fin 1024, x (ix3 (seq R) (pos R) k) * w (ix2 k n)

/-- The indexer key of a row. -/
def idxKey (g b : (⟨1, ![64]⟩ : Shape).Idx → EReal) (R : Fin 256) (j : Fin 64) : EReal :=
  layerNorm (fun n => col x w R (C (1792 + n.val) (by have := n.isLt; omega))) (fun n => g (ix1 n)) (fun n => b (ix1 n)) j

/-- 512 columns from `off`, of every row, as eight heads of 64. -/
def heads (off : ℕ) (h : off + 512 ≤ 6980) (y : (⟨3, ![256, 8, 64]⟩ : Shape).Idx) : EReal :=
  col x w (y 0) ⟨off + ((y 1).val * 64 + (y 2).val), by have : (y 1).val < 8 := (y 1).isLt; have : (y 2).val < 64 := (y 2).isLt; omega⟩

/-- The normalised index keys of every row. -/
def idxKeys (g b : (⟨1, ![64]⟩ : Shape).Idx → EReal) (y : (⟨2, ![256, 64]⟩ : Shape).Idx) : EReal := idxKey x w g b (y 0) (y 1)

end Cert.ProjSampleRow

end
-- ==== Proof.ProjSample.Block.lean ====
/-
  What one grid point of the projection kernel's call for the sample computes from its blocks, at an index.
-/
module

public import proofs.«01_k».proof.Proof.Gen.ProjSampleIdeal.Skeleton
public import Idealize.ShloMosaic.Lib.Pointwise
public import proofs.«01_k».proof.Proof.Proj.Block
public import proofs.«01_k».proof.Proof.ProjSample.Row

@[expose] public section

set_option maxRecDepth 16384

noncomputable section

namespace Cert.ProjSampleIdeal.Block

open Cert.ProjRow (C mean layerNorm)
open Cert.ProjSampleIdeal Cert.ProjSampleIdeal.Gen Cert.ProjSampleRow Idealize.ShloMosaic Idealize.ShloMosaic.TcCoe Idealize.SL.Sem

/-- The keys at an index. -/
theorem pay4_apply (v0 : Vec Ideal S256x1024 .f32) (v10 : Vec Ideal S1024x512 .bf16) (i : Fin 256) (h : Fin 8) (d : Fin 64) :
    k0_pay4 (F := Ideal) v0 v10 (ix3 i h d) = ∑ k : Fin 1024, v0 (ix2 i k) * v10 (ix2 k ⟨h.val * 64 + d.val, by omega⟩) := by
  pointwise! [k0_pay4, k0_pay3, k0_pay1]

/-- The values at an index. -/
theorem pay7_apply (v0 : Vec Ideal S256x1024 .f32) (v17 : Vec Ideal S1024x512 .bf16) (i : Fin 256) (h : Fin 8) (d : Fin 64) :
    k0_pay7 (F := Ideal) v0 v17 (ix3 i h d) = ∑ k : Fin 1024, v0 (ix2 i k) * v17 (ix2 k ⟨h.val * 64 + d.val, by omega⟩) := by
  pointwise! [k0_pay7, k0_pay6, k0_pay1]

/-- The index key and weights at an index. -/
theorem pay11_apply (v2 : Vec Ideal S256x1024 .bf16) (v100 : Vec Ideal S1024x128 .bf16) (i : Fin 256) (n : Fin 128) :
    k0_pay11 (F := Ideal) v2 v100 (ix2 i n) = ∑ k : Fin 1024, v2 (ix2 i k) * v100 (ix2 k n) := by
  pointwise! [k0_pay11]

/-- The normalised index key at an index. -/
theorem pay13_apply (v2 : Vec Ideal S256x1024 .bf16) (w : Vec Ideal S1024x128 .bf16) (g b : Vec Ideal S1x128 .f32) (i : Fin 256) (j : Fin 64) :
    k0_pay13 (F := Ideal) v2 w g b (ix2 i j)
      = layerNorm (fun n => k0_pay11 (F := Ideal) v2 w (ix2 i ⟨n.val, by omega⟩)) (fun n => g (ix2 0 ⟨n.val, by omega⟩)) (fun n => b (ix2 0 ⟨n.val, by omega⟩)) j := by
  pointwise [k0_pay13, k0_pay12]
  unfold layerNorm mean
  simp only [Cert.ProjIdeal.Block.masked_sum, Cert.ProjIdeal.Block.div_64]

end Cert.ProjSampleIdeal.Block

end
-- ==== Proof.ProjSample.Left.lean ====
/-
  What the body of the projection kernel's call for the sample leaves in each output's buffer at a grid point.
-/
module

public import Idealize.ShloMosaic.Lib.Pipeline.ValueKit
public import proofs.«01_k».proof.Proof.Gen.ProjSampleIdeal.Frame
public import proofs.«01_k».proof.Proof.ProjSample.Block

@[expose] public section

set_option maxRecDepth 16384

noncomputable section

namespace Cert.ProjSampleIdeal.Left

open Cert.ProjRow (C mean layerNorm)
open Cert.ProjSampleIdeal Cert.ProjSampleIdeal.Gen Idealize.ShloMosaic Idealize.ShloMosaic.TcCoe Idealize.SL.Sem

variable (m : (ℓ : Loc nD τ sig) → Buf (Elt Ideal) ℓ) (ρ : Dev nD → PrngReg)

/-- The columns of the kernel from `off`, loaded. -/
abbrev part (c : Dev nD) (t : Fin cfg0.N) (off N : ℕ) (inb : ∀ a : Fin 2, (![0, off] : Fin 2 → ℕ) a + (![1024, N] : Fin 2 → ℕ) a ≤ S1024x7040.size a) :
    Vec Ideal ⟨2, ![1024, N]⟩ .bf16 := View.ld (iblk m c 1 t) (Rect.unit (s := S1024x7040) ![0, off] ![1024, N] inb)

/-- Output 7: the attention's keys. -/
theorem left7 (c : Dev nD) (t : Fin cfg0.N) : (dats m 0 c).after 7 t = k0_pay4 (iblk m c 0 t) (part m c t 512 512 inb_S1024x7040_S1024x512_0_512) := by
  rw [after0_7]
  frame_out
  rfl

/-- Output 9: the attention's values. -/
theorem left9 (c : Dev nD) (t : Fin cfg0.N) : (dats m 0 c).after 9 t = k0_pay7 (iblk m c 0 t) (part m c t 1024 512 inb_S1024x7040_S1024x512_0_1024) := by
  rw [after0_9]
  frame_out
  rfl

/-- Output 12: the index keys. -/
theorem left12 (c : Dev nD) (t : Fin cfg0.N) : (dats m 0 c).after 12 t = k0_pay13 (k0_pay1 (iblk m c 0 t)) (part m c t 1792 128 inb_S1024x7040_S1024x128_0_1792) (iblk m c 4 t) (iblk m c 5 t) := by
  rw [after0_12]
  unfold out0_12 k0_pay35
  frame_out
  rfl

end Cert.ProjSampleIdeal.Left

end
-- ==== Proof.ProjSample.Tables.lean ====
/-
  The tables that the host lays out for the projection kernel's call for the sample: its rows, the padded gain and bias.
-/
module

public import Idealize.ShloMosaic.Lib.Pipeline.ValueKit
public import Idealize.ShloMosaic.Lib.ValueIdxCore
public import Idealize.ShloMosaic.Lib.StableHlo.ReadAt
public import proofs.«01_k».proof.Proof.Gen.ProjSampleIdeal.Frame
public import proofs.«01_k».proof.Proof.ProjSample.Row

@[expose] public section

set_option maxRecDepth 16384

noncomputable section

namespace Cert.ProjSampleIdeal.Tables

open Cert.ProjRow (C mean layerNorm)
open Cert.ProjSampleIdeal Cert.ProjSampleIdeal.Gen Cert.ProjSampleRow Idealize.ShloMosaic Idealize.ShloMosaic.TcCoe Idealize.SL.Sem

variable (m : (ℓ : Loc nD τ sig) → Buf (Elt Ideal) ℓ)

/-- The host's rows of the activations. -/
theorem host33 (c : Dev nD) (R : Fin 256) (n : Fin 1024) :
    (V m c main_v33 : FVec Ideal S256x1024 .f32) (ix2 R n) = m ((c : Thread nD τ).loc main_arg0) (ix3 (seq R) (pos R) n) := by
  unfold V
  after_reads_at

/-- The host's padded gain. -/
theorem host1 (c : Dev nD) (n : Fin 128) (hn : n.val < 64) :
    (V m c main_v1 : FVec Ideal S1x128 .f32) (ix2 0 n) = m ((c : Thread nD τ).loc main_arg2) (ix1 ⟨n.val, hn⟩) := by
  unfold V
  after_reads_at
  rw [dif_pos hn]

/-- The host's padded bias. -/
theorem host3 (c : Dev nD) (n : Fin 128) (hn : n.val < 64) :
    (V m c main_v3 : FVec Ideal S1x128 .f32) (ix2 0 n) = m ((c : Thread nD τ).loc main_arg3) (ix1 ⟨n.val, hn⟩) := by
  unfold V
  after_reads_at
  rw [dif_pos hn]

end Cert.ProjSampleIdeal.Tables

end
-- ==== Proof.ProjSample.Weights.lean ====
/-
  The input projection's columns as the host lays them out for the kernel.
-/
module

public import Idealize.ShloMosaic.Lib.Pipeline.ValueKit
public import Idealize.ShloMosaic.Lib.ValueIdxCore
public import Idealize.ShloMosaic.Lib.StableHlo.ReadAt
public import proofs.«01_k».proof.Proof.Gen.ProjSampleIdeal.Frame
public import proofs.«01_k».proof.Proof.ProjSample.Row

@[expose] public section

set_option maxRecDepth 16384

noncomputable section

namespace Cert.ProjSampleIdeal.Weights

open Cert.ProjRow (C mean layerNorm)
open Cert.ProjSampleIdeal Cert.ProjSampleIdeal.Gen Cert.ProjSampleRow Idealize.ShloMosaic Idealize.ShloMosaic.TcCoe Idealize.SL.Sem

variable (m : (ℓ : Loc nD τ sig) → Buf (Elt Ideal) ℓ)

/-- Two columns of the same number are the same. -/
theorem at_col (w : FVec Ideal S1024x6980 .f32) (k : Fin 1024) (i j : Fin 6980) (h : i.val = j.val) :
    w (ix2 k i) = w (ix2 k j) := by
  rw [Fin.ext h]

/-- What the host's arrays hold before the columns are joined. -/
abbrev U (c : Dev nD) :=
  StableHlo.upto [hostOps0, hostOps0_1, hostOps0_2, hostOps0_3, hostOps0_4, hostOps0_5, hostOps0_6].flatten (fun b => m (c, b)) 72

/-- A piece of the columns: 512 of them from 0. -/
theorem piece26 (c : Dev nD) (k : Fin 1024) (n : Fin 512) :
    (U m c (Proc.tc.devRef main_v34) : FVec Ideal S1024x512 .f32) (ix2 k n) = m ((c : Thread nD τ).loc main_arg1) (ix2 k (C (0 + n.val) (by omega))) := by
  unfold U
  after_reads_at
/-- A piece of the columns: 512 of them from 512. -/
theorem piece27 (c : Dev nD) (k : Fin 1024) (n : Fin 512) :
    (U m c (Proc.tc.devRef main_v35) : FVec Ideal S1024x512 .f32) (ix2 k n) = m ((c : Thread nD τ).loc main_arg1) (ix2 k (C (512 + n.val) (by omega))) := by
  unfold U
  after_reads_at
/-- A piece of the columns: 512 of them from 1024. -/
theorem piece28 (c : Dev nD) (k : Fin 1024) (n : Fin 512) :
    (U m c (Proc.tc.devRef main_v36) : FVec Ideal S1024x512 .f32) (ix2 k n) = m ((c : Thread nD τ).loc main_arg1) (ix2 k (C (1024 + n.val) (by omega))) := by
  unfold U
  after_reads_at
/-- A piece of the columns: 256 of them from 1536. -/
theorem piece29 (c : Dev nD) (k : Fin 1024) (n : Fin 256) :
    (U m c (Proc.tc.devRef main_v37) : FVec Ideal S1024x256 .f32) (ix2 k n) = m ((c : Thread nD τ).loc main_arg1) (ix2 k (C (1536 + n.val) (by omega))) := by
  unfold U
  after_reads_at
/-- The columns of the index key, before the index weights are joined to them. -/
theorem piece30 (c : Dev nD) (k : Fin 1024) (n : Fin 64) :
    (StableHlo.upto [hostOps0, hostOps0_1, hostOps0_2, hostOps0_3, hostOps0_4, hostOps0_5, hostOps0_6].flatten (fun b => m (c, b)) 56
      (Proc.tc.devRef main_v38) : FVec Ideal S1024x64 .f32) (ix2 k n)
      = m ((c : Thread nD τ).loc main_arg1) (ix2 k (C (1792 + n.val) (by omega))) := by
  after_reads_at

/-- The columns of the index weights, before they are joined to the index key's. -/
theorem piece31 (c : Dev nD) (k : Fin 1024) (n : Fin 4) :
    (StableHlo.upto [hostOps0, hostOps0_1, hostOps0_2, hostOps0_3, hostOps0_4, hostOps0_5, hostOps0_6].flatten (fun b => m (c, b)) 56
      (Proc.tc.devRef main_v39) : FVec Ideal S1024x4 .f32) (ix2 k n)
      = m ((c : Thread nD τ).loc main_arg1) (ix2 k (C (1856 + n.val) (by omega))) := by
  after_reads_at

/-- A piece of the columns: the index key and the index weights, padded to a width of 128. -/
theorem piece39 (c : Dev nD) (k : Fin 1024) (n : Fin 128) :
    (U m c (Proc.tc.devRef main_v47) : FVec Ideal S1024x128 .f32) (ix2 k n)
      = if h : n.val < 68 then (m ((c : Thread nD τ).loc main_arg1) : FVec Ideal S1024x6980 .f32) (ix2 k (C (1792 + n.val) (by omega)))
        else FloatOps.sitofp (F := Ideal) .f32 0#32 := by
  unfold U
  after_reads_at
  by_cases h : n.val < 68
  · rw [dif_pos h, dif_pos h]
    by_cases h' : n.val < 64
    · rw [dif_pos h']
      exact piece30 m c k _
    · rw [dif_neg h']
      exact (piece31 m c k _).trans (at_col _ k _ _ (by dsimp only; omega))
  · rw [dif_neg h, dif_neg h]

/-- The kernel's columns of the keys, the values, the queries, the index key and the index weights are the projection's. -/
theorem head (c : Dev nD) (k : Fin 1024) (n : Fin 7040) (hn : n.val < 1860) :
    (V m c main_v59 : FVec Ideal S1024x7040 .bf16) (ix2 k n) = m ((c : Thread nD τ).loc main_arg1) (ix2 k (C n.val (by omega))) := by
  unfold V
  after_reads_at
  by_cases h0 : n.val < 512
  · rw [dif_pos h0]
    exact (piece26 m c k _).trans (at_col _ k _ _ (by dsimp only; omega))
  rw [dif_neg h0]
  by_cases h1 : n.val - 512 < 512
  · rw [dif_pos h1]
    exact (piece27 m c k _).trans (at_col _ k _ _ (by dsimp only; omega))
  rw [dif_neg h1]
  by_cases h2 : n.val - 512 - 512 < 512
  · rw [dif_pos h2]
    exact (piece28 m c k _).trans (at_col _ k _ _ (by dsimp only; omega))
  rw [dif_neg h2]
  by_cases h3 : n.val - 512 - 512 - 512 < 256
  · rw [dif_pos h3]
    exact (piece29 m c k _).trans (at_col _ k _ _ (by dsimp only; omega))
  rw [dif_neg h3, dif_pos (by omega)]
  refine (piece39 m c k _).trans ?_
  rw [dif_pos (by dsimp only; omega)]
  exact at_col _ k _ _ (by dsimp only; omega)

/-- The kernel's columns after the index weights are zero. -/
theorem padding (c : Dev nD) (k : Fin 1024) (n : Fin 7040) (h : 1860 ≤ n.val) (h' : n.val < 1920) :
    (V m c main_v59 : FVec Ideal S1024x7040 .bf16) (ix2 k n) = FloatOps.sitofp (F := Ideal) .f32 0#32 := by
  unfold V
  after_reads_at
  rw [dif_neg (by omega)]
  rw [dif_neg (by omega)]
  rw [dif_neg (by omega)]
  rw [dif_neg (by omega)]
  rw [dif_pos (by omega)]
  refine (piece39 m c k _).trans ?_
  rw [dif_neg (by dsimp only; omega)]

end Cert.ProjSampleIdeal.Weights

end
-- ==== Proof.ProjSample.Blocks.lean ====
/-
  What the projection kernel's call for the sample's windows hold at a grid point, in terms of its arguments.
-/
module

public import proofs.«01_k».proof.Proof.ProjSample.Tables
public import proofs.«01_k».proof.Proof.ProjSample.Weights

@[expose] public section

set_option maxRecDepth 16384

noncomputable section

namespace Cert.ProjSampleIdeal.Blocks

open Cert.ProjRow (C mean layerNorm)
open Cert.ProjSampleIdeal Cert.ProjSampleIdeal.Gen Cert.ProjSampleRow Idealize.ShloMosaic Idealize.ShloMosaic.TcCoe Idealize.SL.Sem

variable (m : (ℓ : Loc nD τ sig) → Buf (Elt Ideal) ℓ)

/-- Each input window's block index at a grid point. -/
theorem idx : ∀ t : Fin grid0.N, win0_0.index t = ![(grid0.coords t 0).val, 0] ∧ win0_1.index t = ![0, 0]
    ∧ win0_2.index t = ![0, 0] ∧ win0_3.index t = ![0, 0]
    ∧ win0_4.index t = ![0, 0] ∧ win0_5.index t = ![0, 0] := by
  decide +kernel

/-- Window 0's block: rows of the activations. -/
theorem blk0 (c : Dev nD) (t : Fin cfg0.N) (i : Fin 256) (n : Fin 1024) (R : Fin 256) (hR : R.val = (grid0.coords t 0).val * 256 + i.val) :
    iblk m c 0 t (ix2 i n) = m ((c : Thread nD τ).loc main_arg0) (ix3 (seq R) (pos R) n) := by
  obtain ⟨h, -⟩ := idx t
  refine Eq.trans ?_ (Tables.host33 m c R n)
  unfold iblk
  generalize V m c = W
  blk_ext [h, hR]

/-- Window 1's block: the kernel's columns, whole. -/
theorem blk1 (c : Dev nD) (t : Fin cfg0.N) (k : Fin 1024) (n : Fin 7040) :
    iblk m c 1 t (ix2 k n) = (V m c main_v59 : FVec Ideal S1024x7040 .bf16) (ix2 k n) := by
  obtain ⟨-, h, -⟩ := idx t
  unfold iblk
  generalize V m c = W
  blk_ext [h]

/-- Window 4's block: the gain. -/
theorem blk4 (c : Dev nD) (t : Fin cfg0.N) (n : Fin 128) (hn : n.val < 64) :
    iblk m c 4 t (ix2 0 n) = m ((c : Thread nD τ).loc main_arg2) (ix1 ⟨n.val, hn⟩) := by
  obtain ⟨-, -, -, -, h, -⟩ := idx t
  refine Eq.trans ?_ (Tables.host1 m c n hn)
  unfold iblk
  generalize V m c = W
  blk_ext [h]

/-- Window 5's block: the bias. -/
theorem blk5 (c : Dev nD) (t : Fin cfg0.N) (n : Fin 128) (hn : n.val < 64) :
    iblk m c 5 t (ix2 0 n) = m ((c : Thread nD τ).loc main_arg3) (ix1 ⟨n.val, hn⟩) := by
  obtain ⟨-, -, -, -, -, h⟩ := idx t
  refine Eq.trans ?_ (Tables.host3 m c n hn)
  unfold iblk
  generalize V m c = W
  blk_ext [h]

end Cert.ProjSampleIdeal.Blocks

end
-- ==== Proof.ProjSample.Rows.lean ====
/-
  What the projection kernel's call for the sample computes for a row, in terms of its arguments.
-/
module

public import Idealize.ShloMosaic.Lib.Pipeline.ValueKit
public import proofs.«01_k».proof.Proof.Gen.ProjSampleIdeal.Frame
public import proofs.«01_k».proof.Proof.ProjSample.Left
public import proofs.«01_k».proof.Proof.ProjSample.Blocks

@[expose] public section

set_option maxRecDepth 16384

noncomputable section

namespace Cert.ProjSampleIdeal.Rows

open Cert.ProjRow (C mean layerNorm)
open Cert.ProjSampleIdeal Cert.ProjSampleIdeal.Gen Cert.ProjSampleRow Idealize.ShloMosaic Idealize.ShloMosaic.TcCoe Idealize.SL.Sem

variable (m : (ℓ : Loc nD τ sig) → Buf (Elt Ideal) ℓ) (ρ : Dev nD → PrngReg)

/-- The activations. -/
abbrev X (c : Dev nD) : (⟨3, ![8, 32, 1024]⟩ : Shape).Idx → EReal := m ((c : Thread nD τ).loc main_arg0)
/-- The input projection. -/
abbrev W (c : Dev nD) : (⟨2, ![1024, 6980]⟩ : Shape).Idx → EReal := m ((c : Thread nD τ).loc main_arg1)

/-- The cast of the activations is the identity. -/
theorem pay1_eq (v : Vec Ideal S256x1024 .f32) : k0_pay1 (F := Ideal) v = v := by
  funext y
  idx_vars y
  pointwise! [k0_pay1]

/-- The loaded columns at an index. -/
theorem part_apply (c : Dev nD) (t : Fin cfg0.N) {off N : ℕ} (inb : ∀ a : Fin 2, (![0, off] : Fin 2 → ℕ) a + (![1024, N] : Fin 2 → ℕ) a ≤ S1024x7040.size a)
    (k : Fin 1024) (n : Fin N) (n' : Fin 7040) (h : n'.val = off + n.val) :
    Left.part m c t off N inb (ix2 k n) = (V m c main_v59 : FVec Ideal S1024x7040 .bf16) (ix2 k n') := by
  rw [← Blocks.blk1 m c t k n']
  refine congrArg (iblk m c 1 t) (funext fun a => Fin.ext ?_)
  match a with
  | ⟨0, _⟩ => exact (Nat.zero_add _).trans (Nat.one_mul _)
  | ⟨1, _⟩ => exact (congrArg (off + ·) (Nat.one_mul _)).trans h.symm

/-- A row of the activations times a loaded column: `col` of the column that it is. -/
theorem sum_cols {N : ℕ} (x : (⟨3, ![8, 32, 1024]⟩ : Shape).Idx → EReal) (w : (⟨2, ![1024, 6980]⟩ : Shape).Idx → EReal) (R : Fin 256) (j : Fin 6980)
    (B : FVec Ideal S256x1024 .f32) (P : FVec Ideal ⟨2, ![1024, N]⟩ .bf16) (i : Fin 256) (n : Fin N)
    (hB : ∀ k, B (ix2 i k) = x (ix3 (seq R) (pos R) k)) (hP : ∀ k, P (ix2 k n) = w (ix2 k j)) :
    ∑ k : Fin 1024, B (ix2 i k) * P (ix2 k n) = col x w R j := by
  unfold col
  exact Finset.sum_congr rfl fun k _ => by rw [hB, hP]

/-- A loaded column among the first 1860 of the kernel's. -/
theorem head_part (c : Dev nD) (t : Fin cfg0.N) {off N : ℕ} (inb : ∀ a : Fin 2, (![0, off] : Fin 2 → ℕ) a + (![1024, N] : Fin 2 → ℕ) a ≤ S1024x7040.size a)
    (n : Fin N) (j : Fin 6980) (hj : j.val = off + n.val) (hlt : off + n.val < 1860) (k : Fin 1024) :
    Left.part m c t off N inb (ix2 k n) = W m c (ix2 k j) :=
  (part_apply m c t inb k n ⟨off + n.val, by omega⟩ rfl).trans
    ((Weights.head m c k _ hlt).trans (Weights.at_col _ k _ _ hj.symm))

/-- `layerNorm` of equal vectors. -/
theorem norm_congr {v v' g g' b b' : Fin 64 → EReal} (j : Fin 64) (hv : v = v') (hg : g = g') (hb : b = b') : layerNorm v g b j = layerNorm v' g' b' j := by
  rw [hv, hg, hb]

section
variable (x : (⟨3, ![8, 32, 1024]⟩ : Shape).Idx → EReal) (w : (⟨2, ![1024, 6980]⟩ : Shape).Idx → EReal) (R : Fin 256)
  (B : FVec Ideal S256x1024 .f32) (i : Fin 256) (hB : ∀ k, B (ix2 i k) = x (ix3 (seq R) (pos R) k))
include hB

/-- The keys likewise. -/
theorem of7 (P : FVec Ideal S1024x512 .bf16) (h : Fin 8) (d : Fin 64) (hP : ∀ k, P (ix2 k ⟨h.val * 64 + d.val, by omega⟩) = w (ix2 k ⟨512 + (h.val * 64 + d.val), by omega⟩)) :
    k0_pay4 (F := Ideal) B P (ix3 i h d) = heads x w 512 (by omega) (ix3 R h d) :=
  (Block.pay4_apply B P i h d).trans (sum_cols x w R _ B P i _ hB hP)

/-- The values likewise. -/
theorem of9 (P : FVec Ideal S1024x512 .bf16) (h : Fin 8) (d : Fin 64) (hP : ∀ k, P (ix2 k ⟨h.val * 64 + d.val, by omega⟩) = w (ix2 k ⟨1024 + (h.val * 64 + d.val), by omega⟩)) :
    k0_pay7 (F := Ideal) B P (ix3 i h d) = heads x w 1024 (by omega) (ix3 R h d) :=
  (Block.pay7_apply B P i h d).trans (sum_cols x w R _ B P i _ hB hP)

/-- A row's index key and weights, before the normalisation. -/
theorem of30 (P : FVec Ideal S1024x128 .bf16) (l : Fin 128)
    (hP : ∀ k, P (ix2 k l) = if h : l.val < 68 then w (ix2 k ⟨1792 + l.val, by omega⟩) else 0) :
    (k0_pay11 (F := Ideal) (k0_pay1 B) P (ix2 i l) : EReal) = if h : l.val < 68 then col x w R ⟨1792 + l.val, by omega⟩ else 0 := by
  rw [pay1_eq]
  refine (Block.pay11_apply B P i l).trans ?_
  by_cases h : l.val < 68
  · rw [dif_pos h]
    exact sum_cols x w R _ B P i l hB fun k => (hP k).trans (dif_pos h)
  · rw [dif_neg h]
    refine Finset.sum_eq_zero fun k _ => ?_
    rw [hP k, dif_neg h]
    exact mul_zero _

/-- The normalised index key. -/
theorem of12 (P : FVec Ideal S1024x128 .bf16) (g b : FVec Ideal S1x128 .f32) (g' b' : (⟨1, ![64]⟩ : Shape).Idx → EReal) (j : Fin 64)
    (hP : ∀ l k, P (ix2 k l) = if h : l.val < 68 then w (ix2 k ⟨1792 + l.val, by omega⟩) else 0)
    (hg : ∀ n : Fin 64, g (ix2 0 ⟨n.val, by omega⟩) = g' (ix1 n)) (hb : ∀ n : Fin 64, b (ix2 0 ⟨n.val, by omega⟩) = b' (ix1 n)) :
    k0_pay13 (F := Ideal) (k0_pay1 B) P g b (ix2 i j) = idxKeys x w g' b' (ix2 R j) := by
  have e0 : (fun n : Fin 64 => (k0_pay11 (F := Ideal) (k0_pay1 B) P (ix2 i ⟨n.val, by omega⟩) : EReal))
      = fun n : Fin 64 => col x w R ⟨1792 + n.val, by omega⟩ :=
    funext fun n => (of30 x w R B i hB P ⟨n.val, by omega⟩ (hP _)).trans (dif_pos (show n.val < 68 by omega))
  have q := Block.pay13_apply (k0_pay1 (F := Ideal) B) P g b i j
  have q' := norm_congr j e0 (funext hg) (funext hb)
  have u : idxKeys x w g' b' (ix2 R j) = layerNorm (fun n : Fin 64 => col x w R ⟨1792 + n.val, by omega⟩) (fun n => g' (ix1 n)) (fun n => b' (ix1 n)) j := by
    unfold idxKeys idxKey C
    rfl
  rw [u]
  exact q.trans q'

end

variable (c : Dev nD) (t : Fin cfg0.N)

/-- The loaded index columns. -/
theorem kw_part (l : Fin 128) (k : Fin 1024) : Left.part m c t 1792 128 inb_S1024x7040_S1024x128_0_1792 (ix2 k l)
    = if h : l.val < 68 then W m c (ix2 k ⟨1792 + l.val, by omega⟩) else 0 := by
  by_cases h : l.val < 68
  · rw [dif_pos h]
    exact head_part m c t inb_S1024x7040_S1024x128_0_1792 l _ rfl (by omega) k
  · rw [dif_neg h]
    refine ((part_apply m c t inb_S1024x7040_S1024x128_0_1792 k l ⟨1792 + l.val, by omega⟩ rfl).trans
      (Weights.padding m c k _ (by dsimp only; omega) (by dsimp only; omega))).trans ?_
    show (((0#32 : BitVec 32).toInt : ℝ) : EReal) = 0
    simp

variable (i : Fin 256) (R : Fin 256) (hR : R.val = (grid0.coords t 0).val * 256 + i.val)
include hR

/-- What the body leaves of the keys, at a row. -/
theorem row7 (h : Fin 8) (d : Fin 64) : (dats m 0 c).after 7 t (ix3 i h d) = heads (X m c) (W m c) 512 (by omega) (ix3 R h d) :=
  (congrFun (Left.left7 m c t) _).trans (of7 (X m c) (W m c) R _ i (fun k => Blocks.blk0 m c t i k R hR) _ h d (head_part m c t inb_S1024x7040_S1024x512_0_512 _ _ rfl (by dsimp only; omega)))

/-- What the body leaves of the values, at a row. -/
theorem row9 (h : Fin 8) (d : Fin 64) : (dats m 0 c).after 9 t (ix3 i h d) = heads (X m c) (W m c) 1024 (by omega) (ix3 R h d) :=
  (congrFun (Left.left9 m c t) _).trans (of9 (X m c) (W m c) R _ i (fun k => Blocks.blk0 m c t i k R hR) _ h d (head_part m c t inb_S1024x7040_S1024x512_0_1024 _ _ rfl (by dsimp only; omega)))

/-- What the body leaves of the index keys, at a row. -/
theorem row12 (j : Fin 64) : (dats m 0 c).after 12 t (ix2 i j) = idxKeys (X m c) (W m c) (m ((c : Thread nD τ).loc main_arg2)) (m ((c : Thread nD τ).loc main_arg3)) (ix2 R j) :=
  (congrFun (Left.left12 m c t) _).trans (of12 (X m c) (W m c) R _ i (fun k => Blocks.blk0 m c t i k R hR) _ _ _ _ _ j (kw_part m c t) (fun n => Blocks.blk4 m c t _ n.isLt) (fun n => Blocks.blk5 m c t _ n.isLt))

end Cert.ProjSampleIdeal.Rows

end
-- ==== Proof.ProjSample.Array.lean ====
/-
  What the projection kernel's call for the sample's result arrays hold after the run, in terms of its arguments.
-/
module

public import Idealize.ShloMosaic.Lib.Pipeline.ValueKit
public import proofs.«01_k».proof.Proof.Gen.ProjSampleIdeal.Frame
public import proofs.«01_k».proof.Proof.ProjSample.Rows

@[expose] public section

set_option maxRecDepth 16384

noncomputable section

namespace Cert.ProjSampleIdeal.Array

open Cert.ProjRow (C mean layerNorm)
open Cert.ProjSampleIdeal Cert.ProjSampleIdeal.Rows Cert.ProjSampleIdeal.Gen Cert.ProjSampleRow Idealize.ShloMosaic Idealize.ShloMosaic.TcCoe Idealize.SL.Sem

variable (m : (ℓ : Loc nD τ sig) → Buf (Elt Ideal) ℓ) (ρ : Dev nD → PrngReg)

/-- Each output window's block index at a grid point. -/
theorem idx : ∀ t : Fin grid0.N, win0_6.index t = ![(grid0.coords t 0).val, 0] ∧ win0_7.index t = ![(grid0.coords t 0).val, 0, 0]
    ∧ win0_9.index t = ![(grid0.coords t 0).val, 0, 0] ∧ win0_11.index t = ![(grid0.coords t 0).val, 0]
    ∧ win0_12.index t = ![(grid0.coords t 0).val, 0] ∧ win0_14.index t = ![(grid0.coords t 0).val, 0]
    ∧ win0_15.index t = ![(grid0.coords t 0).val, 0] ∧ win0_16.index t = ![(grid0.coords t 0).val, 0]
    ∧ win0_17.index t = ![(grid0.coords t 0).val, 0] ∧ win0_18.index t = ![(grid0.coords t 0).val, 0]
    ∧ win0_19.index t = ![(grid0.coords t 0).val, 0] ∧ win0_20.index t = ![(grid0.coords t 0).val, 0] := by
  decide +kernel

/-- The attention's keys. -/
theorem final7 (c : Dev nD) : (dats m 0 c).arrAt 7 cfg0.N = (heads (X m c) (W m c) 512 (by omega) : FVec Ideal S256x8x64 .f32) := by
  refine (dats m 0 c).arrAt_eq_of_covers 7 _ (by decide +kernel) fun t hf y => ?_
  have h := (idx t).2.1
  have hY : ∀ y : S256x8x64.Idx, ∃ R : Fin 256, R.val = (grid0.coords t 0).val * 256 + (y 0).val ∧
      (((cfg0.win 7).blk t).view.emb y : S256x8x64.Idx) = ix3 R (y 1) (y 2) := by
    intro y
    refine ⟨(((cfg0.win 7).blk t).view.emb y : S256x8x64.Idx) 0, by blk_simp [h], funext fun a => ?_⟩
    match a with
    | ⟨0, _⟩ => rfl
    | ⟨1, _⟩ => exact Fin.ext (by blk_simp [h]; rfl)
    | ⟨2, _⟩ => exact Fin.ext (by blk_simp [h]; rfl)
  obtain ⟨R, hR, e⟩ := hY y
  rw [e]
  idx_vars y
  exact row7 m c t _ R hR _ _

/-- The attention's values. -/
theorem final9 (c : Dev nD) : (dats m 0 c).arrAt 9 cfg0.N = (heads (X m c) (W m c) 1024 (by omega) : FVec Ideal S256x8x64 .f32) := by
  refine (dats m 0 c).arrAt_eq_of_covers 9 _ (by decide +kernel) fun t hf y => ?_
  have h := (idx t).2.2.1
  have hY : ∀ y : S256x8x64.Idx, ∃ R : Fin 256, R.val = (grid0.coords t 0).val * 256 + (y 0).val ∧
      (((cfg0.win 9).blk t).view.emb y : S256x8x64.Idx) = ix3 R (y 1) (y 2) := by
    intro y
    refine ⟨(((cfg0.win 9).blk t).view.emb y : S256x8x64.Idx) 0, by blk_simp [h], funext fun a => ?_⟩
    match a with
    | ⟨0, _⟩ => rfl
    | ⟨1, _⟩ => exact Fin.ext (by blk_simp [h]; rfl)
    | ⟨2, _⟩ => exact Fin.ext (by blk_simp [h]; rfl)
  obtain ⟨R, hR, e⟩ := hY y
  rw [e]
  idx_vars y
  exact row9 m c t _ R hR _ _

/-- The index keys. -/
theorem final12 (c : Dev nD) : (dats m 0 c).arrAt 12 cfg0.N = (idxKeys (X m c) (W m c) (m ((c : Thread nD τ).loc main_arg2)) (m ((c : Thread nD τ).loc main_arg3)) : FVec Ideal S256x64 .f32) := by
  refine (dats m 0 c).arrAt_eq_of_covers 12 _ (by decide +kernel) fun t hf y => ?_
  have h := (idx t).2.2.2.2.1
  have hY : ∀ y : S256x64.Idx, ∃ R : Fin 256, R.val = (grid0.coords t 0).val * 256 + (y 0).val ∧
      (((cfg0.win 12).blk t).view.emb y : S256x64.Idx) = ix2 R (y 1) := by
    intro y
    refine ⟨(((cfg0.win 12).blk t).view.emb y : S256x64.Idx) 0, by blk_simp [h], funext fun a => ?_⟩
    match a with
    | ⟨0, _⟩ => rfl
    | ⟨1, _⟩ => exact Fin.ext (by blk_simp [h]; rfl)
  obtain ⟨R, hR, e⟩ := hY y
  rw [e]
  idx_vars y
  exact row12 m c t _ R hR _

end Cert.ProjSampleIdeal.Array

end
-- ==== Proof.ProjSample.Reference.lean ====
/-
  What the projection reference computes, row by row: the functions of Row of its arguments.
-/
module

public import proofs.«01_k».proof.Proof.Gen.ProjSampleRefIdeal.Run
public import proofs.«01_k».proof.Proof.ProjSample.Row
public import Idealize.ShloMosaic.Lib.Claim
public import Idealize.ShloMosaic.Lib.Tactic.CleanTypes

@[expose] public section

set_option maxRecDepth 16384

noncomputable section

namespace Cert.ProjSampleRefIdeal.Rows

open Cert.ProjRow (C mean layerNorm)
open Cert.ProjSampleRefIdeal Cert.ProjSampleRefIdeal.Gen Cert.ProjSampleRefIdeal.Value Cert.ProjSampleRow Idealize.ShloMosaic Idealize.ShloMosaic.TcCoe Idealize.ShloMosaic.StableHlo Idealize.SL.Sem

variable (m : (ℓ : Loc nD τ sig) → Buf (Elt Ideal) ℓ) (c : Dev nD)

/-- The activations. -/
abbrev X : FVec Ideal S8x32x1024 .f32 := m ((c.tc : Thread nD τ).loc main_arg0)
/-- The input projection. -/
abbrev W : FVec Ideal S1024x6980 .f32 := m ((c.tc : Thread nD τ).loc main_arg1)

/-- The product that every result is taken from. -/
def P : FVec Ideal S8x32x6980 .f32 := Host.dotGeneral (F := Ideal) dot_S8x32x1024_S1024x6980_S8x32x6980_2_0_01_1_n_n none (X m c) (W m c)

/-- The product at an index. -/
theorem P_apply (b : Fin 8) (s : Fin 32) (j : Fin 6980) : P m c (ix3 b s j) = ∑ k : Fin 1024, X m c (ix3 b s k) * W m c (ix2 k j) := by
  pointwise! [P]

/-- The product at a row. -/
theorem P_row (R : Fin 256) (j : Fin 6980) : P m c (ix3 (seq R) (pos R) j) = col (X m c) (W m c) R j := P_apply m c _ _ j

/-- The attention's keys. -/
theorem out7 : (shapeCast _ (extractStridedSlice S8x32x512 ![0, 0, 512] (P m c) slices_S8x32x6980_S8x32x512_0_0_512) shapeCasts_S8x32x512_S256x8x64 : FVec Ideal S256x8x64 .f32) = heads (X m c) (W m c) 512 (by omega) := by
  funext y
  idx_vars y
  refine (?_ : _ = P m c (ix3 (seq y0) (pos y0) ⟨512 + (y1.val * 64 + y2.val), by omega⟩)).trans (P_row m c y0 _)
  generalize P m c = Q
  pointwise!

/-- The attention's values. -/
theorem out9 : (shapeCast _ (extractStridedSlice S8x32x512 ![0, 0, 1024] (P m c) slices_S8x32x6980_S8x32x512_0_0_1024) shapeCasts_S8x32x512_S256x8x64 : FVec Ideal S256x8x64 .f32) = heads (X m c) (W m c) 1024 (by omega) := by
  funext y
  idx_vars y
  refine (?_ : _ = P m c (ix3 (seq y0) (pos y0) ⟨1024 + (y1.val * 64 + y2.val), by omega⟩)).trans (P_row m c y0 _)
  generalize P m c = Q
  pointwise!

/-- The raw index keys. -/
def raw : FVec Ideal S8x32x64 .f32 := extractStridedSlice S8x32x64 ![0, 0, 1792] (P m c) slices_S8x32x6980_S8x32x64_0_0_1792

/-- Their columns. -/
theorem raw_apply (R : Fin 256) (n : Fin 64) : raw m c (ix3 (seq R) (pos R) n) = col (X m c) (W m c) R ⟨1792 + n.val, by omega⟩ := by
  refine (?_ : _ = P m c (ix3 (seq R) (pos R) ⟨1792 + n.val, by omega⟩)).trans (P_row m c R _)
  unfold raw
  generalize P m c = Q
  pointwise!

/-- The mean of the last axis. -/
def mu (v : FVec Ideal S8x32x64 .f32) : FVec Ideal S8x32x1 .f32 :=
  (Host.divf (broadcastInDim S8x32x1 ![0, 1] bcast_S8x32_S8x32x1_0_1 (Host.reduceAdd v (constant S_ .f32 0x00000000#32) reducesTo_S8x32x64_S8x32_d2 h_S_)) (broadcastInDim S8x32x1 ![] bcast_S_S8x32x1 (constant S_ .f32 0x42800000#32)))

/-- The mean at an index. -/
theorem mu_apply (v : FVec Ideal S8x32x64 .f32) (b : Fin 8) (s : Fin 32) : mu v (ix3 b s 0) = mean fun n => v (ix3 b s n) := by
  pointwise! [mu, mean]

/-- The deviation from the mean. -/
def ctr (v : FVec Ideal S8x32x64 .f32) : FVec Ideal S8x32x64 .f32 :=
  subf v (broadcastInDim S8x32x64 ![0, 1, 2] bcast_S8x32x1_S8x32x64_0_1_2 (mu v))

/-- The deviation at an index. -/
theorem ctr_apply (v : FVec Ideal S8x32x64 .f32) (b : Fin 8) (s : Fin 32) (n : Fin 64) :
    ctr v (ix3 b s n) = v (ix3 b s n) - mean fun n => v (ix3 b s n) := by
  rw [← mu_apply]
  pointwise! [ctr]

/-- The layer normalisation. -/
def norm (v : FVec Ideal S8x32x64 .f32) (g b : FVec Ideal S64 .f32) : FVec Ideal S256x64 .f32 :=
  shapeCast _ (addf (mulf (mulf (ctr v) (broadcastInDim S8x32x64 ![0, 1, 2] bcast_S8x32x1_S8x32x64_0_1_2 (Host.rsqrt (addf (mu (mulf (ctr v) (ctr v))) (broadcastInDim S8x32x1 ![] bcast_S_S8x32x1 (constant S_ .f32 0x3727C5AC#32)))))) (broadcastInDim S8x32x64 ![0, 1, 2] bcast_S1x1x64_S8x32x64_0_1_2 (broadcastInDim S1x1x64 ![2] bcast_S64_S1x1x64_2 g))) (broadcastInDim S8x32x64 ![0, 1, 2] bcast_S1x1x64_S8x32x64_0_1_2 (broadcastInDim S1x1x64 ![2] bcast_S64_S1x1x64_2 b))) shapeCasts_S8x32x64_S256x64

/-- The layer normalisation at an index. -/
theorem norm_apply (v : FVec Ideal S8x32x64 .f32) (g b : FVec Ideal S64 .f32) (R : Fin 256) (j : Fin 64) :
    norm v g b (ix2 R j) = layerNorm (fun n => v (ix3 (seq R) (pos R) n)) (fun n => g (ix1 n)) (fun n => b (ix1 n)) j := by
  have e : norm v g b (ix2 R j) = ctr v (ix3 (seq R) (pos R) j) * Ideal.rsqrt (mu (mulf (ctr v) (ctr v)) (ix3 (seq R) (pos R) 0) + Ideal.ofBits .f32 0x3727C5AC#32)
      * g (ix1 j) + b (ix1 j) := by
    unfold norm
    generalize mu (mulf (ctr v) (ctr v)) = M
    generalize ctr v = D
    pointwise!
  have d : mu (mulf (ctr v) (ctr v)) (ix3 (seq R) (pos R) 0)
      = mean fun n => (v (ix3 (seq R) (pos R) n) - mean fun n => v (ix3 (seq R) (pos R) n)) * (v (ix3 (seq R) (pos R) n) - mean fun n => v (ix3 (seq R) (pos R) n)) := by
    rw [mu_apply]
    refine congrArg mean (funext fun n => ?_)
    rw [← ctr_apply]
    rfl
  rw [e, d, ctr_apply]
  rfl

/-- The index keys. -/
theorem out12 : norm (raw m c) (m ((c.tc : Thread nD τ).loc main_arg2)) (m ((c.tc : Thread nD τ).loc main_arg3))
    = idxKeys (X m c) (W m c) (m ((c.tc : Thread nD τ).loc main_arg2)) (m ((c.tc : Thread nD τ).loc main_arg3)) := by
  funext y
  idx_vars y
  refine (norm_apply _ _ _ y0 y1).trans ?_
  rw [show (fun n => raw m c (ix3 (seq y0) (pos y0) n)) = fun n : Fin 64 => col (X m c) (W m c) y0 (C (1792 + n.val) (by omega)) from funext fun n => raw_apply m c y0 n]
  rfl

end Cert.ProjSampleRefIdeal.Rows

end
-- ==== Proof.ProjSample.Claims.lean ====
/-
  The claims about the projection of the sample: its frames, and that kernel and reference return the same keys, values and index keys.
-/
module

public import proofs.«01_k».proof.Defs
public import proofs.«01_k».proof.Proof.Gen.ProjSample.Frame
public import proofs.«01_k».proof.Proof.ProjSample.Run
public import proofs.«01_k».proof.Proof.ProjSample.Array
public import proofs.«01_k».proof.Proof.ProjSample.Reference

@[expose] public section

set_option maxRecDepth 16384

noncomputable section

namespace Cert.Proof.ProjSampleClaims

open Idealize.ShloMosaic Idealize.SL.Sem

/-- The kernel runs safely, terminates and leaves its arguments and counters as they were, over bits. -/
theorem frameP : Cert.quiescent_ProjSample := fun m ρ _ => Cert.ProjSample.Gen.frame m ρ
/-- The same over the extended reals. -/
theorem framePI : Cert.quiescent_ProjSampleIdeal := fun m ρ _ => Cert.ProjSampleIdeal.Gen.frame m ρ
/-- The reference runs, terminates and leaves its arguments as they were. -/
theorem frameRI : Cert.quiescent_ProjSampleRefIdeal := fun m ρ _ =>
  (θ_run Cert.ProjSampleRefIdeal.defs _ _).mono (fun r h => ⟨fun c => (h c).2.2.2, sem_eq_zero_of_no_sems (by decide) r.2⟩)
    (Cert.ProjSampleRefIdeal.Value.run (F := Ideal) m ρ)
/-- The program over the extended reals is the program over bits, operation by operation. -/
theorem preserves : Cert.preserves_ProjSample_ProjSampleIdeal := trivial

set_option maxHeartbeats 2000000 in
open Cert.ProjSampleRow in
/-- Over the extended reals the projection kernel, called for the sample, returns exactly the keys, values and index keys that its reference returns. -/
theorem algebraic : Cert.algebraic_ProjSampleIdeal_ProjSampleRefIdeal := by
  intro m ρ m' ρ' _ hagree
  let X := Cert.ProjSampleIdeal.Rows.X m
  let W := Cert.ProjSampleIdeal.Rows.W m
  let G := fun c : Dev Cert.ProjSampleIdeal.nD => m ((c.tc : Thread Cert.ProjSampleIdeal.nD Cert.ProjSampleIdeal.τ).loc Cert.ProjSampleIdeal.main_arg2)
  let B := fun c : Dev Cert.ProjSampleIdeal.nD => m ((c.tc : Thread Cert.ProjSampleIdeal.nD Cert.ProjSampleIdeal.τ).loc Cert.ProjSampleIdeal.main_arg3)
  refine ⟨fun c => heads (X c) (W c) 512 (by omega), fun c => heads (X c) (W c) 1024 (by omega), fun c => idxKeys (X c) (W c) (G c) (B c), ?_, ?_⟩
  · refine (θ_run Cert.ProjSampleIdeal.defs _ _).mono (fun _ h c => ?_) (Cert.ProjSampleIdeal.Runs.results m ρ)
    obtain ⟨⟨h7, h9, h12⟩, hk⟩ := h c
    exact ⟨h7.trans (Cert.ProjSampleIdeal.Array.final7 m c), h9.trans (Cert.ProjSampleIdeal.Array.final9 m c), h12.trans (Cert.ProjSampleIdeal.Array.final12 m c), hk⟩
  refine (θ_run Cert.ProjSampleRefIdeal.defs _ _).mono (fun _ h c => ?_) (Cert.ProjSampleRefIdeal.Value.run (F := Ideal) m' ρ')
  obtain ⟨a0, a1, a2, a3⟩ := hagree c
  have ex : X c = Cert.ProjSampleRefIdeal.Rows.X m' c := a0.symm
  have ew : W c = Cert.ProjSampleRefIdeal.Rows.W m' c := a1.symm
  have eg : G c = m' ((c.tc : Thread Cert.ProjSampleRefIdeal.nD Cert.ProjSampleRefIdeal.τ).loc Cert.ProjSampleRefIdeal.main_arg2) := a2.symm
  have eb : B c = m' ((c.tc : Thread Cert.ProjSampleRefIdeal.nD Cert.ProjSampleRefIdeal.τ).loc Cert.ProjSampleRefIdeal.main_arg3) := a3.symm
  obtain ⟨h7, h9, h12, hk⟩ := h c
  beta_reduce
  rw [ex, ew, eg, eb]
  exact ⟨h7.trans (Cert.ProjSampleRefIdeal.Rows.out7 m' c), h9.trans (Cert.ProjSampleRefIdeal.Rows.out9 m' c), h12.trans (Cert.ProjSampleRefIdeal.Rows.out12 m' c), hk⟩

end Cert.Proof.ProjSampleClaims

end
-- ==== Proof.lean ====
module

public import proofs.«01_k».proof.Defs
public import proofs.«01_k».proof.Proof.Gen.Retention
public import proofs.«01_k».proof.Proof.Gen.Retention.Skeleton
public import proofs.«01_k».proof.Proof.Gen.Retention.Launch
public import proofs.«01_k».proof.Proof.Gen.Retention.Points
public import proofs.«01_k».proof.Proof.Gen.Retention.Frame
public import proofs.«01_k».proof.Proof.Gen.RetentionIdeal
public import proofs.«01_k».proof.Proof.Gen.RetentionIdeal.Skeleton
public import proofs.«01_k».proof.Proof.Gen.RetentionIdeal.Launch
public import proofs.«01_k».proof.Proof.Gen.RetentionIdeal.Points
public import proofs.«01_k».proof.Proof.Gen.RetentionIdeal.Frame
public import proofs.«01_k».proof.Proof.Gen.RetentionRefIdeal
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.FinishIdeal.Value
public import proofs.«01_k».proof.Proof.Gen.FinishRefIdeal.Run
public import proofs.«01_k».proof.Proof.Gen.ProjIdeal.Value
public import proofs.«01_k».proof.Proof.Gen.ProjRefIdeal.Run
public import proofs.«01_k».proof.Proof.Gen.RetentionRefIdeal.Run
public import proofs.«01_k».proof.Proof.Gen.FinishSample
public import proofs.«01_k».proof.Proof.Gen.FinishSample.Skeleton
public import proofs.«01_k».proof.Proof.Gen.FinishSample.Launch
public import proofs.«01_k».proof.Proof.Gen.FinishSample.Points
public import proofs.«01_k».proof.Proof.Gen.FinishSample.Frame
public import proofs.«01_k».proof.Proof.Gen.FinishSampleIdeal
public import proofs.«01_k».proof.Proof.Gen.FinishSampleIdeal.Skeleton
public import proofs.«01_k».proof.Proof.Gen.FinishSampleIdeal.Launch
public import proofs.«01_k».proof.Proof.Gen.FinishSampleIdeal.Points
public import proofs.«01_k».proof.Proof.Gen.FinishSampleIdeal.Frame
public import proofs.«01_k».proof.Proof.Gen.FinishSampleRefIdeal
public import proofs.«01_k».proof.Proof.Gen.ProjSample
public import proofs.«01_k».proof.Proof.Gen.ProjSample.Skeleton
public import proofs.«01_k».proof.Proof.Gen.ProjSample.Launch
public import proofs.«01_k».proof.Proof.Gen.ProjSample.Points
public import proofs.«01_k».proof.Proof.Gen.ProjSample.Frame
public import proofs.«01_k».proof.Proof.Gen.ProjSampleIdeal
public import proofs.«01_k».proof.Proof.Gen.ProjSampleIdeal.Skeleton
public import proofs.«01_k».proof.Proof.Gen.ProjSampleIdeal.Launch
public import proofs.«01_k».proof.Proof.Gen.ProjSampleIdeal.Points
public import proofs.«01_k».proof.Proof.Gen.ProjSampleIdeal.Frame
public import proofs.«01_k».proof.Proof.Gen.ProjSampleRefIdeal
public import proofs.«01_k».proof.Proof.Gen.FinishSampleIdeal.Value
public import proofs.«01_k».proof.Proof.Gen.FinishSampleRefIdeal.Run
public import proofs.«01_k».proof.Proof.Gen.ProjSampleRefIdeal.Run
public import proofs.«01_k».proof.Proof.Finish.Claims
public import proofs.«01_k».proof.Proof.Retention.Frames
public import proofs.«01_k».proof.Proof.Proj.Claims
public import proofs.«01_k».proof.Proof.FinishSample.Claims
public import proofs.«01_k».proof.Proof.ProjSample.Claims
public import Idealize.ShloMosaic.Adequacy
public import Idealize.ShloMosaic.Init

@[expose] public section

noncomputable section

namespace Cert.Proof

open Idealize.ShloMosaic Idealize.SL.Sem Cert.Retention

/-- Every claim of the directory. -/
theorem claim : Cert.Claim := ⟨Cert.Retention.Gen.facts, Cert.RetentionIdeal.Gen.facts, Cert.RetentionRefIdeal.Gen.facts, Cert.Finish.Gen.facts, Cert.FinishIdeal.Gen.facts, Cert.FinishRefIdeal.Gen.facts,
  Cert.Proj.Gen.facts, Cert.ProjIdeal.Gen.facts, Cert.ProjRefIdeal.Gen.facts,
  Cert.FinishSample.Gen.facts, Cert.FinishSampleIdeal.Gen.facts, Cert.FinishSampleRefIdeal.Gen.facts,
  Cert.ProjSample.Gen.facts, Cert.ProjSampleIdeal.Gen.facts, Cert.ProjSampleRefIdeal.Gen.facts,
  RetentionClaims.frameP, RetentionClaims.framePI, RetentionClaims.frameRI, FinishClaims.frameP, FinishClaims.framePI, FinishClaims.frameRI,
  ProjClaims.frameP, ProjClaims.framePI, ProjClaims.frameRI,
  FinishSampleClaims.frameP, FinishSampleClaims.framePI, FinishSampleClaims.frameRI,
  ProjSampleClaims.frameP, ProjSampleClaims.framePI, ProjSampleClaims.frameRI,
  RetentionClaims.preserves, FinishClaims.preserves, FinishClaims.algebraic,
  ProjClaims.preserves, ProjClaims.algebraic,
  FinishSampleClaims.preserves, FinishSampleClaims.algebraic,
  ProjSampleClaims.preserves, ProjSampleClaims.algebraic⟩

end Cert.Proof

end
